-- ==== Defs.lean ====
def Pre_Kernel [hPre_rows_ok : Cert.Pre_rows_ok.Facts] (m : (ℓ : Loc Cert.Kernel.nD Cert.Kernel.τ Cert.Kernel.sig) → Buf (Elt Bits) ℓ) : Prop :=
  ∀ c : Dev Cert.Kernel.nD,
    (Cert.Pre_rows_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_rows_ok : Cert.Pre_rows_ok.Facts] (m : (ℓ : Loc Cert.KernelIdeal.nD Cert.KernelIdeal.τ Cert.KernelIdeal.sig) → Buf (Elt Ideal) ℓ) : Prop :=
  ∀ c : Dev Cert.KernelIdeal.nD,
    (Cert.Pre_rows_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_rows_ok : Cert.Pre_rows_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_rows_ok : Cert.Pre_rows_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "neg_inf" .f32 0xFF7F0000#32 ⊥

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v58) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_rows_ok : Cert.Pre_rows_ok.Facts) (hPre_inputs_ok : Cert.Pre_inputs_ok.Facts),
    quiescent_Kernel (hKernel := hKernel) (hPre_rows_ok := hPre_rows_ok)
    ∧ quiescent_KernelIdeal (hKernelIdeal := hKernelIdeal) (hPre_rows_ok := hPre_rows_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S256x256x16x32 : Shape := ⟨4, ![256, 256, 16, 32]⟩
abbrev S256 : Shape := ⟨1, ![256]⟩
abbrev S256x32 : Shape := ⟨2, ![256, 32]⟩
abbrev S256x16x32 : Shape := ⟨3, ![256, 16, 32]⟩
abbrev S100000x16x32 : Shape := ⟨3, ![100000, 16, 32]⟩
abbrev S_ : Shape := ⟨0, ![]⟩
abbrev S256x1 : Shape := ⟨2, ![256, 1]⟩
abbrev S1x256 : Shape := ⟨2, ![1, 256]⟩
abbrev S256x256 : Shape := ⟨2, ![256, 256]⟩

class Facts : Prop where
  bcast_S_S256 : S_.BroadcastsInDim S256 (![] : Fin 0 → Fin S256.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  reducesTo_S256_S_d0 : S256.ReducesTo [0] S_
  h_S_ : 0 < S_.numel
  reducesTo_S256x256_S_d0_1 : S256x256.ReducesTo [0, 1] S_
  bcast_S_S256x256x16x32 : S_.BroadcastsInDim S256x256x16x32 (![] : Fin 0 → Fin S256x256x16x32.rank)
  reducesTo_S256x256x16x32_S_d0_1_2_3 : S256x256x16x32.ReducesTo [0, 1, 2, 3] S_
  bcast_S_S100000x16x32 : S_.BroadcastsInDim S100000x16x32 (![] : Fin 0 → Fin S100000x16x32.rank)
  reducesTo_S100000x16x32_S_d0_1_2 : S100000x16x32.ReducesTo [0, 1, 2] S_

variable [Facts]

def fn_part1 {F : FTy → Type} [FloatOps F] (main_arg4 : FVec F S100000x16x32 .f32) (main_v16 : IVec S_ 1) (main_v17 : FVec F S256x256x16x32 .f32) (main_v18 : FVec F S256x256x16x32 .f32) : IVec S_ 1 :=
  let main_v19 : IVec S256x256x16x32 1 := cmpf .olt main_v17 main_v18
  let main_c_3 : IVec S_ 1 := constantI S_ 1 1#1
  let main_v20 : IVec S_ 1 := (fun x v => Host.reduce IntOp.andi x v reducesTo_S256x256x16x32_S_d0_1_2_3 h_S_) main_v19 main_c_3
  let main_v21 : IVec S_ 1 := andi main_v16 main_v20
  let main_v22 : FVec F S100000x16x32 .f32 := Host.absf main_arg4
  let main_cst_4 : FVec F S_ .f32 := constant S_ .f32 0x7F800000#32
  let main_v23 : FVec F S100000x16x32 .f32 := broadcastInDim S100000x16x32 ![] bcast_S_S100000x16x32 main_cst_4
  let main_v24 : IVec S100000x16x32 1 := cmpf .olt main_v22 main_v23
  let main_c_5 : IVec S_ 1 := constantI S_ 1 1#1
  let main_v25 : IVec S_ 1 := (fun x v => Host.reduce IntOp.andi x v reducesTo_S100000x16x32_S_d0_1_2 h_S_) main_v24 main_c_5
  let main_v26 : IVec S_ 1 := andi main_v21 main_v25
  main_v26

def fn {F : FTy → Type} [FloatOps F] (main_arg0 : FVec F S256x256x16x32 .f32) (main_arg1 : IVec S256 32) (main_arg2 : IVec S256x32 32) (main_arg3 : IVec S256x16x32 1) (main_arg4 : FVec F S100000x16x32 .f32) : IVec S_ 1 :=
  let main_c : IVec S_ 32 := constantI S_ 32 0#32
  let main_v0 : IVec S256 32 := broadcastInDim S256 ![] bcast_S_S256 main_c
  let main_v1 : IVec S256 1 := cmpi .sge main_arg1 main_v0
  let main_c_0 : IVec S_ 32 := constantI S_ 32 100000#32
  let main_v2 : IVec S256 32 := broadcastInDim S256 ![] bcast_S_S256 main_c_0
  let main_v3 : IVec S256 1 := cmpi .slt main_arg1 main_v2
  let main_v4 : IVec S256 1 := andi main_v1 main_v3
  let main_v5 : IVec S256x1 32 := broadcastInDim S256x1 ![0] bcast_S256_S256x1_0 main_arg1
  let main_v6 : IVec S1x256 32 := broadcastInDim S1x256 ![1] bcast_S256_S1x256_1 main_arg1
  let main_v7 : IVec S256x256 32 := broadcastInDim S256x256 ![0, 1] bcast_S256x1_S256x256_0_1 main_v5
  let main_v8 : IVec S256x256 32 := broadcastInDim S256x256 ![0, 1] bcast_S1x256_S256x256_0_1 main_v6
  let main_v9 : IVec S256x256 1 := cmpi .eq main_v7 main_v8
  let main_v10 : IVec S256x256 32 := iotaInDim S256x256 32 0
  let main_v11 : IVec S256x256 32 := iotaInDim S256x256 32 1
  let main_v12 : IVec S256x256 1 := cmpi .eq main_v10 main_v11
  let main_c_1 : IVec S_ 1 := constantI S_ 1 1#1
  let main_v13 : IVec S_ 1 := (fun x v => Host.reduce IntOp.andi x v reducesTo_S256_S_d0 h_S_) main_v4 main_c_1
  let main_v14 : IVec S256x256 1 := cmpi .eq main_v9 main_v12
  let main_c_2 : IVec S_ 1 := constantI S_ 1 1#1
  let main_v15 : IVec S_ 1 := (fun x v => Host.reduce IntOp.andi x v reducesTo_S256x256_S_d0_1 h_S_) main_v14 main_c_2
  let main_v16 : IVec S_ 1 := andi main_v13 main_v15
  let main_v17 : FVec F S256x256x16x32 .f32 := Host.absf main_arg0
  let main_cst : FVec F S_ .f32 := constant S_ .f32 0x7F800000#32
  let main_v18 : FVec F S256x256x16x32 .f32 := broadcastInDim S256x256x16x32 ![] bcast_S_S256x256x16x32 main_cst
  fn_part1 (F := F) main_arg4 main_v16 main_v17 main_v18
-- ==== Pre_rows_ok.lean ====
abbrev S256x256x16x32 : Shape := ⟨4, ![256, 256, 16, 32]⟩
abbrev S256 : Shape := ⟨1, ![256]⟩
abbrev S256x32 : Shape := ⟨2, ![256, 32]⟩
abbrev S256x16x32 : Shape := ⟨3, ![256, 16, 32]⟩
abbrev S100000x16x32 : Shape := ⟨3, ![100000, 16, 32]⟩
abbrev S_ : Shape := ⟨0, ![]⟩
abbrev S256x1 : Shape := ⟨2, ![256, 1]⟩
abbrev S1x256 : Shape := ⟨2, ![1, 256]⟩
abbrev S256x256 : Shape := ⟨2, ![256, 256]⟩

class Facts : Prop where
  bcast_S_S256 : S_.BroadcastsInDim S256 (![] : Fin 0 → Fin S256.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  reducesTo_S256_S_d0 : S256.ReducesTo [0] S_
  h_S_ : 0 < S_.numel
  reducesTo_S256x256_S_d0_1 : S256x256.ReducesTo [0, 1] S_

variable [Facts]

def fn {F : FTy → Type} [FloatOps F] (main_arg0 : FVec F S256x256x16x32 .f32) (main_arg1 : IVec S256 32) (main_arg2 : IVec S256x32 32) (main_arg3 : IVec S256x16x32 1) (main_arg4 : FVec F S100000x16x32 .f32) : IVec S_ 1 :=
  let main_c : IVec S_ 32 := constantI S_ 32 0#32
  let main_v0 : IVec S256 32 := broadcastInDim S256 ![] bcast_S_S256 main_c
  let main_v1 : IVec S256 1 := cmpi .sge main_arg1 main_v0
  let main_c_0 : IVec S_ 32 := constantI S_ 32 100000#32
  let main_v2 : IVec S256 32 := broadcastInDim S256 ![] bcast_S_S256 main_c_0
  let main_v3 : IVec S256 1 := cmpi .slt main_arg1 main_v2
  let main_v4 : IVec S256 1 := andi main_v1 main_v3
  let main_v5 : IVec S256x1 32 := broadcastInDim S256x1 ![0] bcast_S256_S256x1_0 main_arg1
  let main_v6 : IVec S1x256 32 := broadcastInDim S1x256 ![1] bcast_S256_S1x256_1 main_arg1
  let main_v7 : IVec S256x256 32 := broadcastInDim S256x256 ![0, 1] bcast_S256x1_S256x256_0_1 main_v5
  let main_v8 : IVec S256x256 32 := broadcastInDim S256x256 ![0, 1] bcast_S1x256_S256x256_0_1 main_v6
  let main_v9 : IVec S256x256 1 := cmpi .eq main_v7 main_v8
  let main_v10 : IVec S256x256 32 := iotaInDim S256x256 32 0
  let main_v11 : IVec S256x256 32 := iotaInDim S256x256 32 1
  let main_v12 : IVec S256x256 1 := cmpi .eq main_v10 main_v11
  let main_c_1 : IVec S_ 1 := constantI S_ 1 1#1
  let main_v13 : IVec S_ 1 := (fun x v => Host.reduce IntOp.andi x v reducesTo_S256_S_d0 h_S_) main_v4 main_c_1
  let main_v14 : IVec S256x256 1 := cmpi .eq main_v9 main_v12
  let main_c_2 : IVec S_ 1 := constantI S_ 1 1#1
  let main_v15 : IVec S_ 1 := (fun x v => Host.reduce IntOp.andi x v reducesTo_S256x256_S_d0_1 h_S_) main_v14 main_c_2
  let main_v16 : IVec S_ 1 := andi main_v13 main_v15
  main_v16
-- ==== Kernel.lean ====
abbrev S256x256x16x32 : Shape := ⟨4, ![256, 256, 16, 32]⟩
abbrev S256 : Shape := ⟨1, ![256]⟩
abbrev S256x32 : Shape := ⟨2, ![256, 32]⟩
abbrev S256x16x32 : Shape := ⟨3, ![256, 16, 32]⟩
abbrev S100000x16x32 : Shape := ⟨3, ![100000, 16, 32]⟩
abbrev S256x256x512 : Shape := ⟨3, ![256, 256, 512]⟩
abbrev S256x1x32 : Shape := ⟨3, ![256, 1, 32]⟩
abbrev S512 : Shape := ⟨1, ![512]⟩
abbrev S_ : Shape := ⟨0, ![]⟩
abbrev S512x1 : Shape := ⟨2, ![512, 1]⟩
abbrev S16 : Shape := ⟨1, ![16]⟩
abbrev S1x16 : Shape := ⟨2, ![1, 16]⟩
abbrev S512x16 : Shape := ⟨2, ![512, 16]⟩
abbrev S16x512 : Shape := ⟨2, ![16, 512]⟩
abbrev S256x1x512 : Shape := ⟨3, ![256, 1, 512]⟩
abbrev S1x1 : Shape := ⟨2, ![1, 1]⟩
abbrev S4x256x512 : Shape := ⟨3, ![4, 256, 512]⟩
abbrev S4x1x512 : Shape := ⟨3, ![4, 1, 512]⟩
abbrev S1x256x512 : Shape := ⟨3, ![1, 256, 512]⟩
abbrev S256x512 : Shape := ⟨2, ![256, 512]⟩
abbrev S1x512 : Shape := ⟨2, ![1, 512]⟩
abbrev S1x1x512 : Shape := ⟨3, ![1, 1, 512]⟩
abbrev S40 : Shape := ⟨1, ![40]⟩
abbrev S1 : Shape := ⟨1, ![1]⟩
abbrev S2500x16x32 : Shape := ⟨3, ![2500, 16, 32]⟩
abbrev S1x16x32 : Shape := ⟨3, ![1, 16, 32]⟩
abbrev S16x32 : Shape := ⟨2, ![16, 32]⟩
abbrev S256x16 : Shape := ⟨2, ![256, 16]⟩
abbrev S256x16x1 : Shape := ⟨3, ![256, 16, 1]⟩
abbrev S1x256x16x32 : Shape := ⟨4, ![1, 256, 16, 32]⟩
abbrev S1x1x1x1 : Shape := ⟨4, ![1, 1, 1, 1]⟩
abbrev S1x256x16x1 : Shape := ⟨4, ![1, 256, 16, 1]⟩

abbrev nBuf : Space → Nat
  | .hbm => 45
  | .vmem => 13
  | .smem => 2
  | _ => 0

abbrev bufTy : (tb : Table) → Fin (tcTables nBuf tb) → BufTy
  | .hbm, ⟨0, _⟩ => ⟨S256x256x16x32, .f32⟩
  | .hbm, ⟨1, _⟩ => ⟨S256, .i32⟩
  | .hbm, ⟨2, _⟩ => ⟨S256x32, .i32⟩
  | .hbm, ⟨3, _⟩ => ⟨S256x16x32, .i1⟩
  | .hbm, ⟨4, _⟩ => ⟨S100000x16x32, .f32⟩
  | .hbm, ⟨5, _⟩ => ⟨S256x256x512, .f32⟩
  | .hbm, ⟨6, _⟩ => ⟨S256x16x32, .f32⟩
  | .hbm, ⟨7, _⟩ => ⟨S256x32, .f32⟩
  | .hbm, ⟨8, _⟩ => ⟨S256x1x32, .f32⟩
  | .hbm, ⟨9, _⟩ => ⟨S256x16x32, .f32⟩
  | .hbm, ⟨10, _⟩ => ⟨S512, .i32⟩
  | .hbm, ⟨11, _⟩ => ⟨S_, .i32⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i1⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S512x1, .i32⟩
  | .hbm, ⟨30, _⟩ => ⟨S16, .i32⟩
  | .hbm, ⟨31, _⟩ => ⟨S1x16, .i32⟩
  | .hbm, ⟨32, _⟩ => ⟨S512x16, .i32⟩
  | .hbm, ⟨33, _⟩ => ⟨S512x16, .i32⟩
  | .hbm, ⟨34, _⟩ => ⟨S512x16, .i1⟩
  | .hbm, ⟨35, _⟩ => ⟨S512x16, .f32⟩
  | .hbm, ⟨36, _⟩ => ⟨S16x512, .f32⟩
  | .hbm, ⟨37, _⟩ => ⟨S256x1x512, .f32⟩
  | .hbm, ⟨38, _⟩ => ⟨S256x16x32, .f32⟩
  | .hbm, ⟨39, _⟩ => ⟨S100000x16x32, .f32⟩
  | .hbm, ⟨40, _⟩ => ⟨S256x16x32, .f32⟩
  | .hbm, ⟨41, _⟩ => ⟨S256x16x32, .f32⟩
  | .hbm, ⟨42, _⟩ => ⟨S1x1, .f32⟩
  | .hbm, ⟨43, _⟩ => ⟨S100000x16x32, .f32⟩
  | .hbm, ⟨44, _⟩ => ⟨S_, .f32⟩
  | .local _ .vmem, ⟨0, _⟩ => ⟨S4x256x512, .f32⟩
  | .local _ .vmem, ⟨1, _⟩ => ⟨S4x256x512, .f32⟩
  | .local _ .vmem, ⟨2, _⟩ => ⟨S512x16, .f32⟩
  | .local _ .vmem, ⟨3, _⟩ => ⟨S16x512, .f32⟩
  | .local _ .vmem, ⟨4, _⟩ => ⟨S4x1x512, .f32⟩
  | .local _ .vmem, ⟨5, _⟩ => ⟨S4x1x512, .f32⟩
  | .local _ .vmem, ⟨6, _⟩ => ⟨S256x16x32, .f32⟩
  | .local _ .vmem, ⟨7, _⟩ => ⟨S256x16x32, .f32⟩
  | .local _ .vmem, ⟨8, _⟩ => ⟨S256x16x32, .f32⟩
  | .local _ .vmem, ⟨9, _⟩ => ⟨S256x16x32, .f32⟩
  | .local _ .vmem, ⟨10, _⟩ => ⟨S256x16x32, .f32⟩
  | .local _ .vmem, ⟨11, _⟩ => ⟨S256x16x32, .f32⟩
  | .local _ .vmem, ⟨12, _⟩ => ⟨S256x16x32, .f32⟩
  | .local _ .smem, ⟨0, _⟩ => ⟨S256, .i32⟩
  | .local _ .smem, ⟨1, _⟩ => ⟨S1x1, .f32⟩
  | _, _ => ⟨S256x256x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_c : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_c_0 : Ref sig .tc := ⟨.hbm, 25, rfl⟩
abbrev main_call0_call0_v12 : Ref sig .tc := ⟨.hbm, 26, rfl⟩
abbrev main_call0_call0_v13 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_v0_1 : Ref sig .tc := ⟨.hbm, 38, rfl⟩
abbrev main_call0_v17 : Ref sig .tc := ⟨.hbm, 39, rfl⟩
abbrev main_v0_2 : Ref sig .tc := ⟨.hbm, 40, rfl⟩
abbrev main_v0_3 : Ref sig .tc := ⟨.hbm, 41, rfl⟩
abbrev main_call0_v18_2 : Ref sig .tc := ⟨.hbm, 42, rfl⟩
abbrev main_v0_4 : Ref sig .tc := ⟨.hbm, 43, rfl⟩
abbrev main_v0_0 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc2_stg5_0 : Ref sig .tc := ⟨.vmem, 10, rfl⟩
abbrev cc2_scratch0 : Ref sig .tc := ⟨.vmem, 11, rfl⟩
abbrev cc2_scratch1 : Ref sig .tc := ⟨.vmem, 12, rfl⟩
abbrev cc2_stg0_0 : Ref sig .tc := ⟨.smem, 0, rfl⟩
abbrev cc2_stg6_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc2_sem0_0 : DmaSem sig := 46
abbrev cc2_sem1_0 : DmaSem sig := 47
abbrev cc2_sem2_0 : DmaSem sig := 48
abbrev cc2_sem3_0 : DmaSem sig := 49
abbrev cc2_sem4_0 : DmaSem sig := 50
abbrev cc2_sem5_0 : DmaSem sig := 51
abbrev cc2_sem6_0 : DmaSem sig := 52

abbrev nD : Nat := 1
abbrev τ : Topo := Topo.v7x

variable {F : FTy → Type} [FloatOps F]

abbrev grid0 : Pipeline.Grid := ⟨1, ![64], ![false]⟩

def k0_off1 (i : grid0.Coords) : Fin 3 → Nat :=
  let c0_14 : Index := 0#32
  let arg0 : BitVec 32 := BitVec.ofNat 32 (i 0).val
  let c4_i32 : BitVec 32 := 4#32
  let v25 : BitVec 32 := Scalar.muli arg0 c4_i32
  let c0_i32 : BitVec 32 := 0#32
  let v26 : BitVec 32 := Scalar.addi v25 c0_i32
  let v27 : Index := Scalar.indexCast v26
  let c0_15 : Index := 0#32
  ![0, v27.toNat, 0]
def k0_off2 (i : grid0.Coords) : Fin 3 → Nat :=
  let c1_32 : Index := 1#32
  let arg0 : BitVec 32 := BitVec.ofNat 32 (i 0).val
  let c4_i32_31 : BitVec 32 := 4#32
  let v59 : BitVec 32 := Scalar.muli arg0 c4_i32_31
  let c1_i32 : BitVec 32 := 1#32
  let v60 : BitVec 32 := Scalar.addi v59 c1_i32
  let v61 : Index := Scalar.indexCast v60
  let c0_33 : Index := 0#32
  ![1, v61.toNat, 0]
def k0_off3 (i : grid0.Coords) : Fin 3 → Nat :=
  let c2_50 : Index := 2#32
  let arg0 : BitVec 32 := BitVec.ofNat 32 (i 0).val
  let c4_i32_49 : BitVec 32 := 4#32
  let v93 : BitVec 32 := Scalar.muli arg0 c4_i32_49
  let c2_i32 : BitVec 32 := 2#32
  let v94 : BitVec 32 := Scalar.addi v93 c2_i32
  let v95 : Index := Scalar.indexCast v94
  let c0_51 : Index := 0#32
  ![2, v95.toNat, 0]
def k0_off4 (i : grid0.Coords) : Fin 3 → Nat :=
  let c3_68 : Index := 3#32
  let arg0 : BitVec 32 := BitVec.ofNat 32 (i 0).val
  let c4_i32_67 : BitVec 32 := 4#32
  let v127 : BitVec 32 := Scalar.muli arg0 c4_i32_67
  let c3_i32 : BitVec 32 := 3#32
  let v128 : BitVec 32 := Scalar.addi v127 c3_i32
  let v129 : Index := Scalar.indexCast v128
  let c0_69 : Index := 0#32
  ![3, v129.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev grid2 : Pipeline.Grid := .none

@[reducible] def k2_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k2_off1 (k2_t1 : Fin k2_t1_loop.trips) : Fin 1 → Nat :=
  let c0_i32 : BitVec 32 := 0#32
  let c1_i32 : BitVec 32 := 1#32
  let arg14 : BitVec 32 := Scf.iv c0_i32 c1_i32 k2_t1
  let v81 : Index := Scalar.indexCast arg14
  ![v81.toNat]
def k2_off2 (k2_t1 : Fin k2_t1_loop.trips) : Fin 3 → Nat :=
  let c0_i32 : BitVec 32 := 0#32
  let c1_i32 : BitVec 32 := 1#32
  let arg14 : BitVec 32 := Scf.iv c0_i32 c1_i32 k2_t1
  let c0_i32_54 : BitVec 32 := 0#32
  let c0_i32_55 : BitVec 32 := 0#32
  ![arg14.toNat, 0, 0]
def k2_off3 (v82 : BitVec 32) : Fin 3 → Nat :=
  let c0_i32_56 : BitVec 32 := 0#32
  let c0_i32_57 : BitVec 32 := 0#32
  ![v82.toNat, 0, 0]

def k2_chk1 (v82 : BitVec 32) : Prop :=
  (∀ a, (k2_off3 v82) a + S1x16x32.size a ≤ S100000x16x32.size a)
theorem k2_off3_inb : ∀ (v82 : BitVec 32) (k2_hw1 : k2_chk1 v82), ∀ a, (k2_off3 v82) a + S1x16x32.size a ≤ S100000x16x32.size a := fun v82 k2_hw1 => k2_hw1

@[reducible] def k2_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k2_off4 (k2_t2 : Fin k2_t2_loop.trips) : Fin 1 → Nat :=
  let c0_i32_1 : BitVec 32 := 0#32
  let c1_i32_3 : BitVec 32 := 1#32
  let arg14 : BitVec 32 := Scf.iv c0_i32_1 c1_i32_3 k2_t2
  let v81 : Index := Scalar.indexCast arg14
  ![v81.toNat]
def k2_off5 (k2_t2 : Fin k2_t2_loop.trips) : Fin 3 → Nat :=
  let c0_i32_1 : BitVec 32 := 0#32
  let c1_i32_3 : BitVec 32 := 1#32
  let arg14 : BitVec 32 := Scf.iv c0_i32_1 c1_i32_3 k2_t2
  let c0_i32_54 : BitVec 32 := 0#32
  let c0_i32_55 : BitVec 32 := 0#32
  ![arg14.toNat, 0, 0]
def k2_off6 (v82 : BitVec 32) : Fin 3 → Nat :=
  let c0_i32_56 : BitVec 32 := 0#32
  let c0_i32_57 : BitVec 32 := 0#32
  ![v82.toNat, 0, 0]

def k2_chk2 (v82 : BitVec 32) : Prop :=
  (∀ a, (k2_off6 v82) a + S1x16x32.size a ≤ S100000x16x32.size a)
theorem k2_off6_inb : ∀ (v82 : BitVec 32) (k2_hw2 : k2_chk2 v82), ∀ a, (k2_off6 v82) a + S1x16x32.size a ≤ S100000x16x32.size a := fun v82 k2_hw2 => k2_hw2

@[reducible] def k2_t3_loop : Scf.Loop 32 :=
  let c0_i32_46 : BitVec 32 := 0#32
  let c256_i32_47 : BitVec 32 := 256#32
  let v79 : BitVec 32 := Scalar.addi c0_i32_46 c256_i32_47
  let c1_i32_48 : BitVec 32 := 1#32
  ⟨c0_i32_46, v79, c1_i32_48⟩
def k2_off7 (k2_t3 : Fin k2_t3_loop.trips) : Fin 1 → Nat :=
  let c0_i32_46 : BitVec 32 := 0#32
  let c1_i32_48 : BitVec 32 := 1#32
  let arg14 : BitVec 32 := Scf.iv c0_i32_46 c1_i32_48 k2_t3
  let v81 : Index := Scalar.indexCast arg14
  ![v81.toNat]
def k2_off8 (v82 : BitVec 32) : Fin 3 → Nat :=
  let c0_i32_54 : BitVec 32 := 0#32
  let c0_i32_55 : BitVec 32 := 0#32
  ![v82.toNat, 0, 0]

def k2_chk3 (v82 : BitVec 32) : Prop :=
  (∀ a, (k2_off8 v82) a + S1x16x32.size a ≤ S100000x16x32.size a)
theorem k2_off8_inb : ∀ (v82 : BitVec 32) (k2_hw3 : k2_chk3 v82), ∀ a, (k2_off8 v82) a + S1x16x32.size a ≤ S100000x16x32.size a := fun v82 k2_hw3 => k2_hw3

def k2_off9 (k2_t3 : Fin k2_t3_loop.trips) : Fin 3 → Nat :=
  let c0_i32_46 : BitVec 32 := 0#32
  let c1_i32_48 : BitVec 32 := 1#32
  let arg14 : BitVec 32 := Scf.iv c0_i32_46 c1_i32_48 k2_t3
  let c0_i32_56 : BitVec 32 := 0#32
  let c0_i32_57 : BitVec 32 := 0#32
  ![arg14.toNat, 0, 0]
@[reducible] def k2_t4_loop : Scf.Loop 32 :=
  let c0_i32_50 : BitVec 32 := 0#32
  let c256_i32_51 : BitVec 32 := 256#32
  let v80 : BitVec 32 := Scalar.addi c0_i32_50 c256_i32_51
  let c1_i32_52 : BitVec 32 := 1#32
  ⟨c0_i32_50, v80, c1_i32_52⟩
def k2_off10 (k2_t4 : Fin k2_t4_loop.trips) : Fin 1 → Nat :=
  let c0_i32_50 : BitVec 32 := 0#32
  let c1_i32_52 : BitVec 32 := 1#32
  let arg14 : BitVec 32 := Scf.iv c0_i32_50 c1_i32_52 k2_t4
  let v81 : Index := Scalar.indexCast arg14
  ![v81.toNat]
def k2_off11 (v82 : BitVec 32) : Fin 3 → Nat :=
  let c0_i32_54 : BitVec 32 := 0#32
  let c0_i32_55 : BitVec 32 := 0#32
  ![v82.toNat, 0, 0]

def k2_chk4 (v82 : BitVec 32) : Prop :=
  (∀ a, (k2_off11 v82) a + S1x16x32.size a ≤ S100000x16x32.size a)
theorem k2_off11_inb : ∀ (v82 : BitVec 32) (k2_hw4 : k2_chk4 v82), ∀ a, (k2_off11 v82) a + S1x16x32.size a ≤ S100000x16x32.size a := fun v82 k2_hw4 => k2_hw4

def k2_off12 (k2_t4 : Fin k2_t4_loop.trips) : Fin 3 → Nat :=
  let c0_i32_50 : BitVec 32 := 0#32
  let c1_i32_52 : BitVec 32 := 1#32
  let arg14 : BitVec 32 := Scf.iv c0_i32_50 c1_i32_52 k2_t4
  let c0_i32_56 : BitVec 32 := 0#32
  let c0_i32_57 : BitVec 32 := 0#32
  ![arg14.toNat, 0, 0]
abbrev stage2_0 : Fin 1 → Memref sig .tc .smem S256 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256x16x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256x16x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S256x16x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S256x16x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .smem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
-- ==== KernelIdeal.lean ====
variable {F : FTy → Type} [FloatOps F] [Named F]
def κ : String → Option EReal := fun
  | "inv_temp" => some ((134217728 / 9395241 : ℝ) : EReal)
  | "neg_inf" => some ⊥
  | _ => none
-- ==== ReferenceIdeal.lean ====
abbrev S256x256x16x32 : Shape := ⟨4, ![256, 256, 16, 32]⟩
abbrev S256 : Shape := ⟨1, ![256]⟩
abbrev S256x32 : Shape := ⟨2, ![256, 32]⟩
abbrev S256x16x32 : Shape := ⟨3, ![256, 16, 32]⟩
abbrev S100000x16x32 : Shape := ⟨3, ![100000, 16, 32]⟩
abbrev S_ : Shape := ⟨0, ![]⟩
abbrev S256x16x256x32 : Shape := ⟨4, ![256, 16, 256, 32]⟩
abbrev S256x16x8192 : Shape := ⟨3, ![256, 16, 8192]⟩
abbrev S256x16 : Shape := ⟨2, ![256, 16]⟩
abbrev S256x16x1 : Shape := ⟨3, ![256, 16, 1]⟩
abbrev S256x1 : Shape := ⟨2, ![256, 1]⟩
abbrev S256x2 : Shape := ⟨2, ![256, 2]⟩
abbrev S1 : Shape := ⟨1, ![1]⟩
abbrev S1x1 : Shape := ⟨2, ![1, 1]⟩
abbrev S256x1x32 : Shape := ⟨3, ![256, 1, 32]⟩
abbrev S1x1x32 : Shape := ⟨3, ![1, 1, 32]⟩

abbrev nBuf : Space → Nat
  | .hbm => 173
  | .vmem => 0
  | .smem => 0
  | _ => 0

abbrev hbmTy0_0 (i : Nat) : BufTy := match i % 128 with
  | 0 => ⟨S256x256x16x32, .f32⟩
  | 1 => ⟨S256, .i32⟩
  | 2 => ⟨S256x32, .i32⟩
  | 3 => ⟨S256x16x32, .i1⟩
  | 4 => ⟨S100000x16x32, .f32⟩
  | 5 => ⟨S_, .f32⟩
  | 6 => ⟨S256x256x16x32, .f32⟩
  | 7 => ⟨S256x256x16x32, .f32⟩
  | 8 => ⟨S256x16x256x32, .f32⟩
  | 9 => ⟨S256x16x8192, .f32⟩
  | 10 => ⟨S_, .f32⟩
  | 11 => ⟨S256x16, .f32⟩
  | 12 => ⟨S256x16x1, .f32⟩
  | 13 => ⟨S256x16x8192, .f32⟩
  | 14 => ⟨S256x16x8192, .f32⟩
  | 15 => ⟨S256x16x8192, .f32⟩
  | 16 => ⟨S_, .f32⟩
  | 17 => ⟨S256x16, .f32⟩
  | 18 => ⟨S256x16x1, .f32⟩
  | 19 => ⟨S256x16x1, .f32⟩
  | 20 => ⟨S256x16x8192, .f32⟩
  | 21 => ⟨S256x16x8192, .f32⟩
  | 22 => ⟨S256x16x256x32, .f32⟩
  | 23 => ⟨S256x256x16x32, .f32⟩
  | 24 => ⟨S256, .i32⟩
  | 25 => ⟨S256, .i32⟩
  | 26 => ⟨S_, .i32⟩
  | 27 => ⟨S256, .i32⟩
  | 28 => ⟨S256, .i1⟩
  | 29 => ⟨S_, .i32⟩
  | 30 => ⟨S256, .i32⟩
  | 31 => ⟨S256, .i32⟩
  | 32 => ⟨S256, .i32⟩
  | 33 => ⟨S_, .i32⟩
  | 34 => ⟨S256, .i32⟩
  | 35 => ⟨S256, .i1⟩
  | 36 => ⟨S_, .i32⟩
  | 37 => ⟨S256, .i32⟩
  | 38 => ⟨S256, .i32⟩
  | 39 => ⟨S256, .i32⟩
  | 40 => ⟨S256x1, .i32⟩
  | 41 => ⟨S256x1, .i32⟩
  | 42 => ⟨S256x2, .i32⟩
  | 43 => ⟨S256x16x32, .f32⟩
  | 44 => ⟨S_, .i32⟩
  | 45 => ⟨S256, .i32⟩
  | 46 => ⟨S256, .i1⟩
  | 47 => ⟨S_, .i32⟩
  | 48 => ⟨S256, .i32⟩
  | 49 => ⟨S256, .i32⟩
  | 50 => ⟨S256, .i32⟩
  | 51 => ⟨S256x1, .i32⟩
  | 52 => ⟨S1, .i32⟩
  | 53 => ⟨S_, .i32⟩
  | 54 => ⟨S256x1, .i32⟩
  | 55 => ⟨S256x1, .i1⟩
  | 56 => ⟨S1x1, .i32⟩
  | 57 => ⟨S256x1, .i32⟩
  | 58 => ⟨S256x1, .i1⟩
  | 59 => ⟨S256x1, .i1⟩
  | 60 => ⟨S_, .i1⟩
  | 61 => ⟨S256, .i1⟩
  | 62 => ⟨S256x16x32, .f32⟩
  | 63 => ⟨S256x16x32, .i1⟩
  | 64 => ⟨S_, .f32⟩
  | 65 => ⟨S256x16x32, .f32⟩
  | 66 => ⟨S256x16x32, .f32⟩
  | 67 => ⟨S_, .f32⟩
  | 68 => ⟨S_, .f32⟩
  | 69 => ⟨S256x16x32, .f32⟩
  | 70 => ⟨S256x16x32, .f32⟩
  | 71 => ⟨S256x16x1, .i1⟩
  | 72 => ⟨S256x16, .i1⟩
  | 73 => ⟨S256x16x32, .f32⟩
  | 74 => ⟨S_, .f32⟩
  | 75 => ⟨S256x16, .f32⟩
  | 76 => ⟨S256x16, .f32⟩
  | 77 => ⟨S_, .f32⟩
  | 78 => ⟨S_, .f32⟩
  | 79 => ⟨S256x16, .i32⟩
  | 80 => ⟨S_, .i32⟩
  | 81 => ⟨S_, .i32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S256x16x32, .f32⟩
  | 91 => ⟨S256x16x32, .f32⟩
  | 92 => ⟨S_, .f32⟩
  | 93 => ⟨S256x16, .f32⟩
  | 94 => ⟨S_, .f32⟩
  | 95 => ⟨S256x16, .f32⟩
  | 96 => ⟨S256x16, .f32⟩
  | 97 => ⟨S256x16x1, .f32⟩
  | 98 => ⟨S256x16x32, .f32⟩
  | 99 => ⟨S256x16x32, .f32⟩
  | 100 => ⟨S256x16x32, .f32⟩
  | 101 => ⟨S_, .f32⟩
  | 102 => ⟨S256x16, .f32⟩
  | 103 => ⟨S256x16x1, .f32⟩
  | 104 => ⟨S256x16x32, .f32⟩
  | 105 => ⟨S256x16x32, .f32⟩
  | 106 => ⟨S_, .f32⟩
  | 107 => ⟨S_, .f32⟩
  | 108 => ⟨S256x16x32, .f32⟩
  | 109 => ⟨S256x16x32, .f32⟩
  | 110 => ⟨S256x1x32, .i32⟩
  | 111 => ⟨S256x16x32, .i32⟩
  | 112 => ⟨S256x16x32, .i32⟩
  | 113 => ⟨S_, .f32⟩
  | 114 => ⟨S_, .i32⟩
  | 115 => ⟨S256x16, .f32⟩
  | 116 => ⟨S256x16, .i32⟩
  | 117 => ⟨S256x16x1, .i32⟩
  | 118 => ⟨S1x1x32, .i32⟩
  | 119 => ⟨S256x16x32, .i32⟩
  | 120 => ⟨S256x16x32, .i32⟩
  | 121 => ⟨S256x16x32, .i1⟩
  | 122 => ⟨S256x16x32, .i32⟩
  | 123 => ⟨S_, .i32⟩
  | 124 => ⟨S_, .i32⟩
  | 125 => ⟨S256x16x32, .i32⟩
  | 126 => ⟨S256x16x32, .i32⟩
  | 127 => ⟨S256x16x32, .i32⟩
  | _ => ⟨S256x256x16x32, .f32⟩

abbrev hbmTy0_1 (i : Nat) : BufTy := match i % 128 with
  | 0 => ⟨S_, .i32⟩
  | 1 => ⟨S256x16, .i32⟩
  | 2 => ⟨S256x16x1, .i32⟩
  | 3 => ⟨S256x16x32, .i32⟩
  | 4 => ⟨S256x16x32, .i1⟩
  | 5 => ⟨S256x16x32, .f32⟩
  | 6 => ⟨S_, .i32⟩
  | 7 => ⟨S256, .i32⟩
  | 8 => ⟨S256, .i1⟩
  | 9 => ⟨S_, .i32⟩
  | 10 => ⟨S256, .i32⟩
  | 11 => ⟨S256, .i32⟩
  | 12 => ⟨S256, .i32⟩
  | 13 => ⟨S256x1, .i32⟩
  | 14 => ⟨S1, .i32⟩
  | 15 => ⟨S_, .i32⟩
  | 16 => ⟨S256x1, .i32⟩
  | 17 => ⟨S256x1, .i1⟩
  | 18 => ⟨S1x1, .i32⟩
  | 19 => ⟨S256x1, .i32⟩
  | 20 => ⟨S256x1, .i1⟩
  | 21 => ⟨S256x1, .i1⟩
  | 22 => ⟨S_, .i1⟩
  | 23 => ⟨S256, .i1⟩
  | 24 => ⟨S256x16x32, .f32⟩
  | 25 => ⟨S256x16x32, .i1⟩
  | 26 => ⟨S_, .f32⟩
  | 27 => ⟨S256x16x32, .f32⟩
  | 28 => ⟨S256x16x32, .f32⟩
  | 29 => ⟨S_, .f32⟩
  | 30 => ⟨S256x16x32, .f32⟩
  | 31 => ⟨S256x16x32, .f32⟩
  | 32 => ⟨S_, .f32⟩
  | 33 => ⟨S256x16x32, .f32⟩
  | 34 => ⟨S256x16x32, .f32⟩
  | 35 => ⟨S256x16x32, .f32⟩
  | 36 => ⟨S_, .i32⟩
  | 37 => ⟨S256, .i32⟩
  | 38 => ⟨S256, .i1⟩
  | 39 => ⟨S_, .i32⟩
  | 40 => ⟨S256, .i32⟩
  | 41 => ⟨S256, .i32⟩
  | 42 => ⟨S256, .i32⟩
  | 43 => ⟨S256x1, .i32⟩
  | 44 => ⟨S100000x16x32, .f32⟩
  | _ => ⟨S256x256x16x32, .f32⟩

abbrev hbmTy (i : Nat) : BufTy := match i / 128 with
  | 0 => hbmTy0_0 i
  | 1 => hbmTy0_1 i
  | _ => ⟨S256x256x16x32, .f32⟩

abbrev bufTy : (tb : Table) → Fin (tcTables nBuf tb) → BufTy
  | .hbm, ⟨i, _⟩ => hbmTy i
  | _, _ => ⟨S256x256x16x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v32 : Ref sig .tc := ⟨.hbm, 66, rfl⟩
abbrev main_cst_5 : Ref sig .tc := ⟨.hbm, 67, rfl⟩
abbrev main_call1_v0 : Ref sig .tc := ⟨.hbm, 68, rfl⟩
abbrev main_call1_v1 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_6 : Ref sig .tc := ⟨.hbm, 74, rfl⟩
abbrev main_v37 : Ref sig .tc := ⟨.hbm, 75, rfl⟩
abbrev main_v38 : Ref sig .tc := ⟨.hbm, 76, rfl⟩
abbrev main_cst_7 : Ref sig .tc := ⟨.hbm, 77, rfl⟩
abbrev main_v39 : Ref sig .tc := ⟨.hbm, 78, rfl⟩
abbrev main_v40 : Ref sig .tc := ⟨.hbm, 79, rfl⟩
abbrev main_c_8 : Ref sig .tc := ⟨.hbm, 80, rfl⟩
abbrev main_v41 : Ref sig .tc := ⟨.hbm, 81, rfl⟩
abbrev main_v42 : Ref sig .tc := ⟨.hbm, 82, rfl⟩
abbrev main_cst_9 : Ref sig .tc := ⟨.hbm, 83, rfl⟩
abbrev main_v43 : Ref sig .tc := ⟨.hbm, 84, rfl⟩
abbrev main_v44 : Ref sig .tc := ⟨.hbm, 85, rfl⟩
abbrev main_cst_10 : Ref sig .tc := ⟨.hbm, 86, rfl⟩
abbrev main_v45 : Ref sig .tc := ⟨.hbm, 87, rfl⟩
abbrev main_cst_11 : Ref sig .tc := ⟨.hbm, 88, rfl⟩
abbrev main_call2_v0 : Ref sig .tc := ⟨.hbm, 89, rfl⟩
abbrev main_call2_v1 : Ref sig .tc := ⟨.hbm, 90, rfl⟩
abbrev main_v46 : Ref sig .tc := ⟨.hbm, 91, rfl⟩
abbrev main_cst_12 : Ref sig .tc := ⟨.hbm, 92, rfl⟩
abbrev main_v47 : Ref sig .tc := ⟨.hbm, 93, rfl⟩
abbrev main_cst_13 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_14 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_15 : Ref sig .tc := ⟨.hbm, 106, rfl⟩
abbrev main_call3_v0 : Ref sig .tc := ⟨.hbm, 107, rfl⟩
abbrev main_call3_v1 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_call4_v0 : Ref sig .tc := ⟨.hbm, 112, rfl⟩
abbrev main_call4_cst : Ref sig .tc := ⟨.hbm, 113, rfl⟩
abbrev main_call4_c : Ref sig .tc := ⟨.hbm, 114, rfl⟩
abbrev main_call4_v1_0 : Ref sig .tc := ⟨.hbm, 115, rfl⟩
abbrev main_v61 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_v62 : Ref sig .tc := ⟨.hbm, 122, rfl⟩
abbrev main_c_16 : Ref sig .tc := ⟨.hbm, 123, rfl⟩
abbrev main_call6_v0 : Ref sig .tc := ⟨.hbm, 124, rfl⟩
abbrev main_call6_v1 : Ref sig .tc := ⟨.hbm, 125, rfl⟩
abbrev main_v63 : Ref sig .tc := ⟨.hbm, 126, rfl⟩
abbrev main_v64 : Ref sig .tc := ⟨.hbm, 127, rfl⟩
abbrev main_c_17 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_call7_c : Ref sig .tc := ⟨.hbm, 134, rfl⟩
abbrev main_call7_v0 : Ref sig .tc := ⟨.hbm, 135, rfl⟩
abbrev main_call7_v1 : Ref sig .tc := ⟨.hbm, 136, rfl⟩
abbrev main_call7_c_0 : Ref sig .tc := ⟨.hbm, 137, rfl⟩
abbrev main_call7_v2 : Ref sig .tc := ⟨.hbm, 138, rfl⟩
abbrev main_call7_v3 : Ref sig .tc := ⟨.hbm, 139, rfl⟩
abbrev main_call7_v4 : Ref sig .tc := ⟨.hbm, 140, rfl⟩
abbrev main_call7_v5 : Ref sig .tc := ⟨.hbm, 141, rfl⟩
abbrev main_call7_c_1 : Ref sig .tc := ⟨.hbm, 142, rfl⟩
abbrev main_call7_c_2 : Ref sig .tc := ⟨.hbm, 143, rfl⟩
abbrev main_call7_v6 : Ref sig .tc := ⟨.hbm, 144, rfl⟩
abbrev main_call7_v7 : Ref sig .tc := ⟨.hbm, 145, rfl⟩
abbrev main_call7_v8 : Ref sig .tc := ⟨.hbm, 146, rfl⟩
abbrev main_call7_v9 : Ref sig .tc := ⟨.hbm, 147, rfl⟩
abbrev main_call7_v10 : Ref sig .tc := ⟨.hbm, 148, rfl⟩
abbrev main_call7_v11 : Ref sig .tc := ⟨.hbm, 149, rfl⟩
abbrev main_call7_c_3 : Ref sig .tc := ⟨.hbm, 150, rfl⟩
abbrev main_call7_v12 : Ref sig .tc := ⟨.hbm, 151, rfl⟩
abbrev main_call7_v13 : Ref sig .tc := ⟨.hbm, 152, rfl⟩
abbrev main_call7_v14 : Ref sig .tc := ⟨.hbm, 153, rfl⟩
abbrev main_call7_cst : Ref sig .tc := ⟨.hbm, 154, rfl⟩
abbrev main_call7_v15 : Ref sig .tc := ⟨.hbm, 155, rfl⟩
abbrev main_v70 : Ref sig .tc := ⟨.hbm, 156, rfl⟩
abbrev main_cst_18 : Ref sig .tc := ⟨.hbm, 157, rfl⟩
abbrev main_v71 : Ref sig .tc := ⟨.hbm, 158, rfl⟩
abbrev main_v72 : Ref sig .tc := ⟨.hbm, 159, rfl⟩
abbrev main_cst_19 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_c_20 : Ref sig .tc := ⟨.hbm, 164, rfl⟩
abbrev main_v76 : Ref sig .tc := ⟨.hbm, 165, rfl⟩
abbrev main_v77 : Ref sig .tc := ⟨.hbm, 166, rfl⟩
abbrev main_c_21 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩

abbrev nD : Nat := 1
abbrev τ : Topo := Topo.v7x

variable {F : FTy → Type} [FloatOps F]
-- ==== Proof.Pre.lean ====
/-
  What the precondition of the frames says: the index words are row numbers of the memory, no two alike.
-/
module

public import proofs.«01_k».proof.Proof.Gen.Pre_rows_ok
public import Idealize.ShloMosaic.Lib.ReduceAll

@[expose] public section

noncomputable section

namespace Cert.Proof.Pre

open Idealize.ShloMosaic

abbrev S256 : Shape := ⟨1, ![256]⟩

/-- Row numbers: below 100000, pairwise distinct. -/
structure RowsOk (x : IVec S256 32) : Prop where
  lt : ∀ i, (x i).toNat < 100000
  inj : ∀ i j, x i = x j → i = j

/-- The word at a list position. -/
abbrev at1 (i : Fin 256) : S256.Idx := fun a => match a with | 0 => i

theorem at1_eta (i : S256.Idx) : at1 (i 0) = i := by
  funext a; match a with | 0 => rfl

/-- The row number a list position names. -/
def RowsOk.row {x : IVec S256 32} (h : RowsOk x) (i : Fin 256) : Fin 100000 := ⟨(x (at1 i)).toNat, h.lt _⟩

theorem RowsOk.row_inj {x : IVec S256 32} (h : RowsOk x) : Function.Injective h.row := by
  intro i j e
  have e0 : (x (at1 i)).toNat = (x (at1 j)).toNat := by
    have := congrArg (fun k : Fin 100000 => k.val) e
    exact this
  have e' := h.inj _ _ (BitVec.eq_of_toNat_eq e0)
  exact congrFun e' 0

theorem RowsOk.words {x : IVec S256 32} (h : RowsOk x) (i : S256.Idx) : (x i).toNat = (h.row (i 0)).val := by
  show _ = (x (at1 (i 0))).toNat
  rw [at1_eta]

/-- A word at least 0 and below 100000 signed is below it unsigned. -/
theorem toNat_lt (a : BitVec 32) (h : IntOp.andi (IntOp.cmpi .sge a 0#32) (IntOp.cmpi .slt a 100000#32) = 1#1) : a.toNat < 100000 := by
  obtain ⟨h0, h1⟩ := IntOp.andi_eq_one.1 h
  have h0 := IntOp.cmpi_sge.1 h0
  have h1 := IntOp.cmpi_slt.1 h1
  have e0 : (0#32 : BitVec 32).toInt = 0 := by decide
  have e1 : (100000#32 : BitVec 32).toInt = 100000 := by decide
  rw [e0] at h0
  rw [e1] at h1
  rw [BitVec.toInt_eq_toNat_cond] at h0 h1
  have := a.isLt
  split at h0 <;> omega

/-- Equal comparisons' verdicts: `a = b` exactly when `u = v`. -/
theorem eq_of_eq {k : Nat} (a b : BitVec 32) (u v : BitVec k) (h : IntOp.cmpi .eq (IntOp.cmpi .eq a b) (IntOp.cmpi .eq u v) = 1#1) (e : a = b) : u = v := by
  have h := IntOp.cmpi_eq.1 h
  rw [IntOp.cmpi_eq.2 e] at h
  exact IntOp.cmpi_eq.1 h.symm

variable {F : FTy → Type} [FloatOps F]

open Cert.Pre_rows_ok in
theorem rows_of {a0 : FVec F S256x256x16x32 .f32} {x : IVec S256 32} {a2 : IVec S256x32 32} {a3 : IVec S256x16x32 1} {a4 : FVec F S100000x16x32 .f32}
    (h : Cert.Pre_rows_ok.fn (F := F) a0 x a2 a3 a4 = fun _ => 1#1) : RowsOk x := by
  have e := congrFun h (fun a => a.elim0)
  obtain ⟨e1, e2⟩ := IntOp.andi_eq_one.1 e
  haveI : Subsingleton S_.Idx := ⟨fun a b => funext fun i => i.elim0⟩
  refine ⟨fun i => toNat_lt _ (Host.reduce_andi_all _ _ _ _ _ e1 i), fun i j hij => ?_⟩
  have e3 := Host.reduce_andi_all _ _ _ _ _ e2 (fun a => match a with | 0 => i 0 | 1 => j 0)
  have e4 := eq_of_eq _ _ _ _ e3 (by
    refine Eq.trans (congrArg x ?_) (hij.trans (congrArg x ?_)) <;> (funext a; match a with | 0 => rfl))
  have e5 : i 0 = j 0 := Fin.ext (by
    have := congrArg BitVec.toNat e4
    have hi : (i 0 : ℕ) < 256 := (i 0).isLt
    have hj : (j 0 : ℕ) < 256 := (j 0).isLt
    simp only [iotaInDim, BitVec.toNat_ofNat] at this
    omega)
  funext a; match a with | 0 => exact e5

end Cert.Proof.Pre

end
-- ==== Proof.Ideal.Names.lean ====
/-
  The names the proof of `KernelIdeal` shares: the resource algebra (the pipelines' algebra beside
  the counters that a batch of transfers takes its tokens from), a buffer held whole, and the arrays
  of the kernel cut into rows.
-/
module

public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Regions
public import Idealize.ShloMosaic.Lib.Batch
public import Idealize.ShloMosaic.Lib.Ring
public import Idealize.ShloMosaic.Lib.Tactic

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra: the pipelines' own beside the counters of the batches of transfers. -/
abbrev UU : Type := UR sig nD τ × Counters

/-- No variant is counted. -/
abbrev 𝒱₀ : Variants := Variants.none

/-- No core owes another anything: no level is assigned. -/
abbrev L : GSem nD τ sig → Finset Unit := fun _ => ∅
abbrev lv : GSem nD τ sig → Unit → ℕ := fun _ _ => 0

local notation "𝕄" => MT nD τ sig Unit (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The four loops over the rows run 256 trips. -/
theorem trips1 : k2_t1_loop.trips = 256 := by decide
theorem trips2 : k2_t2_loop.trips = 256 := by decide
theorem trips3 : k2_t3_loop.trips = 256 := by decide
theorem trips4 : k2_t4_loop.trips = 256 := by decide

/-- The induction variable of trip `k` is `k`. -/
theorem iv_val (k : ℕ) (hk : k < 256) : (Scf.iv (0#32) (1#32) k).toNat = k := by
  simp [Scf.iv]; omega

theorem off1_eq (k : Fin k2_t1_loop.trips) : k2_off1 k = ![k.val] := by
  have h := iv_val k.val (trips1 ▸ k.isLt)
  show ![_] = _
  exact congrArg (fun n : ℕ => (![n] : Fin 1 → ℕ)) h
theorem off2_eq (k : Fin k2_t1_loop.trips) : k2_off2 k = ![k.val, 0, 0] := by
  have h := iv_val k.val (trips1 ▸ k.isLt)
  show ![_, 0, 0] = _
  exact congrArg (fun n : ℕ => (![n, 0, 0] : Fin 3 → ℕ)) h
theorem off4_eq (k : Fin k2_t2_loop.trips) : k2_off4 k = ![k.val] := by
  have h := iv_val k.val (trips2 ▸ k.isLt)
  show ![_] = _
  exact congrArg (fun n : ℕ => (![n] : Fin 1 → ℕ)) h
theorem off7_eq (k : Fin k2_t3_loop.trips) : k2_off7 k = ![k.val] := by
  have h := iv_val k.val (trips3 ▸ k.isLt)
  show ![_] = _
  exact congrArg (fun n : ℕ => (![n] : Fin 1 → ℕ)) h
theorem off9_eq (k : Fin k2_t3_loop.trips) : k2_off9 k = ![k.val, 0, 0] := by
  have h := iv_val k.val (trips3 ▸ k.isLt)
  show ![_, 0, 0] = _
  exact congrArg (fun n : ℕ => (![n, 0, 0] : Fin 3 → ℕ)) h
theorem off10_eq (k : Fin k2_t4_loop.trips) : k2_off10 k = ![k.val] := by
  have h := iv_val k.val (trips4 ▸ k.isLt)
  show ![_] = _
  exact congrArg (fun n : ℕ => (![n] : Fin 1 → ℕ)) h

end Cert.Proof.KernelIdeal

end
-- ==== Proof.Ideal.Reg.lean ====
/-
  A call's region over the thread state "every unscoped buffer held at a valuation": entered by taking
  the windows' arrays and the operands the body moves by itself out of the valuation, left with them
  put back at the next one.
-/
module

public import proofs.«01_k».proof.Proof.Ideal.Names
public import Idealize.ShloMosaic.Lib.Pipeline.RegionArraysD

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ UU ℕ

/-- The thread state between two items: the unscoped buffers at a valuation, and nothing owed. -/
def st (V : Dev nD → Valuation τ sig (Elt F)) (c : Dev nD) : sProp 𝕄 :=
  iprop(StableHlo.held (c : Thread nD τ) (Pipeline.ucRefs τ sig) (V c) ∗ ∃ W, owes (c : Thread nD τ) (0 : CellTallies nD τ sig Unit) W)

variable (pdats : (p : Fin 3) → (c : Dev nD) → Dat τ (Elt F) Unit ℕ UU ℕ (cfgs p) c)

set_option backward.isDefEq.respectTransparency.types false in
/-- The region of call `p`, whose body also holds the operands `H` and the semaphores `osem`. -/
def regOf (p : Fin 3) {K : Type} [Fintype K] (osem : K → SemLoc sig) (ho : Pipeline.OwnSemFacts (pcfgs (F := F) p).spec osem)
    (H : Finset (Ref sig .tc))
    (hA : Pipeline.arrRefs (τ := τ) (pcfgs (F := F) p).spec ⊆ Pipeline.ucRefs τ sig)
    (hH : Pipeline.hbmRefs (τ := τ) H ⊆ Pipeline.ucRefs τ sig \ Pipeline.arrRefs (pcfgs (F := F) p).spec)
    (kit : Pipeline.PLaunchFacts (nD := nD) (τ := τ) (pcfgs (F := F)) p) (hK : (pcfgs (F := F) p).pre.K = 0)
    (hbody : ∀ c, Pipeline.BodyObligationLoose (pdats p c) (defs₀ (F := F)) 𝒱₀ () Set.univ)
    (howed : ∀ c t, (pdats p c).owed t = 0) (hrec : ∀ c, (pdats p c).recorded 0 = Set.univ)
    (hshare : ∀ c w, (pdats p c).share w = fullShare)
    (W W' : Dev nD → Valuation τ sig (Elt F))
    (hoff : ∀ (c : Dev nD), ∀ b ∈ (Pipeline.ucRefs τ sig \ Pipeline.arrRefs (pcfgs (F := F) p).spec) \ Pipeline.hbmRefs (τ := τ) H, W' c b = W c b)
    (hin : ∀ c : Dev nD, iprop(Pipeline.scopedRest (pcfgs (F := F) p).spec c ∗ Pipeline.ownSems0 osem c
        ∗ (bigSep H fun b => ((c.tc : Thread nD τ).loc b) ↦{fullShare} W c (Proc.devRef .tc b))) ⊢ (pdats p c).Φ 0)
    (hout : ∀ c : Dev nD, (pdats p c).Φ (Fin.last _) ⊢ iprop(Pipeline.scopedRest (pcfgs (F := F) p).spec c ∗ Pipeline.ownSems0 osem c
        ∗ (bigSep H fun b => ((c.tc : Thread nD τ).loc b) ↦{fullShare} W' c (Proc.devRef .tc b))))
    (hW : ∀ c w, (pdats p c).arrAt w 0 = W c (Proc.devRef .tc (Pipeline.arrRef (pcfgs (F := F) p).spec w)))
    (hW' : ∀ c w, (pdats p c).arrAt w (cfgs p).N = W' c (Proc.devRef .tc (Pipeline.arrRef (pcfgs (F := F) p).spec w))) :
    RegionSeg (pcfgs (F := F)) adm pdats () defs₀ 𝒱₀ L lv p where
  win := kit.to₀.win
  block_pos := kit.to₀.block_pos
  stage_whole := kit.to₀.stage_whole
  K := K
  osem := osem
  ho := ho
  hbody := hbody
  hwaits := Pipeline.hwaits_of_owed_zero _ _ _ _ L lv p fun c t => howed c t
  pre := st W
  post := st W'
  X c := iprop(Pipeline.ownSems0 osem c ∗ (bigSep H fun b => ((c.tc : Thread nD τ).loc b) ↦{fullShare} W c (Proc.devRef .tc b)))
  Y c := bigSep H fun b => ((c.tc : Thread nD τ).loc b) ↦{fullShare} W' c (Proc.devRef .tc b)
  Z c := StableHlo.held (c.tc : Thread nD τ) ((Pipeline.ucRefs τ sig \ Pipeline.arrRefs (pcfgs (F := F) p).spec) \ Pipeline.hbmRefs (τ := τ) H) (W c)
  hentry c := by
    rw [Pipeline.arrays_held (pcfgs (F := F)) adm pdats p kit c (hshare c) ((pdats p c).arrAt · 0) (W c) (hW c)]
    rw [Pipeline.prefHeld_of_none _ hK]
    unfold st
    rw [StableHlo.held_sub_split (c.tc : Thread nD τ) hA (W c), StableHlo.held_sub_split (c.tc : Thread nD τ) hH (W c), Pipeline.held_hbm]
    iintro ⟨⟨⟨Ha, HH, Hr⟩, HO⟩, Hos, -⟩
    imodintro
    isplitl [Ha]; · iexact Ha
    isplitr; · iempintro
    isplitl [HO]
    · unfold Dat.owesAt Pipeline.owesWithin Dat.bound
      rw [howed c 0, hrec c]
      icases HO with ⟨%W, HO⟩; iexists W; isplitr; · ipureintro; exact fun _ _ => Or.inl trivial
      iexact HO
    isplitl [Hos HH]
    · isplitl [Hos] <;> iassumption
    iexact Hr
  hin c := (show _ ⊢ iprop(Pipeline.scopedRest (pcfgs (F := F) p).spec c ∗ Pipeline.ownSems0 osem c
        ∗ (bigSep H fun b => ((c.tc : Thread nD τ).loc b) ↦{fullShare} W c (Proc.devRef .tc b))) from by
    iintro ⟨⟨Hos, HH⟩, -, Hr⟩
    isplitl [Hr]; · iexact Hr
    isplitl [Hos] <;> iassumption).trans (hin c)
  hout c := (hout c).trans (by
    iintro ⟨Hr, Hos, HH⟩
    isplitl [HH]; · iexact HH
    isplitl [Hos] <;> iassumption)
  hexit c := by
    rw [Pipeline.arrays_held (pcfgs (F := F)) adm pdats p kit c (hshare c) ((pdats p c).arrAt · (cfgs p).N) (W' c) (hW' c)]
    unfold st
    rw [StableHlo.held_sub_split (c.tc : Thread nD τ) hA (W' c), StableHlo.held_sub_split (c.tc : Thread nD τ) hH (W' c), Pipeline.held_hbm,
      StableHlo.held_congr (c.tc : Thread nD τ) (S := (Pipeline.ucRefs τ sig \ Pipeline.arrRefs (pcfgs (F := F) p).spec) \ Pipeline.hbmRefs (τ := τ) H) (hoff c)]
    iintro ⟨Ha, HO, HH, Hr⟩
    imodintro
    isplitl [Ha HH Hr]
    · isplitl [Ha]; · iexact Ha
      isplitl [HH] <;> iassumption
    unfold Dat.owesAt Pipeline.owesWithin
    rw [howed c (Fin.last _)]
    icases HO with ⟨%W, -, HO⟩; iexists W; iexact HO

end Cert.Proof.KernelIdeal

end
-- ==== Proof.Ideal.Soft.lean ====
/-
  The softmax call's body: on four slabs of 256 by 512 it leaves, for each slab, the log-softmax of the
  diagonal row. The body is run over any staging buffers, and what it leaves is named by its four stores.
-/
module

public import proofs.«01_k».proof.Proof.Ideal.Reg
public import proofs.«01_k».proof.Proof.Gen.KernelIdeal.Skeleton
public import Idealize.ShloMosaic.Lib.WritesUnit
public import Idealize.ShloMosaic.Lib.Pipeline.FrameBody

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ UU ℕ

/-- What a load through a unit rectangle reads of an array. -/
abbrev ld {s : Shape} {e : EltTy} (x : s.Idx → Elt F e) (r : LoadRect s) : r.shape.Idx → Elt F e := fun y => x (r.idx y)

/-- The two selection matrices as the body loads them. -/
abbrev ldG (g : S512x16.Idx → Elt F .f32) : FVec F S512x16 .f32 := k0_pay2 (ld g (Rect.unit (s := S512x16) ![0, 0] S512x16.size inb_S512x16_S512x16_0_0).toLoadRect)
abbrev ldT (gt : S16x512.Idx → Elt F .f32) : FVec F S16x512 .f32 := k0_pay3 (ld gt (Rect.unit (s := S16x512) ![0, 0] S16x512.size inb_S16x512_S16x512_0_0).toLoadRect)

/-- The four stores of the body at grid point `i` over four slabs `x` and the selection matrices, last first. -/
def softL (i : grid0.Coords) (x : S4x256x512.Idx → Elt F .f32) (g : S512x16.Idx → Elt F .f32) (gt : S16x512.Idx → Elt F .f32) :
    List (View.Piece (Elt F) S4x1x512 .f32) :=
  [⟨Rect.unit (s := S4x1x512) ![3, 0, 0] S1x1x512.size inb_S4x1x512_S1x1x512_3_0_0,
      k0_pay1 (ldG g) (ldT gt) (k0_pay8 (ld x (Rect.unit (s := S4x256x512) ![3, 0, 0] S1x256x512.size inb_S4x256x512_S1x256x512_3_0_0).toLoadRect))
        (ld x (Rect.unit (s := S4x256x512) (k0_off4 i) S1x1x512.size (k0_off4_inb i)).toLoadRect)⟩,
   ⟨Rect.unit (s := S4x1x512) ![2, 0, 0] S1x1x512.size inb_S4x1x512_S1x1x512_2_0_0,
      k0_pay7 (ldG g) (ldT gt) (ld x (Rect.unit (s := S4x256x512) ![2, 0, 0] S1x256x512.size inb_S4x256x512_S1x256x512_2_0_0).toLoadRect)
        (ld x (Rect.unit (s := S4x256x512) (k0_off3 i) S1x1x512.size (k0_off3_inb i)).toLoadRect)⟩,
   ⟨Rect.unit (s := S4x1x512) ![1, 0, 0] S1x1x512.size inb_S4x1x512_S1x1x512_1_0_0,
      k0_pay6 (ldG g) (ldT gt) (ld x (Rect.unit (s := S4x256x512) ![1, 0, 0] S1x256x512.size inb_S4x256x512_S1x256x512_1_0_0).toLoadRect)
        (ld x (Rect.unit (s := S4x256x512) (k0_off2 i) S1x1x512.size (k0_off2_inb i)).toLoadRect)⟩,
   ⟨Rect.unit (s := S4x1x512) ![0, 0, 0] S1x1x512.size inb_S4x1x512_S1x1x512_0_0_0,
      k0_pay5 (k0_pay4 (ld g (Rect.unit (s := S512x16) ![0, 0] S512x16.size inb_S512x16_S512x16_0_0).toLoadRect)
        (ld gt (Rect.unit (s := S16x512) ![0, 0] S16x512.size inb_S16x512_S16x512_0_0).toLoadRect)
        (ld x (Rect.unit (s := S4x256x512) ![0, 0, 0] S1x256x512.size inb_S4x256x512_S1x256x512_0_0_0).toLoadRect)
        (ld x (Rect.unit (s := S4x256x512) (k0_off1 i) S1x1x512.size (k0_off1_inb i)).toLoadRect))⟩]

/-- The stores cover the output's block. -/
theorem softL_cover (i : grid0.Coords) (x : S4x256x512.Idx → Elt F .f32) (g : S512x16.Idx → Elt F .f32) (gt : S16x512.Idx → Elt F .f32) (y : S4x1x512.Idx) :
    ∃ p ∈ softL i x g gt, y ∈ p.1.set := by
  have h0 : (y 0).val < 4 := (y 0).isLt
  have h1 : (y 1).val < 1 := (y 1).isLt
  have h2 : (y 2).val < 512 := (y 2).isLt
  have key : ∀ (r : ℕ) (inb : ∀ a, (![r, 0, 0] : Fin 3 → ℕ) a + S1x1x512.size a ≤ S4x1x512.size a), (y 0).val = r →
      y ∈ (Rect.unit (s := S4x1x512) ![r, 0, 0] S1x1x512.size inb).set := fun r inb hr => by
    rw [Rect.mem_set_unit]
    intro a
    fin_cases a
    · show r ≤ (y 0).val ∧ (y 0).val < r + 1; omega
    · show 0 ≤ (y 1).val ∧ (y 1).val < 0 + 1; omega
    · show 0 ≤ (y 2).val ∧ (y 2).val < 0 + 512; omega
  obtain h | h | h | h : (y 0).val = 3 ∨ (y 0).val = 2 ∨ (y 0).val = 1 ∨ (y 0).val = 0 := by omega
  · exact ⟨_, List.mem_cons_self, key 3 inb_S4x1x512_S1x1x512_3_0_0 h⟩
  · exact ⟨_, List.mem_cons_of_mem _ List.mem_cons_self, key 2 inb_S4x1x512_S1x1x512_2_0_0 h⟩
  · exact ⟨_, List.mem_cons_of_mem _ (List.mem_cons_of_mem _ List.mem_cons_self), key 1 inb_S4x1x512_S1x1x512_1_0_0 h⟩
  · exact ⟨_, List.mem_cons_of_mem _ (List.mem_cons_of_mem _ (List.mem_cons_of_mem _ List.mem_cons_self)), key 0 inb_S4x1x512_S1x1x512_0_0_0 h⟩

/-- A buffer's elements under a view, held. -/
abbrev po (c : Dev nD) {sp : Space} {s : Shape} {e : EltTy} (M : Memref sig .tc sp s e) (f : Bf (F := F) c M) : sProp 𝕄 :=
  M.view.loc (c : Thread nD τ) ↦[M.view.set]{fullShare} f

/-- The body over any staging buffers: the inputs as they were, the output at the stores' canon. -/
theorem body0_run (c : Dev nD) [∀ e, Nonempty (Elt F e)] (i : grid0.Coords) (M1 : Memref sig .tc .vmem S4x256x512 .f32) (h1 : M1.IsWhole) (M2 : Memref sig .tc .vmem S512x16 .f32) (h2 : M2.IsWhole)
    (M3 : Memref sig .tc .vmem S16x512 .f32) (h3 : M3.IsWhole) (M4 : Memref sig .tc .vmem S4x1x512 .f32) (h4 : M4.IsWhole)
    (f1 : Bf (F := F) c M1) (f2 : Bf (F := F) c M2) (f3 : Bf (F := F) c M3) (f4 : Bf (F := F) c M4) :
    (iprop(po c M1 f1 ∗ po c M2 f2 ∗ po c M3 f3 ∗ po c M4 f4) : sProp 𝕄)
    ⊢ wp frame (wpE (defs₀ (F := F)) 𝒱₀ c none) Set.univ (cc0__softmax_body (F := F) i M1 h1 M2 h2 M3 h3 M4 h4)
      (fun _ => iprop(po c M1 f1 ∗ po c M2 f2 ∗ po c M3 f3
        ∗ ∃ f, ⌜M4.view.read (Elt F) f = View.canon (softL i (M1.view.read (Elt F) f1) (M2.view.read (Elt F) f2) (M3.view.read (Elt F) f3))⌝ ∗ po c M4 f)) := by
  iintro ⟨H1, H2, H3, H4⟩
  sl_unfold [cc0__softmax_body]
  sl_exec
  sl_step
  isplitl [H1]; · iexact H1
  isplitl [H2]; · iexact H2
  isplitl [H3]; · iexact H3
  iexists _
  isplitr
  swap
  · iexact H4
  ipureintro
  exact View.read_writes_eq_canon M4.view f4 (softL i (M1.view.read (Elt F) f1) (M2.view.read (Elt F) f2) (M3.view.read (Elt F) f3)) (softL_cover i _ _ _)

/-- The same over staging buffers that are owned at given contents. -/
theorem body0_owns (c : Dev nD) [∀ e, Nonempty (Elt F e)] (i : grid0.Coords) (M1 : Memref sig .tc .vmem S4x256x512 .f32) (h1 : M1.IsWhole) (M2 : Memref sig .tc .vmem S512x16 .f32) (h2 : M2.IsWhole)
    (M3 : Memref sig .tc .vmem S16x512 .f32) (h3 : M3.IsWhole) (M4 : Memref sig .tc .vmem S4x1x512 .f32) (h4 : M4.IsWhole)
    (x : S4x256x512.Idx → Elt F .f32) (g : S512x16.Idx → Elt F .f32) (gt : S16x512.Idx → Elt F .f32) (o : S4x1x512.Idx → Elt F .f32) :
    (iprop(owns (c : Thread nD τ) M1 fullShare x ∗ owns (c : Thread nD τ) M2 fullShare g ∗ owns (c : Thread nD τ) M3 fullShare gt ∗ owns (c : Thread nD τ) M4 fullShare o) : sProp 𝕄)
    ⊢ wp frame (wpE (defs₀ (F := F)) 𝒱₀ c none) Set.univ (cc0__softmax_body (F := F) i M1 h1 M2 h2 M3 h3 M4 h4)
      (fun _ => iprop(owns (c : Thread nD τ) M1 fullShare x ∗ owns (c : Thread nD τ) M2 fullShare g ∗ owns (c : Thread nD τ) M3 fullShare gt
        ∗ owns (c : Thread nD τ) M4 fullShare (View.canon (softL i x g gt)))) := by
  unfold owns
  iintro ⟨⟨%f0, %hf0, H0⟩, ⟨%f1, %hf1, H1⟩, ⟨%f2, %hf2, H2⟩, ⟨%f3, -, H3⟩⟩
  subst hf0 hf1 hf2
  ihave HL := (body0_run c i M1 h1 M2 h2 M3 h3 M4 h4 f0 f1 f2 f3) $$ [H0 H1 H2 H3]
  · isplitl [H0]; · iexact H0
    isplitl [H1]; · iexact H1
    isplitl [H2]; · iexact H2
    iexact H3
  iapply (wp_wand frame (wpE (defs₀ (F := F)) 𝒱₀ c none) Set.univ) $$ HL
  iintro %_ ⟨H0, H1, H2, H3⟩
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  iexact H3

/-! ## The proof data of the call, entered from a valuation -/

variable (V : Dev nD → Valuation τ sig (Elt F))

/-- The blocks the call's inputs stage at point `t`. -/
abbrev blk0_0 (c : Dev nD) (t : Fin cfg0.N) : S4x256x512.Idx → Elt F .f32 := ((cfg0.win 0).blk t).view.read (Elt F) (V c main_call0_v0)
abbrev blk0_1 (c : Dev nD) (t : Fin cfg0.N) : S512x16.Idx → Elt F .f32 := ((cfg0.win 1).blk t).view.read (Elt F) (V c main_call0_v13)
abbrev blk0_2 (c : Dev nD) (t : Fin cfg0.N) : S16x512.Idx → Elt F .f32 := ((cfg0.win 2).blk t).view.read (Elt F) (V c main_call0_v14)

/-- What the body leaves in the output's block at point `t`. -/
def soft (c : Dev nD) (t : Fin cfg0.N) : S4x1x512.Idx → Elt F .f32 :=
  View.canon (softL (grid0.coords t) (blk0_0 V c t) (blk0_1 V c t) (blk0_2 V c t))

abbrev Φ0 (c : Dev nD) : sProp 𝕄 := Pipeline.scopedRest (Ix := Unit) (Name := ℕ) (U := UU) (Lvl := ℕ) (Val := Elt F) spec0 c

def dat0 (c : Dev nD) : Dat τ (Elt F) Unit ℕ UU ℕ cfg0 c where
  A w := V c (Pipeline.arrRef spec0 w)
  after w t := match w with
    | ⟨0, _⟩ => blk0_0 V c t
    | ⟨1, _⟩ => blk0_1 V c t
    | ⟨2, _⟩ => blk0_2 V c t
    | ⟨3, _⟩ => soft V c t
  Φ _ := Φ0 c
  q _ := fullShare
  owed _ := 0

theorem before0_0 (c : Dev nD) (t : Fin cfg0.N) (d) : (dat0 V c).before 0 t d = blk0_0 V c t :=
  ((dat0 V c).before_in_eq_fetched 0 rfl (fun _ => rfl) (fun _ _ _ => rfl) (fun _ => rfl) t d).trans rfl
theorem before0_1 (c : Dev nD) (t : Fin cfg0.N) (d) : (dat0 V c).before 1 t d = blk0_1 V c t :=
  ((dat0 V c).before_in_eq_fetched 1 rfl (fun _ => rfl) (fun _ _ _ => rfl) (fun _ => rfl) t d).trans rfl
theorem before0_2 (c : Dev nD) (t : Fin cfg0.N) (d) : (dat0 V c).before 2 t d = blk0_2 V c t :=
  ((dat0 V c).before_in_eq_fetched 2 rfl (fun _ => rfl) (fun _ _ _ => rfl) (fun _ => rfl) t d).trans rfl

set_option maxHeartbeats 1000000 in
theorem body0_obligation (c : Dev nD) : Pipeline.BodyObligation (dat0 V c) (defs₀ (F := F)) 𝒱₀ () Set.univ := fun t => by
  rw [bigSep_W0, bigSep_W0]
  rw [show (dat0 V c).Φ t.castSucc = Φ0 c from rfl, show (dat0 V c).Φ t.succ = Φ0 c from rfl,
    show (dat0 V c).owesAt () t.succ = (dat0 V c).owesAt () t.castSucc from rfl]
  iintro ⟨HΦ, Howes, ⟨%d0, H0⟩, ⟨%d1, H1⟩, ⟨%d2, H2⟩, ⟨%d3, H3⟩⟩
  rw [before0_0, before0_1, before0_2]
  ihave HL := (body0_owns c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast nbuf0_2)) (win0_3.stage (cfg0.slots t 3))
    (hstage0_3 ((cfg0.slots t 3).cast nbuf0_3)) (blk0_0 V c t) (blk0_1 V c t) (blk0_2 V c t) ((dat0 V c).before 3 t d3)) $$ [H0 H1 H2 H3]
  · isplitl [H0]; · iexact H0
    isplitl [H1]; · iexact H1
    isplitl [H2]; · iexact H2
    iexact H3
  iapply (wp_wand frame (wpE (defs₀ (F := F)) 𝒱₀ c none) Set.univ) $$ HL
  iintro %_ ⟨H0, H1, H2, H3⟩
  isplitl [HΦ]; · iexact HΦ
  isplitl [Howes]; · iexact Howes
  isplitl [H0]; · iexact H0
  isplitl [H1]; · iexact H1
  isplitl [H2]; · iexact H2
  iexact H3

end Cert.Proof.KernelIdeal

end
-- ==== Proof.Ideal.Rows.lean ====
/-
  The rows of the arrays of `cc2__rows_body`: the sets of elements that a row transfer covers, what a
  transfer leaves on them, and the arrays taken as the union of their rows.
-/
module

public import proofs.«01_k».proof.Proof.Ideal.Names

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- The index of three coordinates. -/
def at3 {A B C : ℕ} (a : Fin A) (b : Fin B) (c : Fin C) : (⟨3, ![A, B, C]⟩ : Shape).Idx
  | ⟨0, _⟩ => a
  | ⟨1, _⟩ => b
  | ⟨2, _⟩ => c

theorem at3_ext {A B C : ℕ} {i j : (⟨3, ![A, B, C]⟩ : Shape).Idx} (h0 : (i 0).val = (j 0).val) (h1 : (i 1).val = (j 1).val)
    (h2 : (i 2).val = (j 2).val) : i = j := by
  funext a; fin_cases a
  · exact Fin.ext h0
  · exact Fin.ext h1
  · exact Fin.ext h2

/-- The elements of the 256-row buffers at row `t`, and of the memory at row `n`. -/
def bset (t : Fin 256) : Finset S256x16x32.Idx := Finset.univ.filter fun i => (i 0).val = t.val
def mset (n : Fin 100000) : Finset S100000x16x32.Idx := Finset.univ.filter fun i => (i 0).val = n.val

theorem mem_bset {t : Fin 256} {i : S256x16x32.Idx} : i ∈ bset t ↔ i 0 = t := by simp [bset]; exact Fin.ext_iff.symm
theorem mem_mset {n : Fin 100000} {i : S100000x16x32.Idx} : i ∈ mset n ↔ i 0 = n := by simp [mset]; exact Fin.ext_iff.symm

theorem bset_disjoint : ∀ b b' : Fin 256, b ≠ b' → Disjoint (bset b) (bset b') := fun b b' hne => by
  rw [Finset.disjoint_left]; intro y hy hy'; rw [mem_bset] at hy hy'; exact hne (hy.symm.trans hy')
theorem bset_cover : Finset.univ.biUnion bset = Finset.univ := by
  ext y; simp only [Finset.mem_biUnion, Finset.mem_univ, true_and, iff_true]; exact ⟨y 0, mem_bset.mpr rfl⟩
theorem mset_disjoint {n n' : Fin 100000} (h : n ≠ n') : Disjoint (mset n) (mset n') := by
  rw [Finset.disjoint_left]; intro y hy hy'; rw [mem_mset] at hy hy'; exact h (hy.symm.trans hy')

/-- A unit rectangle of one row is that row. -/
theorem unit_bset {off : Fin 3 → ℕ} (inb : ∀ a, off a + S1x16x32.size a ≤ S256x16x32.size a) (t : Fin 256) (h : off = ![t.val, 0, 0]) :
    (Rect.unit (s := S256x16x32) off S1x16x32.size inb).set = bset t := by
  subst h
  ext y; rw [Rect.mem_set_unit, mem_bset]
  have h1 : (y 1).val < 16 := (y 1).isLt
  have h2 : (y 2).val < 32 := (y 2).isLt
  constructor
  · intro H; have a0 : t.val ≤ (y 0).val ∧ (y 0).val < t.val + 1 := H 0; exact Fin.ext (by omega)
  · intro H a; have H' : (y 0).val = t.val := congrArg Fin.val H
    fin_cases a
    · show t.val ≤ (y 0).val ∧ (y 0).val < t.val + 1; omega
    · show 0 ≤ (y 1).val ∧ (y 1).val < 0 + 16; omega
    · show 0 ≤ (y 2).val ∧ (y 2).val < 0 + 32; omega
theorem unit_mset {off : Fin 3 → ℕ} (inb : ∀ a, off a + S1x16x32.size a ≤ S100000x16x32.size a) (n : Fin 100000) (h : off = ![n.val, 0, 0]) :
    (Rect.unit (s := S100000x16x32) off S1x16x32.size inb).set = mset n := by
  subst h
  ext y; rw [Rect.mem_set_unit, mem_mset]
  have h1 : (y 1).val < 16 := (y 1).isLt
  have h2 : (y 2).val < 32 := (y 2).isLt
  constructor
  · intro H; have a0 : n.val ≤ (y 0).val ∧ (y 0).val < n.val + 1 := H 0; exact Fin.ext (by omega)
  · intro H a; have H' : (y 0).val = n.val := congrArg Fin.val H
    fin_cases a
    · show n.val ≤ (y 0).val ∧ (y 0).val < n.val + 1; omega
    · show 0 ≤ (y 1).val ∧ (y 1).val < 0 + 16; omega
    · show 0 ≤ (y 2).val ∧ (y 2).val < 0 + 32; omega

/-- The rows gathered: row `t` of the buffer is row `n t` of the memory. -/
def gath (n : Fin 256 → Fin 100000) (f : S100000x16x32.Idx → Elt F .f32) : S256x16x32.Idx → Elt F .f32 :=
  fun i => f (at3 (n (i 0)) (i 1) (i 2))

open Classical in
/-- The rows scattered: row `n t` of the memory is row `t` of the buffer, every other row as it was. -/
def scat (n : Fin 256 → Fin 100000) (f : S100000x16x32.Idx → Elt F .f32) (w : S256x16x32.Idx → Elt F .f32) : S100000x16x32.Idx → Elt F .f32 :=
  fun i => if h : ∃ t, n t = i 0 then w (at3 h.choose (i 1) (i 2)) else f i

theorem scat_of_eq {n : Fin 256 → Fin 100000} (hn : Function.Injective n) (f : S100000x16x32.Idx → Elt F .f32) (w : S256x16x32.Idx → Elt F .f32)
    (i : S100000x16x32.Idx) (t : Fin 256) (h : n t = i 0) : scat n f w i = w (at3 t (i 1) (i 2)) := by
  have hx : ∃ t, n t = i 0 := ⟨t, h⟩
  unfold scat; rw [dif_pos hx, hn (hx.choose_spec.trans h.symm)]
theorem scat_of_ne {n : Fin 256 → Fin 100000} (f : S100000x16x32.Idx → Elt F .f32) (w : S256x16x32.Idx → Elt F .f32)
    (i : S100000x16x32.Idx) (h : ∀ t, n t ≠ i 0) : scat n f w i = f i := by
  unfold scat; rw [dif_neg]; rintro ⟨t, ht⟩; exact h t ht

/-! ## A row of a whole array, as the transfers spell it -/

/-- A row of an array of 256 rows, and of the memory, as the transfers spell it. -/
abbrev bRow {sp : Space} (M : Memref sig .tc sp S256x16x32 .f32) (off : Fin 3 → ℕ) (inb : ∀ a, off a + S1x16x32.size a ≤ S256x16x32.size a) :
    Memref sig .tc sp S16x32 .f32 :=
  (M.slice (Rect.unit (s := S256x16x32) off S1x16x32.size inb) (fun _ => rfl)).squeeze S16x32 squeezes_S1x16x32_S16x32
abbrev mRow {sp : Space} (M : Memref sig .tc sp S100000x16x32 .f32) (off : Fin 3 → ℕ) (inb : ∀ a, off a + S1x16x32.size a ≤ S100000x16x32.size a) :
    Memref sig .tc sp S16x32 .f32 :=
  (M.slice (Rect.unit (s := S100000x16x32) off S1x16x32.size inb) (fun _ => rfl)).squeeze S16x32 squeezes_S1x16x32_S16x32

theorem bRow_set0 {off : Fin 3 → ℕ} {inb : ∀ a, off a + S1x16x32.size a ≤ S256x16x32.size a} {t : Fin 256} (h : off = ![t.val, 0, 0]) :
    (bRow (Memref.whole cc2_scratch0) off inb).view.set = bset t :=
  (View.set_reshape _ _).trans ((View.set_slice_whole _ _).trans (unit_bset inb t h))
theorem bRow_set1 {off : Fin 3 → ℕ} {inb : ∀ a, off a + S1x16x32.size a ≤ S256x16x32.size a} {t : Fin 256} (h : off = ![t.val, 0, 0]) :
    (bRow (Memref.whole cc2_scratch1) off inb).view.set = bset t :=
  (View.set_reshape _ _).trans ((View.set_slice_whole _ _).trans (unit_bset inb t h))
theorem mRow_set4 {off : Fin 3 → ℕ} {inb : ∀ a, off a + S1x16x32.size a ≤ S100000x16x32.size a} {n : Fin 100000} (h : off = ![n.val, 0, 0]) :
    (mRow (Memref.whole main_arg4) off inb).view.set = mset n :=
  (View.set_reshape _ _).trans ((View.set_slice_whole _ _).trans (unit_mset inb n h))
theorem mRow_setO {off : Fin 3 → ℕ} {inb : ∀ a, off a + S1x16x32.size a ≤ S100000x16x32.size a} {n : Fin 100000} (h : off = ![n.val, 0, 0]) :
    (mRow (Memref.whole main_v0_4) off inb).view.set = mset n :=
  (View.set_reshape _ _).trans ((View.set_slice_whole _ _).trans (unit_mset inb n h))

/-- An element under a view is the image of one of its indices. -/
theorem emb_of_mem {sp : Space} {s : Shape} {e : EltTy} (v : View sig .tc sp s e) {i : v.ty.Idx} (h : i ∈ v.set) : ∃ y : s.Idx, v.emb y = i := by
  obtain ⟨y, -, e⟩ := Finset.mem_map.mp h; exact ⟨y, e⟩

/-- Where the row views place an index: the row's number beside the index's own two coordinates. -/
theorem row_coord {A : ℕ} {off : Fin 3 → ℕ} (inb : ∀ a, off a + S1x16x32.size a ≤ (⟨3, ![A, 16, 32]⟩ : Shape).size a) (m : ℕ) (h : off = ![m, 0, 0])
    (y : S1x16x32.Idx) : (((Rect.unit (s := ⟨3, ![A, 16, 32]⟩) off S1x16x32.size inb).emb y 0).val = m)
      ∧ ((Rect.unit (s := ⟨3, ![A, 16, 32]⟩) off S1x16x32.size inb).emb y 1).val = (y 1).val
      ∧ ((Rect.unit (s := ⟨3, ![A, 16, 32]⟩) off S1x16x32.size inb).emb y 2).val = (y 2).val := by
  subst h
  have h0 : (y 0).val < 1 := (y 0).isLt
  refine ⟨?_, ?_, ?_⟩
  · show m + 1 * (y 0).val = m; omega
  · show 0 + 1 * (y 1).val = _; omega
  · show 0 + 1 * (y 2).val = _; omega

/-- What a gather transfer leaves on row `t` of the buffer: row `n t` of the memory. -/
theorem gath_land (n : Fin 256 → Fin 100000) (t : Fin 256) (off off' : Fin 3 → ℕ) (inb : ∀ a, off a + S1x16x32.size a ≤ S256x16x32.size a)
    (inb' : ∀ a, off' a + S1x16x32.size a ≤ S100000x16x32.size a) (h : off = ![t.val, 0, 0]) (h' : off' = ![(n t).val, 0, 0])
    (fd : S256x16x32.Idx → Elt F .f32) (f : S100000x16x32.Idx → Elt F .f32) (i : S256x16x32.Idx) (hi : i ∈ bset t) :
    (bRow (Memref.whole cc2_scratch0) off inb).view.write (Elt F) fd
      (ReadAs.same.apply ((mRow (Memref.whole main_arg4) off' inb').view.read (Elt F) f)) Finset.univ i = gath n f i := by
  rw [← bRow_set0 (inb := inb) h] at hi
  obtain ⟨x, rfl⟩ := emb_of_mem _ hi
  rw [View.write_emb_of_mem _ _ (Finset.mem_univ x)]
  obtain ⟨a0, a1, a2⟩ := row_coord (A := 256) inb _ h (Shape.reshapeEquiv (s := S1x16x32) (s' := S16x32) rfl x)
  obtain ⟨b0, b1, b2⟩ := row_coord (A := 100000) inb' _ h' (Shape.reshapeEquiv (s := S1x16x32) (s' := S16x32) rfl x)
  show f ((Rect.unit (s := ⟨3, ![100000, 16, 32]⟩) off' S1x16x32.size inb').emb (Shape.reshapeEquiv (s := S1x16x32) (s' := S16x32) rfl x))
    = gath n f ((Rect.unit (s := ⟨3, ![256, 16, 32]⟩) off S1x16x32.size inb).emb (Shape.reshapeEquiv (s := S1x16x32) (s' := S16x32) rfl x))
  refine congrArg f (at3_ext ?_ (b1.trans a1.symm) (b2.trans a2.symm))
  exact b0.trans (congrArg (fun z => (n z).val) (Fin.ext a0).symm)

/-- What a scatter transfer leaves on row `n t` of the memory: row `t` of the buffer. -/
theorem scat_land {n : Fin 256 → Fin 100000} (hn : Function.Injective n) (t : Fin 256) (off off' : Fin 3 → ℕ) (inb : ∀ a, off a + S1x16x32.size a ≤ S256x16x32.size a)
    (inb' : ∀ a, off' a + S1x16x32.size a ≤ S100000x16x32.size a) (h : off = ![t.val, 0, 0]) (h' : off' = ![(n t).val, 0, 0])
    (fd f : S100000x16x32.Idx → Elt F .f32) (w : S256x16x32.Idx → Elt F .f32) (i : S100000x16x32.Idx) (hi : i ∈ mset (n t)) :
    (mRow (Memref.whole main_v0_4) off' inb').view.write (Elt F) fd
      (ReadAs.same.apply ((bRow (Memref.whole cc2_scratch1) off inb).view.read (Elt F) w)) Finset.univ i = scat n f w i := by
  rw [scat_of_eq hn f w i t (mem_mset.mp hi).symm]
  rw [← mRow_setO (inb := inb') h'] at hi
  obtain ⟨x, rfl⟩ := emb_of_mem _ hi
  rw [View.write_emb_of_mem _ _ (Finset.mem_univ x)]
  obtain ⟨a0, a1, a2⟩ := row_coord (A := 256) inb _ h (Shape.reshapeEquiv (s := S1x16x32) (s' := S16x32) rfl x)
  obtain ⟨b0, b1, b2⟩ := row_coord (A := 100000) inb' _ h' (Shape.reshapeEquiv (s := S1x16x32) (s' := S16x32) rfl x)
  show w ((Rect.unit (s := ⟨3, ![256, 16, 32]⟩) off S1x16x32.size inb).emb (Shape.reshapeEquiv (s := S1x16x32) (s' := S16x32) rfl x)) = _
  exact congrArg w (at3_ext a0 (a1.trans b1.symm) (a2.trans b2.symm))

/-! ## The arrays as their rows -/

variable (c : Dev nD)

/-- A buffer of 256 rows held whole is its rows held. -/
theorem split0 (f : S256x16x32.Idx → Elt F .f32) :
    (pt c (Memref.whole cc2_scratch0) f : sProp 𝕄)
      = bigSep Finset.univ fun t => (Memref.whole cc2_scratch0 : Memref sig .tc .vmem S256x16x32 .f32).view.loc (c : Thread nD τ) ↦[bset t]{fullShare} f :=
  Ring.pointsTo_blocks (ℓ := (Memref.whole cc2_scratch0 : Memref sig .tc .vmem S256x16x32 .f32).view.loc (c : Thread nD τ)) (q := fullShare) bset bset_disjoint bset_cover f
theorem split1 (f : S256x16x32.Idx → Elt F .f32) :
    (pt c (Memref.whole cc2_scratch1) f : sProp 𝕄)
      = bigSep Finset.univ fun t => (Memref.whole cc2_scratch1 : Memref sig .tc .vmem S256x16x32 .f32).view.loc (c : Thread nD τ) ↦[bset t]{fullShare} f :=
  Ring.pointsTo_blocks (ℓ := (Memref.whole cc2_scratch1 : Memref sig .tc .vmem S256x16x32 .f32).view.loc (c : Thread nD τ)) (q := fullShare) bset bset_disjoint bset_cover f

/-- The memory's rows that no transfer names. -/
def mrest (n : Fin 256 → Fin 100000) : Finset S100000x16x32.Idx := (Finset.univ.biUnion fun t => mset (n t))ᶜ

theorem mem_mrest {n : Fin 256 → Fin 100000} {i : S100000x16x32.Idx} (h : i ∈ mrest n) (t : Fin 256) : n t ≠ i 0 := by
  unfold mrest at h
  rw [Finset.mem_compl, Finset.mem_biUnion] at h
  exact fun e => h ⟨t, Finset.mem_univ _, mem_mset.mpr e.symm⟩

/-- The memory held whole is the rows the transfers name, held, and the rest. -/
theorem split4 {n : Fin 256 → Fin 100000} (hn : Function.Injective n) (f : S100000x16x32.Idx → Elt F .f32) :
    (pt c (Memref.whole main_arg4) f : sProp 𝕄)
      ⊣⊢ iprop((bigSep Finset.univ fun t => (Memref.whole main_arg4 : Memref sig .tc .hbm S100000x16x32 .f32).view.loc (c : Thread nD τ) ↦[mset (n t)]{fullShare} f)
        ∗ ((Memref.whole main_arg4 : Memref sig .tc .hbm S100000x16x32 .f32).view.loc (c : Thread nD τ) ↦[mrest n]{fullShare} f)) := by
  have h := pointsTo_union (ℓ := (Memref.whole main_arg4 : Memref sig .tc .hbm S100000x16x32 .f32).view.loc (c : Thread nD τ)) (q := fullShare) (f := f) (Ix := Unit) (Name := ℕ) (U := UU) (Lvl := ℕ)
    (I := Finset.univ.biUnion fun t => mset (n t)) (J := mrest n) disjoint_compl_right
  rw [← pointsTo_biUnion (ℓ := (Memref.whole main_arg4 : Memref sig .tc .hbm S100000x16x32 .f32).view.loc (c : Thread nD τ)) Finset.univ (fun t => mset (n t)) (fun b _ b' _ h => mset_disjoint (hn.ne h))]
  unfold mrest at h
  rw [Finset.union_compl] at h
  exact h
theorem splitO {n : Fin 256 → Fin 100000} (hn : Function.Injective n) (f : S100000x16x32.Idx → Elt F .f32) :
    (pt c (Memref.whole main_v0_4) f : sProp 𝕄)
      ⊣⊢ iprop((bigSep Finset.univ fun t => (Memref.whole main_v0_4 : Memref sig .tc .hbm S100000x16x32 .f32).view.loc (c : Thread nD τ) ↦[mset (n t)]{fullShare} f)
        ∗ ((Memref.whole main_v0_4 : Memref sig .tc .hbm S100000x16x32 .f32).view.loc (c : Thread nD τ) ↦[mrest n]{fullShare} f)) := by
  have h := pointsTo_union (ℓ := (Memref.whole main_v0_4 : Memref sig .tc .hbm S100000x16x32 .f32).view.loc (c : Thread nD τ)) (q := fullShare) (f := f) (Ix := Unit) (Name := ℕ) (U := UU) (Lvl := ℕ)
    (I := Finset.univ.biUnion fun t => mset (n t)) (J := mrest n) disjoint_compl_right
  rw [← pointsTo_biUnion (ℓ := (Memref.whole main_v0_4 : Memref sig .tc .hbm S100000x16x32 .f32).view.loc (c : Thread nD τ)) Finset.univ (fun t => mset (n t)) (fun b _ b' _ h => mset_disjoint (hn.ne h))]
  unfold mrest at h
  rw [Finset.union_compl] at h
  exact h

/-- The same of the held rows. -/
theorem gath_pt (n : Fin 256 → Fin 100000) (t : Fin 256) (off off' : Fin 3 → ℕ) (inb : ∀ a, off a + S1x16x32.size a ≤ S256x16x32.size a)
    (inb' : ∀ a, off' a + S1x16x32.size a ≤ S100000x16x32.size a) (h : off = ![t.val, 0, 0]) (h' : off' = ![(n t).val, 0, 0])
    (fd : S256x16x32.Idx → Elt F .f32) (f : S100000x16x32.Idx → Elt F .f32) :
    ((bRow (Memref.whole cc2_scratch0) off inb).view.loc (c : Thread nD τ) ↦[bset t]{fullShare}
      ((bRow (Memref.whole cc2_scratch0) off inb).view.write (Elt F) fd
        (ReadAs.same.apply ((mRow (Memref.whole main_arg4) off' inb').view.read (Elt F) f)) Finset.univ) : sProp 𝕄)
      ⊢ ((Memref.whole cc2_scratch0 : Memref sig .tc .vmem S256x16x32 .f32).view.loc (c : Thread nD τ) ↦[bset t]{fullShare} gath n f) :=
  Entails.of_eq (pointsTo_congr (ℓ := (Memref.whole cc2_scratch0 : Memref sig .tc .vmem S256x16x32 .f32).view.loc (c : Thread nD τ)) (g := gath n f)
    (gath_land n t off off' inb inb' h h' fd f))
theorem scat_pt {n : Fin 256 → Fin 100000} (hn : Function.Injective n) (t : Fin 256) (off off' : Fin 3 → ℕ) (inb : ∀ a, off a + S1x16x32.size a ≤ S256x16x32.size a)
    (inb' : ∀ a, off' a + S1x16x32.size a ≤ S100000x16x32.size a) (h : off = ![t.val, 0, 0]) (h' : off' = ![(n t).val, 0, 0])
    (fd f : S100000x16x32.Idx → Elt F .f32) (w : S256x16x32.Idx → Elt F .f32) :
    ((mRow (Memref.whole main_v0_4) off' inb').view.loc (c : Thread nD τ) ↦[mset (n t)]{fullShare}
      ((mRow (Memref.whole main_v0_4) off' inb').view.write (Elt F) fd
        (ReadAs.same.apply ((bRow (Memref.whole cc2_scratch1) off inb).view.read (Elt F) w)) Finset.univ) : sProp 𝕄)
      ⊢ ((Memref.whole main_v0_4 : Memref sig .tc .hbm S100000x16x32 .f32).view.loc (c : Thread nD τ) ↦[mset (n t)]{fullShare} scat n f w) :=
  Entails.of_eq (pointsTo_congr (ℓ := (Memref.whole main_v0_4 : Memref sig .tc .hbm S100000x16x32 .f32).view.loc (c : Thread nD τ)) (g := scat n f w)
    (scat_land hn t off off' inb inb' h h' fd f w))

/-- What one row's transfer credits. -/
theorem credit_row : RefSig.tileCredit S16x32 .f32 = 256 := by decide +kernel
theorem amount_row {sp : Space} (m : Memref sig .tc sp S16x32 .f32) (s : DmaSem sig) : m.view.amount (.dma s) = 256 := credit_row
theorem credit_row' {sp : Space} (m : Memref sig .tc sp S16x32 .f32) : m.view.dmaCredit = 256 := credit_row

end Cert.Proof.KernelIdeal

end
-- ==== Proof.Ideal.Copy.lean ====
/-
  The copy of the memory into the buffer that becomes its successor: forty transfers of 2500 rows each,
  started one after another, each on its own semaphore, then waited for in the same order.
-/
module

public import proofs.«01_k».proof.Proof.Ideal.Reg
public import proofs.«01_k».proof.Proof.Ideal.Rows
public import proofs.«01_k».proof.Proof.Gen.KernelIdeal.Skeleton
public import Idealize.ShloMosaic.Lib.WritesUnit

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ UU ℕ

/-- The copy's body over the buffers it is called with. -/
abbrev body1 : Prog (TpuEff nD τ sig (Elt F) Λ₀ .tc) PUnit :=
  cc1__copy_body (Memref.whole main_arg4) (Memref.isWhole_whole _) (Memref.whole main_call0_v17) (Memref.isWhole_whole _) cc1_scratch0

/-- The forty semaphores of the copy. -/
abbrev sem1 (i : Fin 40) : SemLoc sig := .dma ⟨6 + i.val, by have := i.isLt; show 6 + i.val < 55; omega⟩

/-- A block of 2500 rows of the memory, as the transfers spell it. -/
abbrev cSl (M : Memref sig .tc .hbm S100000x16x32 .f32) (off : Fin 3 → ℕ) (inb : ∀ a, off a + S2500x16x32.size a ≤ S100000x16x32.size a) :
    Memref sig .tc .hbm S2500x16x32 .f32 := M.slice (Rect.unit (s := S100000x16x32) off S2500x16x32.size inb) (fun _ => rfl)

/-- The rows of block `k`. -/
def cset (k : Fin 40) : Finset S100000x16x32.Idx := Finset.univ.filter fun i => (i 0).val / 2500 = k.val

theorem mem_cset {k : Fin 40} {i : S100000x16x32.Idx} : i ∈ cset k ↔ (i 0).val / 2500 = k.val := by simp [cset]
theorem cset_disjoint : ∀ b b' : Fin 40, b ≠ b' → Disjoint (cset b) (cset b') := fun b b' hne => by
  rw [Finset.disjoint_left]; intro y hy hy'; rw [mem_cset] at hy hy'; exact hne (Fin.ext (hy.symm.trans hy'))
theorem cset_cover : Finset.univ.biUnion cset = Finset.univ := by
  ext y; simp only [Finset.mem_biUnion, Finset.mem_univ, true_and, iff_true]
  have h : (y 0).val < 100000 := (y 0).isLt
  exact ⟨⟨(y 0).val / 2500, by omega⟩, mem_cset.mpr rfl⟩

/-- A unit rectangle of 2500 rows is its block. -/
theorem unit_cset {off : Fin 3 → ℕ} (inb : ∀ a, off a + S2500x16x32.size a ≤ S100000x16x32.size a) (k : Fin 40) (h : off = ![2500 * k.val, 0, 0]) :
    (Rect.unit (s := S100000x16x32) off S2500x16x32.size inb).set = cset k := by
  subst h
  ext y; rw [Rect.mem_set_unit, mem_cset]
  have h1 : (y 1).val < 16 := (y 1).isLt
  have h2 : (y 2).val < 32 := (y 2).isLt
  constructor
  · intro H; have a0 : 2500 * k.val ≤ (y 0).val ∧ (y 0).val < 2500 * k.val + 2500 := H 0; omega
  · intro H a
    fin_cases a
    · show 2500 * k.val ≤ (y 0).val ∧ (y 0).val < 2500 * k.val + 2500; omega
    · show 0 ≤ (y 1).val ∧ (y 1).val < 0 + 16; omega
    · show 0 ≤ (y 2).val ∧ (y 2).val < 0 + 32; omega

variable (c : Dev nD)

/-- Block `k` of the memory, and of its copy, held. -/
abbrev blk4 (f : Bf (F := F) c (Memref.whole main_arg4)) (k : Fin 40) : sProp 𝕄 :=
  (Memref.whole main_arg4 : Memref sig .tc .hbm S100000x16x32 .f32).view.loc (c : Thread nD τ) ↦[cset k]{fullShare} f
abbrev blkO (f : Bf (F := F) c (Memref.whole main_call0_v17)) (k : Fin 40) : sProp 𝕄 :=
  (Memref.whole main_call0_v17 : Memref sig .tc .hbm S100000x16x32 .f32).view.loc (c : Thread nD τ) ↦[cset k]{fullShare} f

theorem csplit4 (f : Bf (F := F) c (Memref.whole main_arg4)) : (pt c (Memref.whole main_arg4) f : sProp 𝕄) = bigSep Finset.univ (blk4 c f) :=
  Ring.pointsTo_blocks (ℓ := (Memref.whole main_arg4 : Memref sig .tc .hbm S100000x16x32 .f32).view.loc (c : Thread nD τ)) (q := fullShare) cset cset_disjoint cset_cover f
theorem csplitO (f : Bf (F := F) c (Memref.whole main_call0_v17)) : (pt c (Memref.whole main_call0_v17) f : sProp 𝕄) = bigSep Finset.univ (blkO c f) :=
  Ring.pointsTo_blocks (ℓ := (Memref.whole main_call0_v17 : Memref sig .tc .hbm S100000x16x32 .f32).view.loc (c : Thread nD τ)) (q := fullShare) cset cset_disjoint cset_cover f

theorem cSl_set4 {off : Fin 3 → ℕ} {inb : ∀ a, off a + S2500x16x32.size a ≤ S100000x16x32.size a} {k : Fin 40} (h : off = ![2500 * k.val, 0, 0]) :
    (cSl (Memref.whole main_arg4) off inb).view.set = cset k := (View.set_slice_whole _ _).trans (unit_cset inb k h)
theorem cSl_setO {off : Fin 3 → ℕ} {inb : ∀ a, off a + S2500x16x32.size a ≤ S100000x16x32.size a} {k : Fin 40} (h : off = ![2500 * k.val, 0, 0]) :
    (cSl (Memref.whole main_call0_v17) off inb).view.set = cset k := (View.set_slice_whole _ _).trans (unit_cset inb k h)

/-- The block held, in the transfers' spelling. -/
theorem cown4 (off : Fin 3 → ℕ) (inb : ∀ a, off a + S2500x16x32.size a ≤ S100000x16x32.size a) (k : Fin 40) (h : off = ![2500 * k.val, 0, 0]) (f : Bf (F := F) c (Memref.whole main_arg4)) :
    (blk4 c f k : sProp 𝕄) = ((cSl (Memref.whole main_arg4) off inb).view.loc (c : Thread nD τ) ↦[(cSl (Memref.whole main_arg4) off inb).view.set]{fullShare} f) := by
  rw [cSl_set4 h]
theorem cownO (off : Fin 3 → ℕ) (inb : ∀ a, off a + S2500x16x32.size a ≤ S100000x16x32.size a) (k : Fin 40) (h : off = ![2500 * k.val, 0, 0]) (f : Bf (F := F) c (Memref.whole main_call0_v17)) :
    (blkO c f k : sProp 𝕄) = ((cSl (Memref.whole main_call0_v17) off inb).view.loc (c : Thread nD τ) ↦[(cSl (Memref.whole main_call0_v17) off inb).view.set]{fullShare} f) := by
  rw [cSl_setO h]

/-- A block of the copy that reads as the memory's block holds the memory's elements. -/
theorem land1 (off : Fin 3 → ℕ) (inb : ∀ a, off a + S2500x16x32.size a ≤ S100000x16x32.size a)
    (f : Bf (F := F) c (Memref.whole main_arg4)) (h : Bf (F := F) c (Memref.whole main_call0_v17)) (x : S2500x16x32.Idx)
    (hx : (cSl (Memref.whole main_call0_v17) off inb).view.read (Elt F) h x = (cSl (Memref.whole main_arg4) off inb).view.read (Elt F) f x) :
    h ((cSl (Memref.whole main_call0_v17) off inb).view.emb x) = (show Bf (F := F) c (Memref.whole main_call0_v17) from f) ((cSl (Memref.whole main_call0_v17) off inb).view.emb x) := hx

theorem land2 (off : Fin 3 → ℕ) (inb : ∀ a, off a + S2500x16x32.size a ≤ S100000x16x32.size a)
    (f : Bf (F := F) c (Memref.whole main_arg4)) (h : Bf (F := F) c (Memref.whole main_call0_v17))
    (hx : (cSl (Memref.whole main_call0_v17) off inb).view.read (Elt F) h = (cSl (Memref.whole main_arg4) off inb).view.read (Elt F) f)
    (i : (Memref.whole main_call0_v17 : Memref sig .tc .hbm S100000x16x32 .f32).view.ty.shape.Idx) (hi : i ∈ (cSl (Memref.whole main_call0_v17) off inb).view.set) :
    h i = (show Bf (F := F) c (Memref.whole main_call0_v17) from f) i := by
  obtain ⟨x, rfl⟩ := emb_of_mem _ hi
  exact land1 c off inb f h x (congrFun hx x)

/-- What a transfer leaves on its block: the memory's own. -/
theorem cland (off : Fin 3 → ℕ) (inb : ∀ a, off a + S2500x16x32.size a ≤ S100000x16x32.size a) (k : Fin 40) (h : off = ![2500 * k.val, 0, 0])
    (f : Bf (F := F) c (Memref.whole main_arg4)) (fO : Bf (F := F) c (Memref.whole main_call0_v17)) (d : S2500x16x32.Idx → Elt F .f32)
    (hd : d = ReadAs.same.apply ((cSl (Memref.whole main_arg4) off inb).view.read (Elt F) f)) :
    ((cSl (Memref.whole main_call0_v17) off inb).view.loc (c : Thread nD τ) ↦[(cSl (Memref.whole main_call0_v17) off inb).view.set]{fullShare}
      ((cSl (Memref.whole main_call0_v17) off inb).view.writes (Elt F) fO [⟨Rect.whole S2500x16x32, d⟩]) : sProp 𝕄)
      ⊢ blkO c f k := by
  rw [cownO c off inb k h]
  exact Entails.of_eq (pointsTo_congr (ℓ := (cSl (Memref.whole main_call0_v17) off inb).view.loc (c : Thread nD τ)) (g := (show Bf (F := F) c (Memref.whole main_call0_v17) from f))
    fun i hi => land2 c off inb f _ ((View.read_writes_whole (Val := Elt F) (cSl (Memref.whole main_call0_v17) off inb).view fO d).trans hd) i hi)

theorem csem (k : Fin 40) (d : DmaSem sig) (h : sem1 k = .dma d) :
    (semVal ((c : Thread nD τ), sem1 k) 0 : sProp 𝕄) = semVal ((c : Thread nD τ), (.dma d : SemLoc sig)) 0 := by rw [h]

theorem bigSep40 {M : Type} [URA M] (Φ : Fin 40 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39) :=
  bigSep_univ_eq_bigSepL [(0 : Fin 40), (1 : Fin 40), (2 : Fin 40), (3 : Fin 40), (4 : Fin 40), (5 : Fin 40), (6 : Fin 40), (7 : Fin 40), (8 : Fin 40), (9 : Fin 40), (10 : Fin 40), (11 : Fin 40), (12 : Fin 40), (13 : Fin 40), (14 : Fin 40), (15 : Fin 40), (16 : Fin 40), (17 : Fin 40), (18 : Fin 40), (19 : Fin 40), (20 : Fin 40), (21 : Fin 40), (22 : Fin 40), (23 : Fin 40), (24 : Fin 40), (25 : Fin 40), (26 : Fin 40), (27 : Fin 40), (28 : Fin 40), (29 : Fin 40), (30 : Fin 40), (31 : Fin 40), (32 : Fin 40), (33 : Fin 40), (34 : Fin 40), (35 : Fin 40), (36 : Fin 40), (37 : Fin 40), (38 : Fin 40), (39 : Fin 40)] (by decide) (by decide) Φ

set_option maxHeartbeats 8000000 in
theorem body1_blocks [∀ e, Nonempty (Elt F e)] (f4 : Bf (F := F) c (Memref.whole main_arg4)) (fO : Bf (F := F) c (Memref.whole main_call0_v17)) (W) :
    (iprop(owes (c : Thread nD τ) (0 : CellTallies nD τ sig Unit) W ∗ bigSep Finset.univ fun k => iprop(blk4 c f4 k ∗ blkO c fO k ∗ semVal ((c : Thread nD τ), sem1 k) 0)) : sProp 𝕄)
    ⊢ wp frame (wpE (defs₀ (F := F)) 𝒱₀ c none) Set.univ (body1 (F := F)) (fun _ => iprop((∃ W, owes (c : Thread nD τ) (0 : CellTallies nD τ sig Unit) W)
      ∗ bigSep Finset.univ fun k => iprop(blk4 c f4 k ∗ blkO c f4 k ∗ semVal ((c : Thread nD τ), sem1 k) 0))) := by
  rw [bigSep40, bigSep40]
  iintro ⟨HW, ⟨H0, O0, S0⟩, ⟨H1, O1, S1⟩, ⟨H2, O2, S2⟩, ⟨H3, O3, S3⟩, ⟨H4, O4, S4⟩, ⟨H5, O5, S5⟩, ⟨H6, O6, S6⟩, ⟨H7, O7, S7⟩, ⟨H8, O8, S8⟩, ⟨H9, O9, S9⟩, ⟨H10, O10, S10⟩, ⟨H11, O11, S11⟩, ⟨H12, O12, S12⟩, ⟨H13, O13, S13⟩, ⟨H14, O14, S14⟩, ⟨H15, O15, S15⟩, ⟨H16, O16, S16⟩, ⟨H17, O17, S17⟩, ⟨H18, O18, S18⟩, ⟨H19, O19, S19⟩, ⟨H20, O20, S20⟩, ⟨H21, O21, S21⟩, ⟨H22, O22, S22⟩, ⟨H23, O23, S23⟩, ⟨H24, O24, S24⟩, ⟨H25, O25, S25⟩, ⟨H26, O26, S26⟩, ⟨H27, O27, S27⟩, ⟨H28, O28, S28⟩, ⟨H29, O29, S29⟩, ⟨H30, O30, S30⟩, ⟨H31, O31, S31⟩, ⟨H32, O32, S32⟩, ⟨H33, O33, S33⟩, ⟨H34, O34, S34⟩, ⟨H35, O35, S35⟩, ⟨H36, O36, S36⟩, ⟨H37, O37, S37⟩, ⟨H38, O38, S38⟩, ⟨H39, O39, S39⟩⟩
  ihave H0 := (Entails.of_eq (cown4 c ![0, 0, 0] inb_S100000x16x32_S2500x16x32_0_0_0 0 rfl f4)) $$ H0
  ihave O0 := (Entails.of_eq (cownO c ![0, 0, 0] inb_S100000x16x32_S2500x16x32_0_0_0 0 rfl fO)) $$ O0
  ihave S0 := (Entails.of_eq (csem c 0 ⟨6, by decide⟩ rfl)) $$ S0
  ihave H1 := (Entails.of_eq (cown4 c ![2500, 0, 0] inb_S100000x16x32_S2500x16x32_2500_0_0 1 rfl f4)) $$ H1
  ihave O1 := (Entails.of_eq (cownO c ![2500, 0, 0] inb_S100000x16x32_S2500x16x32_2500_0_0 1 rfl fO)) $$ O1
  ihave S1 := (Entails.of_eq (csem c 1 ⟨7, by decide⟩ rfl)) $$ S1
  ihave H2 := (Entails.of_eq (cown4 c ![5000, 0, 0] inb_S100000x16x32_S2500x16x32_5000_0_0 2 rfl f4)) $$ H2
  ihave O2 := (Entails.of_eq (cownO c ![5000, 0, 0] inb_S100000x16x32_S2500x16x32_5000_0_0 2 rfl fO)) $$ O2
  ihave S2 := (Entails.of_eq (csem c 2 ⟨8, by decide⟩ rfl)) $$ S2
  ihave H3 := (Entails.of_eq (cown4 c ![7500, 0, 0] inb_S100000x16x32_S2500x16x32_7500_0_0 3 rfl f4)) $$ H3
  ihave O3 := (Entails.of_eq (cownO c ![7500, 0, 0] inb_S100000x16x32_S2500x16x32_7500_0_0 3 rfl fO)) $$ O3
  ihave S3 := (Entails.of_eq (csem c 3 ⟨9, by decide⟩ rfl)) $$ S3
  ihave H4 := (Entails.of_eq (cown4 c ![10000, 0, 0] inb_S100000x16x32_S2500x16x32_10000_0_0 4 rfl f4)) $$ H4
  ihave O4 := (Entails.of_eq (cownO c ![10000, 0, 0] inb_S100000x16x32_S2500x16x32_10000_0_0 4 rfl fO)) $$ O4
  ihave S4 := (Entails.of_eq (csem c 4 ⟨10, by decide⟩ rfl)) $$ S4
  ihave H5 := (Entails.of_eq (cown4 c ![12500, 0, 0] inb_S100000x16x32_S2500x16x32_12500_0_0 5 rfl f4)) $$ H5
  ihave O5 := (Entails.of_eq (cownO c ![12500, 0, 0] inb_S100000x16x32_S2500x16x32_12500_0_0 5 rfl fO)) $$ O5
  ihave S5 := (Entails.of_eq (csem c 5 ⟨11, by decide⟩ rfl)) $$ S5
  ihave H6 := (Entails.of_eq (cown4 c ![15000, 0, 0] inb_S100000x16x32_S2500x16x32_15000_0_0 6 rfl f4)) $$ H6
  ihave O6 := (Entails.of_eq (cownO c ![15000, 0, 0] inb_S100000x16x32_S2500x16x32_15000_0_0 6 rfl fO)) $$ O6
  ihave S6 := (Entails.of_eq (csem c 6 ⟨12, by decide⟩ rfl)) $$ S6
  ihave H7 := (Entails.of_eq (cown4 c ![17500, 0, 0] inb_S100000x16x32_S2500x16x32_17500_0_0 7 rfl f4)) $$ H7
  ihave O7 := (Entails.of_eq (cownO c ![17500, 0, 0] inb_S100000x16x32_S2500x16x32_17500_0_0 7 rfl fO)) $$ O7
  ihave S7 := (Entails.of_eq (csem c 7 ⟨13, by decide⟩ rfl)) $$ S7
  ihave H8 := (Entails.of_eq (cown4 c ![20000, 0, 0] inb_S100000x16x32_S2500x16x32_20000_0_0 8 rfl f4)) $$ H8
  ihave O8 := (Entails.of_eq (cownO c ![20000, 0, 0] inb_S100000x16x32_S2500x16x32_20000_0_0 8 rfl fO)) $$ O8
  ihave S8 := (Entails.of_eq (csem c 8 ⟨14, by decide⟩ rfl)) $$ S8
  ihave H9 := (Entails.of_eq (cown4 c ![22500, 0, 0] inb_S100000x16x32_S2500x16x32_22500_0_0 9 rfl f4)) $$ H9
  ihave O9 := (Entails.of_eq (cownO c ![22500, 0, 0] inb_S100000x16x32_S2500x16x32_22500_0_0 9 rfl fO)) $$ O9
  ihave S9 := (Entails.of_eq (csem c 9 ⟨15, by decide⟩ rfl)) $$ S9
  ihave H10 := (Entails.of_eq (cown4 c ![25000, 0, 0] inb_S100000x16x32_S2500x16x32_25000_0_0 10 rfl f4)) $$ H10
  ihave O10 := (Entails.of_eq (cownO c ![25000, 0, 0] inb_S100000x16x32_S2500x16x32_25000_0_0 10 rfl fO)) $$ O10
  ihave S10 := (Entails.of_eq (csem c 10 ⟨16, by decide⟩ rfl)) $$ S10
  ihave H11 := (Entails.of_eq (cown4 c ![27500, 0, 0] inb_S100000x16x32_S2500x16x32_27500_0_0 11 rfl f4)) $$ H11
  ihave O11 := (Entails.of_eq (cownO c ![27500, 0, 0] inb_S100000x16x32_S2500x16x32_27500_0_0 11 rfl fO)) $$ O11
  ihave S11 := (Entails.of_eq (csem c 11 ⟨17, by decide⟩ rfl)) $$ S11
  ihave H12 := (Entails.of_eq (cown4 c ![30000, 0, 0] inb_S100000x16x32_S2500x16x32_30000_0_0 12 rfl f4)) $$ H12
  ihave O12 := (Entails.of_eq (cownO c ![30000, 0, 0] inb_S100000x16x32_S2500x16x32_30000_0_0 12 rfl fO)) $$ O12
  ihave S12 := (Entails.of_eq (csem c 12 ⟨18, by decide⟩ rfl)) $$ S12
  ihave H13 := (Entails.of_eq (cown4 c ![32500, 0, 0] inb_S100000x16x32_S2500x16x32_32500_0_0 13 rfl f4)) $$ H13
  ihave O13 := (Entails.of_eq (cownO c ![32500, 0, 0] inb_S100000x16x32_S2500x16x32_32500_0_0 13 rfl fO)) $$ O13
  ihave S13 := (Entails.of_eq (csem c 13 ⟨19, by decide⟩ rfl)) $$ S13
  ihave H14 := (Entails.of_eq (cown4 c ![35000, 0, 0] inb_S100000x16x32_S2500x16x32_35000_0_0 14 rfl f4)) $$ H14
  ihave O14 := (Entails.of_eq (cownO c ![35000, 0, 0] inb_S100000x16x32_S2500x16x32_35000_0_0 14 rfl fO)) $$ O14
  ihave S14 := (Entails.of_eq (csem c 14 ⟨20, by decide⟩ rfl)) $$ S14
  ihave H15 := (Entails.of_eq (cown4 c ![37500, 0, 0] inb_S100000x16x32_S2500x16x32_37500_0_0 15 rfl f4)) $$ H15
  ihave O15 := (Entails.of_eq (cownO c ![37500, 0, 0] inb_S100000x16x32_S2500x16x32_37500_0_0 15 rfl fO)) $$ O15
  ihave S15 := (Entails.of_eq (csem c 15 ⟨21, by decide⟩ rfl)) $$ S15
  ihave H16 := (Entails.of_eq (cown4 c ![40000, 0, 0] inb_S100000x16x32_S2500x16x32_40000_0_0 16 rfl f4)) $$ H16
  ihave O16 := (Entails.of_eq (cownO c ![40000, 0, 0] inb_S100000x16x32_S2500x16x32_40000_0_0 16 rfl fO)) $$ O16
  ihave S16 := (Entails.of_eq (csem c 16 ⟨22, by decide⟩ rfl)) $$ S16
  ihave H17 := (Entails.of_eq (cown4 c ![42500, 0, 0] inb_S100000x16x32_S2500x16x32_42500_0_0 17 rfl f4)) $$ H17
  ihave O17 := (Entails.of_eq (cownO c ![42500, 0, 0] inb_S100000x16x32_S2500x16x32_42500_0_0 17 rfl fO)) $$ O17
  ihave S17 := (Entails.of_eq (csem c 17 ⟨23, by decide⟩ rfl)) $$ S17
  ihave H18 := (Entails.of_eq (cown4 c ![45000, 0, 0] inb_S100000x16x32_S2500x16x32_45000_0_0 18 rfl f4)) $$ H18
  ihave O18 := (Entails.of_eq (cownO c ![45000, 0, 0] inb_S100000x16x32_S2500x16x32_45000_0_0 18 rfl fO)) $$ O18
  ihave S18 := (Entails.of_eq (csem c 18 ⟨24, by decide⟩ rfl)) $$ S18
  ihave H19 := (Entails.of_eq (cown4 c ![47500, 0, 0] inb_S100000x16x32_S2500x16x32_47500_0_0 19 rfl f4)) $$ H19
  ihave O19 := (Entails.of_eq (cownO c ![47500, 0, 0] inb_S100000x16x32_S2500x16x32_47500_0_0 19 rfl fO)) $$ O19
  ihave S19 := (Entails.of_eq (csem c 19 ⟨25, by decide⟩ rfl)) $$ S19
  ihave H20 := (Entails.of_eq (cown4 c ![50000, 0, 0] inb_S100000x16x32_S2500x16x32_50000_0_0 20 rfl f4)) $$ H20
  ihave O20 := (Entails.of_eq (cownO c ![50000, 0, 0] inb_S100000x16x32_S2500x16x32_50000_0_0 20 rfl fO)) $$ O20
  ihave S20 := (Entails.of_eq (csem c 20 ⟨26, by decide⟩ rfl)) $$ S20
  ihave H21 := (Entails.of_eq (cown4 c ![52500, 0, 0] inb_S100000x16x32_S2500x16x32_52500_0_0 21 rfl f4)) $$ H21
  ihave O21 := (Entails.of_eq (cownO c ![52500, 0, 0] inb_S100000x16x32_S2500x16x32_52500_0_0 21 rfl fO)) $$ O21
  ihave S21 := (Entails.of_eq (csem c 21 ⟨27, by decide⟩ rfl)) $$ S21
  ihave H22 := (Entails.of_eq (cown4 c ![55000, 0, 0] inb_S100000x16x32_S2500x16x32_55000_0_0 22 rfl f4)) $$ H22
  ihave O22 := (Entails.of_eq (cownO c ![55000, 0, 0] inb_S100000x16x32_S2500x16x32_55000_0_0 22 rfl fO)) $$ O22
  ihave S22 := (Entails.of_eq (csem c 22 ⟨28, by decide⟩ rfl)) $$ S22
  ihave H23 := (Entails.of_eq (cown4 c ![57500, 0, 0] inb_S100000x16x32_S2500x16x32_57500_0_0 23 rfl f4)) $$ H23
  ihave O23 := (Entails.of_eq (cownO c ![57500, 0, 0] inb_S100000x16x32_S2500x16x32_57500_0_0 23 rfl fO)) $$ O23
  ihave S23 := (Entails.of_eq (csem c 23 ⟨29, by decide⟩ rfl)) $$ S23
  ihave H24 := (Entails.of_eq (cown4 c ![60000, 0, 0] inb_S100000x16x32_S2500x16x32_60000_0_0 24 rfl f4)) $$ H24
  ihave O24 := (Entails.of_eq (cownO c ![60000, 0, 0] inb_S100000x16x32_S2500x16x32_60000_0_0 24 rfl fO)) $$ O24
  ihave S24 := (Entails.of_eq (csem c 24 ⟨30, by decide⟩ rfl)) $$ S24
  ihave H25 := (Entails.of_eq (cown4 c ![62500, 0, 0] inb_S100000x16x32_S2500x16x32_62500_0_0 25 rfl f4)) $$ H25
  ihave O25 := (Entails.of_eq (cownO c ![62500, 0, 0] inb_S100000x16x32_S2500x16x32_62500_0_0 25 rfl fO)) $$ O25
  ihave S25 := (Entails.of_eq (csem c 25 ⟨31, by decide⟩ rfl)) $$ S25
  ihave H26 := (Entails.of_eq (cown4 c ![65000, 0, 0] inb_S100000x16x32_S2500x16x32_65000_0_0 26 rfl f4)) $$ H26
  ihave O26 := (Entails.of_eq (cownO c ![65000, 0, 0] inb_S100000x16x32_S2500x16x32_65000_0_0 26 rfl fO)) $$ O26
  ihave S26 := (Entails.of_eq (csem c 26 ⟨32, by decide⟩ rfl)) $$ S26
  ihave H27 := (Entails.of_eq (cown4 c ![67500, 0, 0] inb_S100000x16x32_S2500x16x32_67500_0_0 27 rfl f4)) $$ H27
  ihave O27 := (Entails.of_eq (cownO c ![67500, 0, 0] inb_S100000x16x32_S2500x16x32_67500_0_0 27 rfl fO)) $$ O27
  ihave S27 := (Entails.of_eq (csem c 27 ⟨33, by decide⟩ rfl)) $$ S27
  ihave H28 := (Entails.of_eq (cown4 c ![70000, 0, 0] inb_S100000x16x32_S2500x16x32_70000_0_0 28 rfl f4)) $$ H28
  ihave O28 := (Entails.of_eq (cownO c ![70000, 0, 0] inb_S100000x16x32_S2500x16x32_70000_0_0 28 rfl fO)) $$ O28
  ihave S28 := (Entails.of_eq (csem c 28 ⟨34, by decide⟩ rfl)) $$ S28
  ihave H29 := (Entails.of_eq (cown4 c ![72500, 0, 0] inb_S100000x16x32_S2500x16x32_72500_0_0 29 rfl f4)) $$ H29
  ihave O29 := (Entails.of_eq (cownO c ![72500, 0, 0] inb_S100000x16x32_S2500x16x32_72500_0_0 29 rfl fO)) $$ O29
  ihave S29 := (Entails.of_eq (csem c 29 ⟨35, by decide⟩ rfl)) $$ S29
  ihave H30 := (Entails.of_eq (cown4 c ![75000, 0, 0] inb_S100000x16x32_S2500x16x32_75000_0_0 30 rfl f4)) $$ H30
  ihave O30 := (Entails.of_eq (cownO c ![75000, 0, 0] inb_S100000x16x32_S2500x16x32_75000_0_0 30 rfl fO)) $$ O30
  ihave S30 := (Entails.of_eq (csem c 30 ⟨36, by decide⟩ rfl)) $$ S30
  ihave H31 := (Entails.of_eq (cown4 c ![77500, 0, 0] inb_S100000x16x32_S2500x16x32_77500_0_0 31 rfl f4)) $$ H31
  ihave O31 := (Entails.of_eq (cownO c ![77500, 0, 0] inb_S100000x16x32_S2500x16x32_77500_0_0 31 rfl fO)) $$ O31
  ihave S31 := (Entails.of_eq (csem c 31 ⟨37, by decide⟩ rfl)) $$ S31
  ihave H32 := (Entails.of_eq (cown4 c ![80000, 0, 0] inb_S100000x16x32_S2500x16x32_80000_0_0 32 rfl f4)) $$ H32
  ihave O32 := (Entails.of_eq (cownO c ![80000, 0, 0] inb_S100000x16x32_S2500x16x32_80000_0_0 32 rfl fO)) $$ O32
  ihave S32 := (Entails.of_eq (csem c 32 ⟨38, by decide⟩ rfl)) $$ S32
  ihave H33 := (Entails.of_eq (cown4 c ![82500, 0, 0] inb_S100000x16x32_S2500x16x32_82500_0_0 33 rfl f4)) $$ H33
  ihave O33 := (Entails.of_eq (cownO c ![82500, 0, 0] inb_S100000x16x32_S2500x16x32_82500_0_0 33 rfl fO)) $$ O33
  ihave S33 := (Entails.of_eq (csem c 33 ⟨39, by decide⟩ rfl)) $$ S33
  ihave H34 := (Entails.of_eq (cown4 c ![85000, 0, 0] inb_S100000x16x32_S2500x16x32_85000_0_0 34 rfl f4)) $$ H34
  ihave O34 := (Entails.of_eq (cownO c ![85000, 0, 0] inb_S100000x16x32_S2500x16x32_85000_0_0 34 rfl fO)) $$ O34
  ihave S34 := (Entails.of_eq (csem c 34 ⟨40, by decide⟩ rfl)) $$ S34
  ihave H35 := (Entails.of_eq (cown4 c ![87500, 0, 0] inb_S100000x16x32_S2500x16x32_87500_0_0 35 rfl f4)) $$ H35
  ihave O35 := (Entails.of_eq (cownO c ![87500, 0, 0] inb_S100000x16x32_S2500x16x32_87500_0_0 35 rfl fO)) $$ O35
  ihave S35 := (Entails.of_eq (csem c 35 ⟨41, by decide⟩ rfl)) $$ S35
  ihave H36 := (Entails.of_eq (cown4 c ![90000, 0, 0] inb_S100000x16x32_S2500x16x32_90000_0_0 36 rfl f4)) $$ H36
  ihave O36 := (Entails.of_eq (cownO c ![90000, 0, 0] inb_S100000x16x32_S2500x16x32_90000_0_0 36 rfl fO)) $$ O36
  ihave S36 := (Entails.of_eq (csem c 36 ⟨42, by decide⟩ rfl)) $$ S36
  ihave H37 := (Entails.of_eq (cown4 c ![92500, 0, 0] inb_S100000x16x32_S2500x16x32_92500_0_0 37 rfl f4)) $$ H37
  ihave O37 := (Entails.of_eq (cownO c ![92500, 0, 0] inb_S100000x16x32_S2500x16x32_92500_0_0 37 rfl fO)) $$ O37
  ihave S37 := (Entails.of_eq (csem c 37 ⟨43, by decide⟩ rfl)) $$ S37
  ihave H38 := (Entails.of_eq (cown4 c ![95000, 0, 0] inb_S100000x16x32_S2500x16x32_95000_0_0 38 rfl f4)) $$ H38
  ihave O38 := (Entails.of_eq (cownO c ![95000, 0, 0] inb_S100000x16x32_S2500x16x32_95000_0_0 38 rfl fO)) $$ O38
  ihave S38 := (Entails.of_eq (csem c 38 ⟨44, by decide⟩ rfl)) $$ S38
  ihave H39 := (Entails.of_eq (cown4 c ![97500, 0, 0] inb_S100000x16x32_S2500x16x32_97500_0_0 39 rfl f4)) $$ H39
  ihave O39 := (Entails.of_eq (cownO c ![97500, 0, 0] inb_S100000x16x32_S2500x16x32_97500_0_0 39 rfl fO)) $$ O39
  ihave S39 := (Entails.of_eq (csem c 39 ⟨45, by decide⟩ rfl)) $$ S39
  unfold body1
  sl_unfold [cc1__copy_body]
  sl_exec
  sl_step
  isplitl [HW]; · iexists _; iexact HW
  isplitl [H0 O0 S0]
  · isplitl [H0]; · iapply (Entails.of_eq (cown4 c ![0, 0, 0] inb_S100000x16x32_S2500x16x32_0_0_0 0 rfl f4).symm) $$ H0
    isplitl [O0]; · iapply (cland c ![0, 0, 0] inb_S100000x16x32_S2500x16x32_0_0_0 0 rfl f4 fO (body1_blocks.sl.dma0 c f4) rfl) $$ O0
    iapply (Entails.of_eq (csem c 0 ⟨6, of_decide_eq_true rfl⟩ rfl).symm) $$ S0
  isplitl [H1 O1 S1]
  · isplitl [H1]; · iapply (Entails.of_eq (cown4 c ![2500, 0, 0] inb_S100000x16x32_S2500x16x32_2500_0_0 1 rfl f4).symm) $$ H1
    isplitl [O1]; · iapply (cland c ![2500, 0, 0] inb_S100000x16x32_S2500x16x32_2500_0_0 1 rfl f4 fO (body1_blocks.sl.dma0_1 c f4) rfl) $$ O1
    iapply (Entails.of_eq (csem c 1 ⟨7, of_decide_eq_true rfl⟩ rfl).symm) $$ S1
  isplitl [H2 O2 S2]
  · isplitl [H2]; · iapply (Entails.of_eq (cown4 c ![5000, 0, 0] inb_S100000x16x32_S2500x16x32_5000_0_0 2 rfl f4).symm) $$ H2
    isplitl [O2]; · iapply (cland c ![5000, 0, 0] inb_S100000x16x32_S2500x16x32_5000_0_0 2 rfl f4 fO (body1_blocks.sl.dma0_2 c f4) rfl) $$ O2
    iapply (Entails.of_eq (csem c 2 ⟨8, of_decide_eq_true rfl⟩ rfl).symm) $$ S2
  isplitl [H3 O3 S3]
  · isplitl [H3]; · iapply (Entails.of_eq (cown4 c ![7500, 0, 0] inb_S100000x16x32_S2500x16x32_7500_0_0 3 rfl f4).symm) $$ H3
    isplitl [O3]; · iapply (cland c ![7500, 0, 0] inb_S100000x16x32_S2500x16x32_7500_0_0 3 rfl f4 fO (body1_blocks.sl.dma0_3 c f4) rfl) $$ O3
    iapply (Entails.of_eq (csem c 3 ⟨9, of_decide_eq_true rfl⟩ rfl).symm) $$ S3
  isplitl [H4 O4 S4]
  · isplitl [H4]; · iapply (Entails.of_eq (cown4 c ![10000, 0, 0] inb_S100000x16x32_S2500x16x32_10000_0_0 4 rfl f4).symm) $$ H4
    isplitl [O4]; · iapply (cland c ![10000, 0, 0] inb_S100000x16x32_S2500x16x32_10000_0_0 4 rfl f4 fO (body1_blocks.sl.dma0_4 c f4) rfl) $$ O4
    iapply (Entails.of_eq (csem c 4 ⟨10, of_decide_eq_true rfl⟩ rfl).symm) $$ S4
  isplitl [H5 O5 S5]
  · isplitl [H5]; · iapply (Entails.of_eq (cown4 c ![12500, 0, 0] inb_S100000x16x32_S2500x16x32_12500_0_0 5 rfl f4).symm) $$ H5
    isplitl [O5]; · iapply (cland c ![12500, 0, 0] inb_S100000x16x32_S2500x16x32_12500_0_0 5 rfl f4 fO (body1_blocks.sl.dma0_5 c f4) rfl) $$ O5
    iapply (Entails.of_eq (csem c 5 ⟨11, of_decide_eq_true rfl⟩ rfl).symm) $$ S5
  isplitl [H6 O6 S6]
  · isplitl [H6]; · iapply (Entails.of_eq (cown4 c ![15000, 0, 0] inb_S100000x16x32_S2500x16x32_15000_0_0 6 rfl f4).symm) $$ H6
    isplitl [O6]; · iapply (cland c ![15000, 0, 0] inb_S100000x16x32_S2500x16x32_15000_0_0 6 rfl f4 fO (body1_blocks.sl.dma0_6 c f4) rfl) $$ O6
    iapply (Entails.of_eq (csem c 6 ⟨12, of_decide_eq_true rfl⟩ rfl).symm) $$ S6
  isplitl [H7 O7 S7]
  · isplitl [H7]; · iapply (Entails.of_eq (cown4 c ![17500, 0, 0] inb_S100000x16x32_S2500x16x32_17500_0_0 7 rfl f4).symm) $$ H7
    isplitl [O7]; · iapply (cland c ![17500, 0, 0] inb_S100000x16x32_S2500x16x32_17500_0_0 7 rfl f4 fO (body1_blocks.sl.dma0_7 c f4) rfl) $$ O7
    iapply (Entails.of_eq (csem c 7 ⟨13, of_decide_eq_true rfl⟩ rfl).symm) $$ S7
  isplitl [H8 O8 S8]
  · isplitl [H8]; · iapply (Entails.of_eq (cown4 c ![20000, 0, 0] inb_S100000x16x32_S2500x16x32_20000_0_0 8 rfl f4).symm) $$ H8
    isplitl [O8]; · iapply (cland c ![20000, 0, 0] inb_S100000x16x32_S2500x16x32_20000_0_0 8 rfl f4 fO (body1_blocks.sl.dma0_8 c f4) rfl) $$ O8
    iapply (Entails.of_eq (csem c 8 ⟨14, of_decide_eq_true rfl⟩ rfl).symm) $$ S8
  isplitl [H9 O9 S9]
  · isplitl [H9]; · iapply (Entails.of_eq (cown4 c ![22500, 0, 0] inb_S100000x16x32_S2500x16x32_22500_0_0 9 rfl f4).symm) $$ H9
    isplitl [O9]; · iapply (cland c ![22500, 0, 0] inb_S100000x16x32_S2500x16x32_22500_0_0 9 rfl f4 fO (body1_blocks.sl.dma0_9 c f4) rfl) $$ O9
    iapply (Entails.of_eq (csem c 9 ⟨15, of_decide_eq_true rfl⟩ rfl).symm) $$ S9
  isplitl [H10 O10 S10]
  · isplitl [H10]; · iapply (Entails.of_eq (cown4 c ![25000, 0, 0] inb_S100000x16x32_S2500x16x32_25000_0_0 10 rfl f4).symm) $$ H10
    isplitl [O10]; · iapply (cland c ![25000, 0, 0] inb_S100000x16x32_S2500x16x32_25000_0_0 10 rfl f4 fO (body1_blocks.sl.dma0_10 c f4) rfl) $$ O10
    iapply (Entails.of_eq (csem c 10 ⟨16, of_decide_eq_true rfl⟩ rfl).symm) $$ S10
  isplitl [H11 O11 S11]
  · isplitl [H11]; · iapply (Entails.of_eq (cown4 c ![27500, 0, 0] inb_S100000x16x32_S2500x16x32_27500_0_0 11 rfl f4).symm) $$ H11
    isplitl [O11]; · iapply (cland c ![27500, 0, 0] inb_S100000x16x32_S2500x16x32_27500_0_0 11 rfl f4 fO (body1_blocks.sl.dma0_11 c f4) rfl) $$ O11
    iapply (Entails.of_eq (csem c 11 ⟨17, of_decide_eq_true rfl⟩ rfl).symm) $$ S11
  isplitl [H12 O12 S12]
  · isplitl [H12]; · iapply (Entails.of_eq (cown4 c ![30000, 0, 0] inb_S100000x16x32_S2500x16x32_30000_0_0 12 rfl f4).symm) $$ H12
    isplitl [O12]; · iapply (cland c ![30000, 0, 0] inb_S100000x16x32_S2500x16x32_30000_0_0 12 rfl f4 fO (body1_blocks.sl.dma0_12 c f4) rfl) $$ O12
    iapply (Entails.of_eq (csem c 12 ⟨18, of_decide_eq_true rfl⟩ rfl).symm) $$ S12
  isplitl [H13 O13 S13]
  · isplitl [H13]; · iapply (Entails.of_eq (cown4 c ![32500, 0, 0] inb_S100000x16x32_S2500x16x32_32500_0_0 13 rfl f4).symm) $$ H13
    isplitl [O13]; · iapply (cland c ![32500, 0, 0] inb_S100000x16x32_S2500x16x32_32500_0_0 13 rfl f4 fO (body1_blocks.sl.dma0_13 c f4) rfl) $$ O13
    iapply (Entails.of_eq (csem c 13 ⟨19, of_decide_eq_true rfl⟩ rfl).symm) $$ S13
  isplitl [H14 O14 S14]
  · isplitl [H14]; · iapply (Entails.of_eq (cown4 c ![35000, 0, 0] inb_S100000x16x32_S2500x16x32_35000_0_0 14 rfl f4).symm) $$ H14
    isplitl [O14]; · iapply (cland c ![35000, 0, 0] inb_S100000x16x32_S2500x16x32_35000_0_0 14 rfl f4 fO (body1_blocks.sl.dma0_14 c f4) rfl) $$ O14
    iapply (Entails.of_eq (csem c 14 ⟨20, of_decide_eq_true rfl⟩ rfl).symm) $$ S14
  isplitl [H15 O15 S15]
  · isplitl [H15]; · iapply (Entails.of_eq (cown4 c ![37500, 0, 0] inb_S100000x16x32_S2500x16x32_37500_0_0 15 rfl f4).symm) $$ H15
    isplitl [O15]; · iapply (cland c ![37500, 0, 0] inb_S100000x16x32_S2500x16x32_37500_0_0 15 rfl f4 fO (body1_blocks.sl.dma0_15 c f4) rfl) $$ O15
    iapply (Entails.of_eq (csem c 15 ⟨21, of_decide_eq_true rfl⟩ rfl).symm) $$ S15
  isplitl [H16 O16 S16]
  · isplitl [H16]; · iapply (Entails.of_eq (cown4 c ![40000, 0, 0] inb_S100000x16x32_S2500x16x32_40000_0_0 16 rfl f4).symm) $$ H16
    isplitl [O16]; · iapply (cland c ![40000, 0, 0] inb_S100000x16x32_S2500x16x32_40000_0_0 16 rfl f4 fO (body1_blocks.sl.dma0_16 c f4) rfl) $$ O16
    iapply (Entails.of_eq (csem c 16 ⟨22, of_decide_eq_true rfl⟩ rfl).symm) $$ S16
  isplitl [H17 O17 S17]
  · isplitl [H17]; · iapply (Entails.of_eq (cown4 c ![42500, 0, 0] inb_S100000x16x32_S2500x16x32_42500_0_0 17 rfl f4).symm) $$ H17
    isplitl [O17]; · iapply (cland c ![42500, 0, 0] inb_S100000x16x32_S2500x16x32_42500_0_0 17 rfl f4 fO (body1_blocks.sl.dma0_17 c f4) rfl) $$ O17
    iapply (Entails.of_eq (csem c 17 ⟨23, of_decide_eq_true rfl⟩ rfl).symm) $$ S17
  isplitl [H18 O18 S18]
  · isplitl [H18]; · iapply (Entails.of_eq (cown4 c ![45000, 0, 0] inb_S100000x16x32_S2500x16x32_45000_0_0 18 rfl f4).symm) $$ H18
    isplitl [O18]; · iapply (cland c ![45000, 0, 0] inb_S100000x16x32_S2500x16x32_45000_0_0 18 rfl f4 fO (body1_blocks.sl.dma0_18 c f4) rfl) $$ O18
    iapply (Entails.of_eq (csem c 18 ⟨24, of_decide_eq_true rfl⟩ rfl).symm) $$ S18
  isplitl [H19 O19 S19]
  · isplitl [H19]; · iapply (Entails.of_eq (cown4 c ![47500, 0, 0] inb_S100000x16x32_S2500x16x32_47500_0_0 19 rfl f4).symm) $$ H19
    isplitl [O19]; · iapply (cland c ![47500, 0, 0] inb_S100000x16x32_S2500x16x32_47500_0_0 19 rfl f4 fO (body1_blocks.sl.dma0_19 c f4) rfl) $$ O19
    iapply (Entails.of_eq (csem c 19 ⟨25, of_decide_eq_true rfl⟩ rfl).symm) $$ S19
  isplitl [H20 O20 S20]
  · isplitl [H20]; · iapply (Entails.of_eq (cown4 c ![50000, 0, 0] inb_S100000x16x32_S2500x16x32_50000_0_0 20 rfl f4).symm) $$ H20
    isplitl [O20]; · iapply (cland c ![50000, 0, 0] inb_S100000x16x32_S2500x16x32_50000_0_0 20 rfl f4 fO (body1_blocks.sl.dma0_20 c f4) rfl) $$ O20
    iapply (Entails.of_eq (csem c 20 ⟨26, of_decide_eq_true rfl⟩ rfl).symm) $$ S20
  isplitl [H21 O21 S21]
  · isplitl [H21]; · iapply (Entails.of_eq (cown4 c ![52500, 0, 0] inb_S100000x16x32_S2500x16x32_52500_0_0 21 rfl f4).symm) $$ H21
    isplitl [O21]; · iapply (cland c ![52500, 0, 0] inb_S100000x16x32_S2500x16x32_52500_0_0 21 rfl f4 fO (body1_blocks.sl.dma0_21 c f4) rfl) $$ O21
    iapply (Entails.of_eq (csem c 21 ⟨27, of_decide_eq_true rfl⟩ rfl).symm) $$ S21
  isplitl [H22 O22 S22]
  · isplitl [H22]; · iapply (Entails.of_eq (cown4 c ![55000, 0, 0] inb_S100000x16x32_S2500x16x32_55000_0_0 22 rfl f4).symm) $$ H22
    isplitl [O22]; · iapply (cland c ![55000, 0, 0] inb_S100000x16x32_S2500x16x32_55000_0_0 22 rfl f4 fO (body1_blocks.sl.dma0_22 c f4) rfl) $$ O22
    iapply (Entails.of_eq (csem c 22 ⟨28, of_decide_eq_true rfl⟩ rfl).symm) $$ S22
  isplitl [H23 O23 S23]
  · isplitl [H23]; · iapply (Entails.of_eq (cown4 c ![57500, 0, 0] inb_S100000x16x32_S2500x16x32_57500_0_0 23 rfl f4).symm) $$ H23
    isplitl [O23]; · iapply (cland c ![57500, 0, 0] inb_S100000x16x32_S2500x16x32_57500_0_0 23 rfl f4 fO (body1_blocks.sl.dma0_23 c f4) rfl) $$ O23
    iapply (Entails.of_eq (csem c 23 ⟨29, of_decide_eq_true rfl⟩ rfl).symm) $$ S23
  isplitl [H24 O24 S24]
  · isplitl [H24]; · iapply (Entails.of_eq (cown4 c ![60000, 0, 0] inb_S100000x16x32_S2500x16x32_60000_0_0 24 rfl f4).symm) $$ H24
    isplitl [O24]; · iapply (cland c ![60000, 0, 0] inb_S100000x16x32_S2500x16x32_60000_0_0 24 rfl f4 fO (body1_blocks.sl.dma0_24 c f4) rfl) $$ O24
    iapply (Entails.of_eq (csem c 24 ⟨30, of_decide_eq_true rfl⟩ rfl).symm) $$ S24
  isplitl [H25 O25 S25]
  · isplitl [H25]; · iapply (Entails.of_eq (cown4 c ![62500, 0, 0] inb_S100000x16x32_S2500x16x32_62500_0_0 25 rfl f4).symm) $$ H25
    isplitl [O25]; · iapply (cland c ![62500, 0, 0] inb_S100000x16x32_S2500x16x32_62500_0_0 25 rfl f4 fO (body1_blocks.sl.dma0_25 c f4) rfl) $$ O25
    iapply (Entails.of_eq (csem c 25 ⟨31, of_decide_eq_true rfl⟩ rfl).symm) $$ S25
  isplitl [H26 O26 S26]
  · isplitl [H26]; · iapply (Entails.of_eq (cown4 c ![65000, 0, 0] inb_S100000x16x32_S2500x16x32_65000_0_0 26 rfl f4).symm) $$ H26
    isplitl [O26]; · iapply (cland c ![65000, 0, 0] inb_S100000x16x32_S2500x16x32_65000_0_0 26 rfl f4 fO (body1_blocks.sl.dma0_26 c f4) rfl) $$ O26
    iapply (Entails.of_eq (csem c 26 ⟨32, of_decide_eq_true rfl⟩ rfl).symm) $$ S26
  isplitl [H27 O27 S27]
  · isplitl [H27]; · iapply (Entails.of_eq (cown4 c ![67500, 0, 0] inb_S100000x16x32_S2500x16x32_67500_0_0 27 rfl f4).symm) $$ H27
    isplitl [O27]; · iapply (cland c ![67500, 0, 0] inb_S100000x16x32_S2500x16x32_67500_0_0 27 rfl f4 fO (body1_blocks.sl.dma0_27 c f4) rfl) $$ O27
    iapply (Entails.of_eq (csem c 27 ⟨33, of_decide_eq_true rfl⟩ rfl).symm) $$ S27
  isplitl [H28 O28 S28]
  · isplitl [H28]; · iapply (Entails.of_eq (cown4 c ![70000, 0, 0] inb_S100000x16x32_S2500x16x32_70000_0_0 28 rfl f4).symm) $$ H28
    isplitl [O28]; · iapply (cland c ![70000, 0, 0] inb_S100000x16x32_S2500x16x32_70000_0_0 28 rfl f4 fO (body1_blocks.sl.dma0_28 c f4) rfl) $$ O28
    iapply (Entails.of_eq (csem c 28 ⟨34, of_decide_eq_true rfl⟩ rfl).symm) $$ S28
  isplitl [H29 O29 S29]
  · isplitl [H29]; · iapply (Entails.of_eq (cown4 c ![72500, 0, 0] inb_S100000x16x32_S2500x16x32_72500_0_0 29 rfl f4).symm) $$ H29
    isplitl [O29]; · iapply (cland c ![72500, 0, 0] inb_S100000x16x32_S2500x16x32_72500_0_0 29 rfl f4 fO (body1_blocks.sl.dma0_29 c f4) rfl) $$ O29
    iapply (Entails.of_eq (csem c 29 ⟨35, of_decide_eq_true rfl⟩ rfl).symm) $$ S29
  isplitl [H30 O30 S30]
  · isplitl [H30]; · iapply (Entails.of_eq (cown4 c ![75000, 0, 0] inb_S100000x16x32_S2500x16x32_75000_0_0 30 rfl f4).symm) $$ H30
    isplitl [O30]; · iapply (cland c ![75000, 0, 0] inb_S100000x16x32_S2500x16x32_75000_0_0 30 rfl f4 fO (body1_blocks.sl.dma0_30 c f4) rfl) $$ O30
    iapply (Entails.of_eq (csem c 30 ⟨36, of_decide_eq_true rfl⟩ rfl).symm) $$ S30
  isplitl [H31 O31 S31]
  · isplitl [H31]; · iapply (Entails.of_eq (cown4 c ![77500, 0, 0] inb_S100000x16x32_S2500x16x32_77500_0_0 31 rfl f4).symm) $$ H31
    isplitl [O31]; · iapply (cland c ![77500, 0, 0] inb_S100000x16x32_S2500x16x32_77500_0_0 31 rfl f4 fO (body1_blocks.sl.dma0_31 c f4) rfl) $$ O31
    iapply (Entails.of_eq (csem c 31 ⟨37, of_decide_eq_true rfl⟩ rfl).symm) $$ S31
  isplitl [H32 O32 S32]
  · isplitl [H32]; · iapply (Entails.of_eq (cown4 c ![80000, 0, 0] inb_S100000x16x32_S2500x16x32_80000_0_0 32 rfl f4).symm) $$ H32
    isplitl [O32]; · iapply (cland c ![80000, 0, 0] inb_S100000x16x32_S2500x16x32_80000_0_0 32 rfl f4 fO (body1_blocks.sl.dma0_32 c f4) rfl) $$ O32
    iapply (Entails.of_eq (csem c 32 ⟨38, of_decide_eq_true rfl⟩ rfl).symm) $$ S32
  isplitl [H33 O33 S33]
  · isplitl [H33]; · iapply (Entails.of_eq (cown4 c ![82500, 0, 0] inb_S100000x16x32_S2500x16x32_82500_0_0 33 rfl f4).symm) $$ H33
    isplitl [O33]; · iapply (cland c ![82500, 0, 0] inb_S100000x16x32_S2500x16x32_82500_0_0 33 rfl f4 fO (body1_blocks.sl.dma0_33 c f4) rfl) $$ O33
    iapply (Entails.of_eq (csem c 33 ⟨39, of_decide_eq_true rfl⟩ rfl).symm) $$ S33
  isplitl [H34 O34 S34]
  · isplitl [H34]; · iapply (Entails.of_eq (cown4 c ![85000, 0, 0] inb_S100000x16x32_S2500x16x32_85000_0_0 34 rfl f4).symm) $$ H34
    isplitl [O34]; · iapply (cland c ![85000, 0, 0] inb_S100000x16x32_S2500x16x32_85000_0_0 34 rfl f4 fO (body1_blocks.sl.dma0_34 c f4) rfl) $$ O34
    iapply (Entails.of_eq (csem c 34 ⟨40, of_decide_eq_true rfl⟩ rfl).symm) $$ S34
  isplitl [H35 O35 S35]
  · isplitl [H35]; · iapply (Entails.of_eq (cown4 c ![87500, 0, 0] inb_S100000x16x32_S2500x16x32_87500_0_0 35 rfl f4).symm) $$ H35
    isplitl [O35]; · iapply (cland c ![87500, 0, 0] inb_S100000x16x32_S2500x16x32_87500_0_0 35 rfl f4 fO (body1_blocks.sl.dma0_35 c f4) rfl) $$ O35
    iapply (Entails.of_eq (csem c 35 ⟨41, of_decide_eq_true rfl⟩ rfl).symm) $$ S35
  isplitl [H36 O36 S36]
  · isplitl [H36]; · iapply (Entails.of_eq (cown4 c ![90000, 0, 0] inb_S100000x16x32_S2500x16x32_90000_0_0 36 rfl f4).symm) $$ H36
    isplitl [O36]; · iapply (cland c ![90000, 0, 0] inb_S100000x16x32_S2500x16x32_90000_0_0 36 rfl f4 fO (body1_blocks.sl.dma0_36 c f4) rfl) $$ O36
    iapply (Entails.of_eq (csem c 36 ⟨42, of_decide_eq_true rfl⟩ rfl).symm) $$ S36
  isplitl [H37 O37 S37]
  · isplitl [H37]; · iapply (Entails.of_eq (cown4 c ![92500, 0, 0] inb_S100000x16x32_S2500x16x32_92500_0_0 37 rfl f4).symm) $$ H37
    isplitl [O37]; · iapply (cland c ![92500, 0, 0] inb_S100000x16x32_S2500x16x32_92500_0_0 37 rfl f4 fO (body1_blocks.sl.dma0_37 c f4) rfl) $$ O37
    iapply (Entails.of_eq (csem c 37 ⟨43, of_decide_eq_true rfl⟩ rfl).symm) $$ S37
  isplitl [H38 O38 S38]
  · isplitl [H38]; · iapply (Entails.of_eq (cown4 c ![95000, 0, 0] inb_S100000x16x32_S2500x16x32_95000_0_0 38 rfl f4).symm) $$ H38
    isplitl [O38]; · iapply (cland c ![95000, 0, 0] inb_S100000x16x32_S2500x16x32_95000_0_0 38 rfl f4 fO (body1_blocks.sl.dma0_38 c f4) rfl) $$ O38
    iapply (Entails.of_eq (csem c 38 ⟨44, of_decide_eq_true rfl⟩ rfl).symm) $$ S38
  · isplitl [H39]; · iapply (Entails.of_eq (cown4 c ![97500, 0, 0] inb_S100000x16x32_S2500x16x32_97500_0_0 39 rfl f4).symm) $$ H39
    isplitl [O39]; · iapply (cland c ![97500, 0, 0] inb_S100000x16x32_S2500x16x32_97500_0_0 39 rfl f4 fO (body1_blocks.sl.dma0_39 c f4) rfl) $$ O39
    iapply (Entails.of_eq (csem c 39 ⟨45, of_decide_eq_true rfl⟩ rfl).symm) $$ S39

theorem body1_run [∀ e, Nonempty (Elt F e)] (f4 : Bf (F := F) c (Memref.whole main_arg4)) (fO : Bf (F := F) c (Memref.whole main_call0_v17)) (W) :
    (iprop(pt c (Memref.whole main_arg4) f4 ∗ pt c (Memref.whole main_call0_v17) fO ∗ (bigSep Finset.univ fun k => semVal ((c : Thread nD τ), sem1 k) 0)
      ∗ owes (c : Thread nD τ) (0 : CellTallies nD τ sig Unit) W) : sProp 𝕄)
    ⊢ wp frame (wpE (defs₀ (F := F)) 𝒱₀ c none) Set.univ (body1 (F := F)) (fun _ => iprop(pt c (Memref.whole main_arg4) f4 ∗ pt c (Memref.whole main_call0_v17) f4
      ∗ (bigSep Finset.univ fun k => semVal ((c : Thread nD τ), sem1 k) 0) ∗ (∃ W, owes (c : Thread nD τ) (0 : CellTallies nD τ sig Unit) W))) := by
  have h := body1_blocks c f4 fO W
  rw [bigSep_sep', bigSep_sep', bigSep_sep', bigSep_sep', ← csplit4, ← csplitO, ← csplitO] at h
  refine (show _ ⊢ _ from ?_).trans (h.trans (wp_mono _ _ _ fun _ => ?_))
  · iintro ⟨H4, HO, HS, HW⟩
    isplitl [HW]; · iexact HW
    isplitl [H4]; · iexact H4
    isplitl [HO] <;> iassumption
  · iintro ⟨HW, H4, HO, HS⟩
    isplitl [H4]; · iexact H4
    isplitl [HO]; · iexact HO
    isplitl [HS] <;> iassumption

end Cert.Proof.KernelIdeal

end
-- ==== Proof.Ideal.Call1.lean ====
/-
  The copy call as an item of the program: forty transfers, after which the result holds the memory.
-/
module

public import proofs.«01_k».proof.Proof.Ideal.Copy

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ UU ℕ

theorem ownFacts1 : Pipeline.OwnSemFacts cfg1.spec sem1 := by decide

variable (V : Dev nD → Valuation τ sig (Elt F))

/-- What the call holds between its ends: the buffers no window stages, its semaphores at zero, the memory, and the
    copy, at something before the one point and at the memory's contents after it. -/
def Φ1 (c : Dev nD) (j : ℕ) : sProp 𝕄 :=
  iprop(Pipeline.scopedRest (Ix := Unit) (Name := ℕ) (U := UU) (Lvl := ℕ) (Val := Elt F) cfg1.spec c ∗ Pipeline.ownSems0 sem1 c
    ∗ pt c (Memref.whole main_arg4) (V c main_arg4) ∗ pt c (Memref.whole main_call0_v17) (if j = 0 then V c main_call0_v17 else V c main_arg4))

def dat1 (c : Dev nD) : Dat τ (Elt F) Unit ℕ UU ℕ cfg1 c where
  A w := w.elim0
  after w _ := w.elim0
  Φ t := Φ1 V c t.val
  q _ := fullShare
  owed _ := 0

theorem bigSep_none {M : Type} [URA M] (Φ : Fin 0 → sProp M) : bigSep Finset.univ Φ = BI.emp := by
  rw [Finset.univ_eq_empty, BI.bigSep_empty]

set_option maxHeartbeats 1000000 in
theorem body1_obligation (c : Dev nD) : Pipeline.BodyObligation (dat1 V c) (defs₀ (F := F)) 𝒱₀ () Set.univ := fun t => by
  obtain rfl := fin_N1 t
  rw [show (dat1 V c).Φ t1_0.castSucc = Φ1 V c 0 from rfl, show (dat1 V c).Φ t1_0.succ = Φ1 V c 1 from rfl]
  unfold Φ1 Dat.owesAt Pipeline.owesWithin Pipeline.ownSems0
  rw [if_pos rfl, if_neg Nat.one_ne_zero]
  iintro ⟨⟨Hr, Hs, H4, HO⟩, ⟨%W, -, HW⟩, HE⟩
  ihave HL := (body1_run c (V c main_arg4) (V c main_call0_v17) W) $$ [H4 HO Hs HW]
  · isplitl [H4]; · iexact H4
    isplitl [HO]; · iexact HO
    isplitl [Hs]; · iexact Hs
    iexact HW
  iapply (wp_wand frame (wpE (defs₀ (F := F)) 𝒱₀ c none) Set.univ) $$ HL
  iintro %_ ⟨H4, HO, Hs, ⟨%W', HW⟩⟩
  isplitl [Hr Hs H4 HO]
  · isplitl [Hr]; · iexact Hr
    isplitl [Hs]; · iexact Hs
    isplitl [H4]; · iexact H4
    iexact HO
  isplitl [HW]
  · iexists W'; isplitr; · ipureintro; exact fun _ _ => Or.inl trivial
    iexact HW
  iexact HE

end Cert.Proof.KernelIdeal

end
-- ==== Proof.Ideal.Gather.lean ====
/-
  The gather loops of `cc2__rows_body`: the first loop starts one transfer per row of the batch, all on
  one semaphore, the second waits for them. The memory's rows read are pairwise distinct, so each
  transfer is lent its own.
-/
module

public import proofs.«01_k».proof.Proof.Ideal.Rows

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- What one row's transfer credits. -/
abbrev NN : ℕ := 256

/-- The words of the index buffer are the rows' numbers. -/
def Words (g : S256.Idx → Elt F .i32) (n : Fin 256 → Fin 100000) : Prop :=
  ∀ i : S256.Idx, (g i : BitVec 32).toNat = (n (i 0)).val

section Gather
variable (c : Dev nD) (n : Fin 256 → Fin 100000) (g : S256.Idx → Elt F .i32) (f4 : S100000x16x32.Idx → Elt F .f32)

/-- Row `t` of the buffer at some contents, and the memory's row it is read from. -/
def gPair (t : Fin 256) : sProp 𝕄 :=
  iprop((∃ f, (Memref.whole cc2_scratch0).view.loc (c : Thread nD τ) ↦[bset t]{fullShare} f)
    ∗ ((Memref.whole main_arg4).view.loc (c : Thread nD τ) ↦[mset (n t)]{fullShare} f4))

/-- What transfer `t` delivers: the row at what the memory held, and the memory's row back. -/
def gD (t : Fin 256) : sProp 𝕄 :=
  iprop(((Memref.whole cc2_scratch0).view.loc (c : Thread nD τ) ↦[bset t]{fullShare} gath n f4)
    ∗ ((Memref.whole main_arg4).view.loc (c : Thread nD τ) ↦[mset (n t)]{fullShare} f4))

instance gD_storable (t : Fin 256) : BI.Storable (upEmb : UEmb _ 𝕄) (gD c n f4 t) := by
  unfold gD; infer_instance

def gBatch (k u : ℕ) : sProp 𝕄 :=
  Transfers.Batch (countersEmb (U := UU)) (c : Thread nD τ) (.dma cc2_scratch2.sem) () NN (gD c n f4) k u

/-- Before trip `k` of the first loop: `k` transfers started. -/
def gIssue (k : ℕ) (_ : Unit) : sProp 𝕄 :=
  iprop(pt c (Memref.whole cc2_stg0_0) g ∗ gBatch c n f4 k 0 ∗ bigSep (Ring.rangeSet 256 k 256) (gPair c n f4))

end Gather

section Step
variable (c : Dev nD) (n : Fin 256 → Fin 100000) (g : S256.Idx → Elt F .i32) (f4 : S100000x16x32.Idx → Elt F .f32)
variable (arg1 : Memref sig .tc .vmem S256x16x32 .f32) (harg1 : arg1.IsWhole) (arg2 : Memref sig .tc .vmem S256x16x32 .f32) (harg2 : arg2.IsWhole) (arg3 : Memref sig .tc .vmem S256x16x32 .f32) (harg3 : arg3.IsWhole)
  (arg6 : Memref sig .tc .vmem S256x16x32 .f32) (harg6 : arg6.IsWhole) (arg7 : Memref sig .tc .vmem S256x16x32 .f32) (harg7 : arg7.IsWhole) (arg8 : Memref sig .tc .smem S1x1 .f32) (harg8 : arg8.IsWhole)

abbrev gBody1 := k2_t1_body (F := F) (Memref.whole cc2_stg0_0) (Memref.isWhole_whole _) arg1 harg1 arg2 harg2 arg3 harg3 (Memref.whole main_arg4) (Memref.isWhole_whole _)
  (Memref.whole main_v0_4) (Memref.isWhole_whole _) arg6 harg6 arg7 harg7 arg8 harg8 (Memref.whole main_v0_4) (Memref.isWhole_whole _)
  (Memref.whole cc2_scratch0) (Memref.isWhole_whole _) (Memref.whole cc2_scratch1) (Memref.isWhole_whole _) cc2_scratch2 cc2_scratch3

/-- A word of the index buffer names a row of the memory. -/
theorem chk_word {g : S256.Idx → Elt F .i32} {n : Fin 256 → Fin 100000} (hg : Words g n) (i : S256.Idx) : k2_chk1 (g i) := by
  have h := hg i
  have hn := (n (i 0)).isLt
  intro a; fin_cases a
  · show (g i : BitVec 32).toNat + 1 ≤ 100000; omega
  · show 0 + 16 ≤ 16; omega
  · show 0 + 32 ≤ 32; omega

/-- The index of one coordinate; the word read at trip `k`. -/
def at1 {A : ℕ} (a : Fin A) : (⟨1, ![A]⟩ : Shape).Idx
  | ⟨0, _⟩ => a
def wordAt (g : S256.Idx → Elt F .i32) (k : Fin 256) : Elt F .i32 := g (at1 k)

theorem gIssue_step (hg : Words g n) (k : Fin k2_t1_loop.trips) (acc : Unit) :
    gIssue c n g f4 k acc ⊢ wp frame (wpE (defs₀ (F := F)) 𝒱₀ c none) Set.univ
      (gBody1 arg1 harg1 arg2 harg2 arg3 harg3 arg6 harg6 arg7 harg7 arg8 harg8 k acc) (gIssue c n g f4 (k.val + 1)) := by
  have hk : k.val < 256 := trips1 ▸ k.isLt
  unfold gIssue
  rw [Ring.bigSep_rangeSet_head (Φ := gPair c n f4) hk hk]
  unfold gPair
  iintro ⟨H0, HB, ⟨⟨%f, Hd⟩, Hs⟩, Hr⟩
  unfold gBody1 k2_t1_body
  dsimp only
  sl_exec
  have hw : gIssue_step.sl.r g k = wordAt g ⟨k.val, hk⟩ := by
    refine congrArg g (funext fun a => ?_)
    fin_cases a
    apply Fin.ext
    show k2_off1 k 0 + 1 * 0 = k.val
    rw [off1_eq]; rfl
  generalize gIssue_step.sl.r g k = v at hw
  subst hw
  have hchk : k2_chk1 (wordAt g ⟨k.val, hk⟩) := chk_word hg _
  have ho3 : k2_off3 (wordAt g ⟨k.val, hk⟩) = ![(n ⟨k.val, hk⟩).val, 0, 0] :=
    congrArg (fun m : ℕ => (![m, 0, 0] : Fin 3 → ℕ)) (hg (at1 ⟨k.val, hk⟩))
  iapply (wp_assume _ _ _ _ hchk)
  have hset := mRow_set4 (inb := hchk) ho3
  have hsetd := bRow_set0 (inb := k2_off2_inb k) (t := ⟨k.val, hk⟩) (off2_eq k)
  rw [← hset, ← hsetd]
  unfold gBatch
  rw [Prog.bind_lift]
  unfold TpuEff.enqueueDma
  iapply (Transfers.wp_dmaBatch (countersEmb (U := UU)) 𝒱₀ (c : Thread nD τ) none (sm := .dma cc2_scratch2.sem) (via := ReadAs.same) (fs := f4) (fd := f) (q := fullShare)
     (src := mRow (Memref.whole main_arg4) (k2_off3 (wordAt g ⟨k.val, hk⟩)) hchk) (dst := bRow (Memref.whole cc2_scratch0) (k2_off2 k) (k2_off2_inb k))
     (D := gD c n f4) (j := k.val) (u := 0) () 256 (amount_row _ _) (Finset.Subset.refl _) hk (Nat.zero_le _) ?_) $$ [Hs Hd HB]
  · unfold gD
    rw [hset, hsetd]
    iintro ⟨Hd, Hs⟩
    isplitl [Hd]
    · iapply (gath_pt c n ⟨k.val, hk⟩ (k2_off2 k) _ (k2_off2_inb k) hchk (off2_eq k) ho3 f f4)
      iexact Hd
    iexact Hs
  · isplitl [Hs]; · iexact Hs
    isplitl [Hd]; · iexact Hd
    iexact HB
  iintro HB
  sl_step
  isplitl [H0]; · iexact H0
  isplitl [HB]; · iexact HB
  iexact Hr

/-- Before trip `k` of the second loop: `k` transfers' units consumed, or after the last every delivery back. -/
def gDrain (k : ℕ) (_ : Unit) : sProp 𝕄 :=
  iprop(⌜k ≤ 256⌝ ∗ pt c (Memref.whole cc2_stg0_0) g ∗ (∃ W, owes (c : Thread nD τ) 0 W)
    ∗ (if k < 256 then gBatch c n f4 256 (k * NN)
       else iprop(semVal ((c : Thread nD τ), SemLoc.dma cc2_scratch2.sem) 0 ∗ bigSep Finset.univ (gD c n f4))))

abbrev gBody2 := k2_t2_body (F := F) (Memref.whole cc2_stg0_0) (Memref.isWhole_whole _) arg1 harg1 arg2 harg2 arg3 harg3 (Memref.whole main_arg4) (Memref.isWhole_whole _)
  (Memref.whole main_v0_4) (Memref.isWhole_whole _) arg6 harg6 arg7 harg7 arg8 harg8 (Memref.whole main_v0_4) (Memref.isWhole_whole _)
  (Memref.whole cc2_scratch0) (Memref.isWhole_whole _) (Memref.whole cc2_scratch1) (Memref.isWhole_whole _) cc2_scratch2 cc2_scratch3

theorem gDrain_step (hg : Words g n) (k : Fin k2_t2_loop.trips) (acc : Unit) :
    gDrain c n g f4 k acc ⊢ wp frame (wpE (defs₀ (F := F)) 𝒱₀ c none) Set.univ
      (gBody2 arg1 harg1 arg2 harg2 arg3 harg3 arg6 harg6 arg7 harg7 arg8 harg8 k acc) (gDrain c n g f4 (k.val + 1)) := by
  have hk : k.val < 256 := trips2 ▸ k.isLt
  unfold gDrain
  rw [if_pos hk]
  iintro ⟨-, H0, ⟨%W, HO⟩, HB⟩
  unfold gBody2 k2_t2_body
  dsimp only
  sl_exec
  have hw : gDrain_step.sl.r g k = wordAt g ⟨k.val, hk⟩ := by
    refine congrArg g (funext fun a => ?_)
    fin_cases a
    apply Fin.ext
    show k2_off4 k 0 + 1 * 0 = k.val
    rw [off4_eq]; rfl
  generalize gDrain_step.sl.r g k = v at hw
  subst hw
  have hchk : k2_chk2 (wordAt g ⟨k.val, hk⟩) := chk_word hg _
  iapply (wp_assume _ _ _ _ hchk)
  rw [Prog.bind_lift]
  unfold gBatch
  rcases Nat.lt_or_ge (k.val + 1) 256 with h1 | h1
  · rw [if_pos h1]
    iapply (Transfers.wp_waitBatch (countersEmb (U := UU)) 𝒱₀ (c : Thread nD τ) none (sem := cc2_scratch2.sem)
       (srcw := mRow (Memref.whole main_arg4) (k2_off6 (wordAt g ⟨k.val, hk⟩)) hchk) (dstw := bRow (Memref.whole cc2_scratch0) (k2_off5 k) (k2_off5_inb k))
       (D := gD c n f4) (u := k.val * 256) (W := W) () (N := 256) (credit_row' _) (by omega)) $$ [HB HO]
    · isplitl [HB]; · iexact HB
      iexact HO
    iintro ⟨HB, HO⟩
    sl_step
    isplitr; · ipureintro; omega
    isplitl [H0]; · iexact H0
    isplitl [HO]; · iexists _; iexact HO
    rw [show (k.val + 1) * NN = k.val * 256 + 256 by show (k.val + 1) * 256 = _; omega]
    iexact HB
  · rw [if_neg (Nat.not_lt.mpr h1)]
    iapply (Transfers.wp_waitBatchLast (countersEmb (U := UU)) 𝒱₀ (c : Thread nD τ) none (sem := cc2_scratch2.sem)
       (srcw := mRow (Memref.whole main_arg4) (k2_off6 (wordAt g ⟨k.val, hk⟩)) hchk) (dstw := bRow (Memref.whole cc2_scratch0) (k2_off5 k) (k2_off5_inb k))
       (D := gD c n f4) (u := k.val * 256) (W := W) () (N := 256) (credit_row' _) (by omega) (by omega)) $$ [HB HO]
    · isplitl [HB]; · iexact HB
      iexact HO
    iintro ⟨HD, HB, HO⟩
    sl_step
    isplitr; · ipureintro; omega
    isplitl [H0]; · iexact H0
    isplitl [HO]; · iexists _; iexact HO
    isplitl [HB]; · iexact HB
    iexact HD

end Step

end Cert.Proof.KernelIdeal

end
-- ==== Proof.Ideal.Scatter.lean ====
/-
  The scatter loops of `cc2__rows_body`: the third loop starts one transfer per row of the batch, from the
  buffer of updated rows into the memory, all on one semaphore; the fourth waits for them. The rows
  written are pairwise distinct, so each transfer is lent its own.
-/
module

public import proofs.«01_k».proof.Proof.Ideal.Gather

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

section Scatter
variable (c : Dev nD) (n : Fin 256 → Fin 100000) (g : S256.Idx → Elt F .i32) (fO : S100000x16x32.Idx → Elt F .f32) (w : S256x16x32.Idx → Elt F .f32)

/-- Row `t` of the buffer, and the memory's row it is written to at some contents. -/
def sPair (t : Fin 256) : sProp 𝕄 :=
  iprop((∃ f, (Memref.whole main_v0_4).view.loc (c : Thread nD τ) ↦[mset (n t)]{fullShare} f)
    ∗ ((Memref.whole cc2_scratch1).view.loc (c : Thread nD τ) ↦[bset t]{fullShare} w))

/-- What transfer `t` delivers: the memory's row at what the buffer held, and the buffer's row back. -/
def sD (t : Fin 256) : sProp 𝕄 :=
  iprop(((Memref.whole main_v0_4).view.loc (c : Thread nD τ) ↦[mset (n t)]{fullShare} scat n fO w)
    ∗ ((Memref.whole cc2_scratch1).view.loc (c : Thread nD τ) ↦[bset t]{fullShare} w))

instance sD_storable (t : Fin 256) : BI.Storable (upEmb : UEmb _ 𝕄) (sD c n fO w t) := by
  unfold sD; infer_instance

def sBatch (k u : ℕ) : sProp 𝕄 :=
  Transfers.Batch (countersEmb (U := UU)) (c : Thread nD τ) (.dma cc2_scratch3.sem) () NN (sD c n fO w) k u

/-- Before trip `k` of the third loop: `k` transfers started. -/
def sIssue (k : ℕ) (_ : Unit) : sProp 𝕄 :=
  iprop(pt c (Memref.whole cc2_stg0_0) g ∗ sBatch c n fO w k 0 ∗ bigSep (Ring.rangeSet 256 k 256) (sPair c n w))

end Scatter

section Step
variable (c : Dev nD) (n : Fin 256 → Fin 100000) (g : S256.Idx → Elt F .i32) (fO : S100000x16x32.Idx → Elt F .f32) (w : S256x16x32.Idx → Elt F .f32)
variable (arg1 : Memref sig .tc .vmem S256x16x32 .f32) (harg1 : arg1.IsWhole) (arg2 : Memref sig .tc .vmem S256x16x32 .f32) (harg2 : arg2.IsWhole) (arg3 : Memref sig .tc .vmem S256x16x32 .f32) (harg3 : arg3.IsWhole)
  (arg6 : Memref sig .tc .vmem S256x16x32 .f32) (harg6 : arg6.IsWhole) (arg7 : Memref sig .tc .vmem S256x16x32 .f32) (harg7 : arg7.IsWhole) (arg8 : Memref sig .tc .smem S1x1 .f32) (harg8 : arg8.IsWhole)

abbrev sBody1 := k2_t3_body (F := F) (Memref.whole cc2_stg0_0) (Memref.isWhole_whole _) arg1 harg1 arg2 harg2 arg3 harg3 (Memref.whole main_arg4) (Memref.isWhole_whole _)
  (Memref.whole main_v0_4) (Memref.isWhole_whole _) arg6 harg6 arg7 harg7 arg8 harg8 (Memref.whole main_v0_4) (Memref.isWhole_whole _)
  (Memref.whole cc2_scratch0) (Memref.isWhole_whole _) (Memref.whole cc2_scratch1) (Memref.isWhole_whole _) cc2_scratch2 cc2_scratch3

theorem sIssue_step (hn : Function.Injective n) (hg : Words g n) (k : Fin k2_t3_loop.trips) (acc : Unit) :
    sIssue c n g fO w k acc ⊢ wp frame (wpE (defs₀ (F := F)) 𝒱₀ c none) Set.univ
      (sBody1 arg1 harg1 arg2 harg2 arg3 harg3 arg6 harg6 arg7 harg7 arg8 harg8 k acc) (sIssue c n g fO w (k.val + 1)) := by
  have hk : k.val < 256 := trips3 ▸ k.isLt
  unfold sIssue
  rw [Ring.bigSep_rangeSet_head (Φ := sPair c n w) hk hk]
  unfold sPair
  iintro ⟨H0, HB, ⟨⟨%f, Hd⟩, Hs⟩, Hr⟩
  unfold sBody1 k2_t3_body
  dsimp only
  sl_exec
  have hw : sIssue_step.sl.r g k = wordAt g ⟨k.val, hk⟩ := by
    refine congrArg g (funext fun a => ?_)
    fin_cases a
    apply Fin.ext
    show k2_off7 k 0 + 1 * 0 = k.val
    rw [off7_eq]; rfl
  generalize sIssue_step.sl.r g k = v at hw
  subst hw
  have hchk : k2_chk3 (wordAt g ⟨k.val, hk⟩) := chk_word hg _
  have ho8 : k2_off8 (wordAt g ⟨k.val, hk⟩) = ![(n ⟨k.val, hk⟩).val, 0, 0] :=
    congrArg (fun m : ℕ => (![m, 0, 0] : Fin 3 → ℕ)) (hg (at1 ⟨k.val, hk⟩))
  iapply (wp_assume _ _ _ _ hchk)
  have hset := bRow_set1 (inb := k2_off9_inb k) (t := ⟨k.val, hk⟩) (off9_eq k)
  have hsetd := mRow_setO (inb := hchk) ho8
  rw [← hset, ← hsetd]
  unfold sBatch
  rw [Prog.bind_lift]
  unfold TpuEff.enqueueDma
  iapply (Transfers.wp_dmaBatch (countersEmb (U := UU)) 𝒱₀ (c : Thread nD τ) none (sm := .dma cc2_scratch3.sem) (via := ReadAs.same) (fs := w) (fd := f) (q := fullShare)
     (src := bRow (Memref.whole cc2_scratch1) (k2_off9 k) (k2_off9_inb k)) (dst := mRow (Memref.whole main_v0_4) (k2_off8 (wordAt g ⟨k.val, hk⟩)) hchk)
     (D := sD c n fO w) (j := k.val) (u := 0) () 256 (amount_row _ _) (Finset.Subset.refl _) hk (Nat.zero_le _) ?_) $$ [Hs Hd HB]
  · unfold sD
    rw [hset, hsetd]
    iintro ⟨Hd, Hs⟩
    isplitl [Hd]
    · iapply (scat_pt c hn ⟨k.val, hk⟩ (k2_off9 k) _ (k2_off9_inb k) hchk (off9_eq k) ho8 f fO w)
      iexact Hd
    iexact Hs
  · isplitl [Hs]; · iexact Hs
    isplitl [Hd]; · iexact Hd
    iexact HB
  iintro HB
  sl_step
  isplitl [H0]; · iexact H0
  isplitl [HB]; · iexact HB
  iexact Hr

/-- Before trip `k` of the fourth loop: `k` transfers' units consumed, or after the last every delivery back. -/
def sDrain (k : ℕ) (_ : Unit) : sProp 𝕄 :=
  iprop(⌜k ≤ 256⌝ ∗ pt c (Memref.whole cc2_stg0_0) g ∗ (∃ W, owes (c : Thread nD τ) 0 W)
    ∗ (if k < 256 then sBatch c n fO w 256 (k * NN)
       else iprop(semVal ((c : Thread nD τ), SemLoc.dma cc2_scratch3.sem) 0 ∗ bigSep Finset.univ (sD c n fO w))))

abbrev sBody2 := k2_t4_body (F := F) (Memref.whole cc2_stg0_0) (Memref.isWhole_whole _) arg1 harg1 arg2 harg2 arg3 harg3 (Memref.whole main_arg4) (Memref.isWhole_whole _)
  (Memref.whole main_v0_4) (Memref.isWhole_whole _) arg6 harg6 arg7 harg7 arg8 harg8 (Memref.whole main_v0_4) (Memref.isWhole_whole _)
  (Memref.whole cc2_scratch0) (Memref.isWhole_whole _) (Memref.whole cc2_scratch1) (Memref.isWhole_whole _) cc2_scratch2 cc2_scratch3

theorem sDrain_step (hg : Words g n) (k : Fin k2_t4_loop.trips) (acc : Unit) :
    sDrain c n g fO w k acc ⊢ wp frame (wpE (defs₀ (F := F)) 𝒱₀ c none) Set.univ
      (sBody2 arg1 harg1 arg2 harg2 arg3 harg3 arg6 harg6 arg7 harg7 arg8 harg8 k acc) (sDrain c n g fO w (k.val + 1)) := by
  have hk : k.val < 256 := trips4 ▸ k.isLt
  unfold sDrain
  rw [if_pos hk]
  iintro ⟨-, H0, ⟨%W, HO⟩, HB⟩
  unfold sBody2 k2_t4_body
  dsimp only
  sl_exec
  have hw : sDrain_step.sl.r g k = wordAt g ⟨k.val, hk⟩ := by
    refine congrArg g (funext fun a => ?_)
    fin_cases a
    apply Fin.ext
    show k2_off10 k 0 + 1 * 0 = k.val
    rw [off10_eq]; rfl
  generalize sDrain_step.sl.r g k = v at hw
  subst hw
  have hchk : k2_chk4 (wordAt g ⟨k.val, hk⟩) := chk_word hg _
  iapply (wp_assume _ _ _ _ hchk)
  rw [Prog.bind_lift]
  unfold sBatch
  rcases Nat.lt_or_ge (k.val + 1) 256 with h1 | h1
  · rw [if_pos h1]
    iapply (Transfers.wp_waitBatch (countersEmb (U := UU)) 𝒱₀ (c : Thread nD τ) none (sem := cc2_scratch3.sem)
       (srcw := bRow (Memref.whole cc2_scratch1) (k2_off12 k) (k2_off12_inb k)) (dstw := mRow (Memref.whole main_v0_4) (k2_off11 (wordAt g ⟨k.val, hk⟩)) hchk)
       (D := sD c n fO w) (u := k.val * 256) (W := W) () (N := 256) (credit_row' _) (by omega)) $$ [HB HO]
    · isplitl [HB]; · iexact HB
      iexact HO
    iintro ⟨HB, HO⟩
    sl_step
    isplitr; · ipureintro; omega
    isplitl [H0]; · iexact H0
    isplitl [HO]; · iexists _; iexact HO
    rw [show (k.val + 1) * NN = k.val * 256 + 256 by show (k.val + 1) * 256 = _; omega]
    iexact HB
  · rw [if_neg (Nat.not_lt.mpr h1)]
    iapply (Transfers.wp_waitBatchLast (countersEmb (U := UU)) 𝒱₀ (c : Thread nD τ) none (sem := cc2_scratch3.sem)
       (srcw := bRow (Memref.whole cc2_scratch1) (k2_off12 k) (k2_off12_inb k)) (dstw := mRow (Memref.whole main_v0_4) (k2_off11 (wordAt g ⟨k.val, hk⟩)) hchk)
       (D := sD c n fO w) (u := k.val * 256) (W := W) () (N := 256) (credit_row' _) (by omega) (by omega)) $$ [HB HO]
    · isplitl [HB]; · iexact HB
      iexact HO
    iintro ⟨HD, HB, HO⟩
    sl_step
    isplitr; · ipureintro; omega
    isplitl [H0]; · iexact H0
    isplitl [HO]; · iexists _; iexact HO
    isplitl [HB]; · iexact HB
    iexact HD

end Step

end Cert.Proof.KernelIdeal

end
-- ==== Proof.Ideal.Rows2.lean ====
/-
  The body of the third call, run whole: the rows of the memory gathered into a buffer, the row-wise
  values computed, and the new rows scattered.
-/
module

public import proofs.«01_k».proof.Proof.Ideal.Gather
public import proofs.«01_k».proof.Proof.Ideal.Scatter
public import Idealize.ShloMosaic.Lib.VecWindow

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- What the call computes from the logit rows, the mask, the labels and the gathered rows. -/
def ptOf (mask conf : S256x16x32.Idx → Elt F .f32) : S256x16x32.Idx → Elt F .f32 := k2_pay5 mask conf
def confOf (logit mask : S256x16x32.Idx → Elt F .f32) : S256x16x32.Idx → Elt F .f32 :=
  k2_pay9 (k2_pay6 mask) (k2_pay7 logit mask) k2_pay8
def newRows (logit mask det conf : S256x16x32.Idx → Elt F .f32) : S256x16x32.Idx → Elt F .f32 :=
  k2_pay10 (k2_pay3 mask) (k2_pay4 det) conf (k2_pay6 mask) (k2_pay7 logit mask) k2_pay8
def lossOf (logit mask conf : S256x16x32.Idx → Elt F .f32) : S1x1.Idx → Elt F .f32 :=
  fun _ => k2_pay1 (k2_pay3 mask) (k2_pay11 (k2_pay2 logit) (k2_pay5 mask conf))

theorem ptOf_congr {b b' d d' : S256x16x32.Idx → Elt F .f32} (hb : b = b') (hd : d = d') : k2_pay5 b d = ptOf b' d' := by subst hb hd; rfl
theorem confOf_congr {a a' b b' : S256x16x32.Idx → Elt F .f32} (ha : a = a') (hb : b = b') :
    k2_pay9 (k2_pay6 b) (k2_pay7 a b) k2_pay8 = confOf a' b' := by subst ha hb; rfl
theorem newRows_congr {a a' b b' e e' d d' : S256x16x32.Idx → Elt F .f32} (ha : a = a') (hb : b = b') (he : e = e') (hd : d = d') :
    k2_pay10 (k2_pay3 b) (k2_pay4 e) d (k2_pay6 b) (k2_pay7 a b) k2_pay8 = newRows a' b' e' d' := by subst ha hb he hd; rfl
theorem lossOf_congr {a a' b b' d d' : S256x16x32.Idx → Elt F .f32} (ha : a = a') (hb : b = b') (hd : d = d') :
    (fun _ => k2_pay1 (k2_pay3 b) (k2_pay11 (k2_pay2 a) (k2_pay5 b d)) : S1x1.Idx → Elt F .f32) = lossOf a' b' d' := by subst ha hb hd; rfl

section Body
variable (c : Dev nD) (n : Fin 256 → Fin 100000) (g : S256.Idx → Elt F .i32)
  (f1 f2 f3 f6 f7 s0 s1 : S256x16x32.Idx → Elt F .f32) (f4 fO : S100000x16x32.Idx → Elt F .f32) (f8 : S1x1.Idx → Elt F .f32)

abbrev body2 := cc2__rows_body (F := F) (Memref.whole cc2_stg0_0) (Memref.isWhole_whole _) (Memref.whole cc2_stg1_0) (Memref.isWhole_whole _)
  (Memref.whole cc2_stg2_0) (Memref.isWhole_whole _) (Memref.whole cc2_stg3_0) (Memref.isWhole_whole _) (Memref.whole main_arg4) (Memref.isWhole_whole _)
  (Memref.whole main_v0_4) (Memref.isWhole_whole _) (Memref.whole cc2_stg4_0) (Memref.isWhole_whole _) (Memref.whole cc2_stg5_0) (Memref.isWhole_whole _)
  (Memref.whole cc2_stg6_0) (Memref.isWhole_whole _) (Memref.whole main_v0_4) (Memref.isWhole_whole _)
  (Memref.whole cc2_scratch0) (Memref.isWhole_whole _) (Memref.whole cc2_scratch1) (Memref.isWhole_whole _) cc2_scratch2 cc2_scratch3

theorem gPair_of (s0 : S256x16x32.Idx → Elt F .f32) (t : Fin 256) : iprop(((Memref.whole cc2_scratch0 : Memref sig .tc .vmem S256x16x32 .f32).view.loc (c : Thread nD τ) ↦[bset t]{fullShare} s0)
      ∗ ((Memref.whole main_arg4 : Memref sig .tc .hbm S100000x16x32 .f32).view.loc (c : Thread nD τ) ↦[mset (n t)]{fullShare} f4)) ⊢ (gPair c n f4 t : sProp 𝕄) := by
  unfold gPair
  iintro ⟨HA, HB⟩
  isplitl [HA]; · iexists _; iexact HA
  iexact HB
theorem sPair_of (w : S256x16x32.Idx → Elt F .f32) (t : Fin 256) : iprop(((Memref.whole main_v0_4 : Memref sig .tc .hbm S100000x16x32 .f32).view.loc (c : Thread nD τ) ↦[mset (n t)]{fullShare} fO)
      ∗ ((Memref.whole cc2_scratch1 : Memref sig .tc .vmem S256x16x32 .f32).view.loc (c : Thread nD τ) ↦[bset t]{fullShare} w)) ⊢ (sPair c n w t : sProp 𝕄) := by
  unfold sPair
  iintro ⟨HA, HB⟩
  isplitl [HA]; · iexists _; iexact HA
  iexact HB

/-- The gathered buffer and the memory, as the pairs the first loop lends. -/
theorem gPairs_of (s0 : S256x16x32.Idx → Elt F .f32) : iprop((bigSep Finset.univ fun t => (Memref.whole cc2_scratch0 : Memref sig .tc .vmem S256x16x32 .f32).view.loc (c : Thread nD τ) ↦[bset t]{fullShare} s0)
      ∗ (bigSep Finset.univ fun t => (Memref.whole main_arg4 : Memref sig .tc .hbm S100000x16x32 .f32).view.loc (c : Thread nD τ) ↦[mset (n t)]{fullShare} f4))
      ⊢ (bigSep (Ring.rangeSet 256 0 256) (gPair c n f4) : sProp 𝕄) := by
  rw [Ring.rangeSet_univ, ← bigSep_sep']
  refine BI.bigSep_mono fun t _ => gPair_of c n f4 s0 t

/-- What the first loop leaves. -/
theorem gIssue_end (acc : Unit) : gIssue c n g f4 k2_t1_loop.trips acc ⊢ iprop(pt c (Memref.whole cc2_stg0_0) g ∗ gBatch c n f4 256 0) := by
  rw [trips1]
  unfold gIssue
  iintro ⟨H0, HB, -⟩
  isplitl [H0]; · iexact H0
  iexact HB

theorem gDrain_start (W : Waits sig Unit) : iprop(pt c (Memref.whole cc2_stg0_0) g ∗ gBatch c n f4 256 0 ∗ owes (c : Thread nD τ) 0 W) ⊢ gDrain c n g f4 0 () := by
  unfold gDrain
  rw [if_pos (by omega), show 0 * NN = 0 from rfl]
  iintro ⟨H0, HB, HW⟩
  isplitr; · ipureintro; omega
  isplitl [H0]; · iexact H0
  isplitl [HW]; · iexists _; iexact HW
  iexact HB

/-- What the second loop leaves. -/
theorem gDrain_end (acc : Unit) : gDrain c n g f4 k2_t2_loop.trips acc
      ⊢ iprop(pt c (Memref.whole cc2_stg0_0) g ∗ (∃ W, owes (c : Thread nD τ) 0 W) ∗ semVal ((c : Thread nD τ), SemLoc.dma cc2_scratch2.sem) 0
        ∗ pt c (Memref.whole cc2_scratch0) (gath n f4)
        ∗ (bigSep Finset.univ fun t => (Memref.whole main_arg4 : Memref sig .tc .hbm S100000x16x32 .f32).view.loc (c : Thread nD τ) ↦[mset (n t)]{fullShare} f4)) := by
  rw [trips2, split0 c (gath n f4)]
  unfold gDrain
  rw [if_neg (Nat.lt_irrefl _)]
  unfold gD
  rw [bigSep_sep']
  iintro ⟨-, H0, HW, Hc, HD⟩
  isplitl [H0]; · iexact H0
  isplitl [HW]; · iexact HW
  isplitl [Hc]; · iexact Hc
  iexact HD

/-- The scattered buffer and the memory's copy, as the pairs the third loop lends. -/
theorem sPairs_of (w : S256x16x32.Idx → Elt F .f32) : iprop((bigSep Finset.univ fun t => (Memref.whole main_v0_4 : Memref sig .tc .hbm S100000x16x32 .f32).view.loc (c : Thread nD τ) ↦[mset (n t)]{fullShare} fO)
      ∗ (bigSep Finset.univ fun t => (Memref.whole cc2_scratch1 : Memref sig .tc .vmem S256x16x32 .f32).view.loc (c : Thread nD τ) ↦[bset t]{fullShare} w))
      ⊢ (bigSep (Ring.rangeSet 256 0 256) (sPair c n w) : sProp 𝕄) := by
  rw [Ring.rangeSet_univ, ← bigSep_sep']
  refine BI.bigSep_mono fun t _ => sPair_of c n fO w t

/-- What the third loop leaves. -/
theorem sIssue_end (w : S256x16x32.Idx → Elt F .f32) (acc : Unit) : sIssue c n g fO w k2_t3_loop.trips acc ⊢ iprop(pt c (Memref.whole cc2_stg0_0) g ∗ sBatch c n fO w 256 0) := by
  rw [trips3]
  unfold sIssue
  iintro ⟨H0, HB, -⟩
  isplitl [H0]; · iexact H0
  iexact HB

theorem sDrain_start (w : S256x16x32.Idx → Elt F .f32) (W : Waits sig Unit) : iprop(pt c (Memref.whole cc2_stg0_0) g ∗ sBatch c n fO w 256 0 ∗ owes (c : Thread nD τ) 0 W) ⊢ sDrain c n g fO w 0 () := by
  unfold sDrain
  rw [if_pos (by omega), show 0 * NN = 0 from rfl]
  iintro ⟨H0, HB, HW⟩
  isplitr; · ipureintro; omega
  isplitl [H0]; · iexact H0
  isplitl [HW]; · iexists _; iexact HW
  iexact HB

/-- What the last loop leaves. -/
theorem sDrain_end (hn : Function.Injective n) (w : S256x16x32.Idx → Elt F .f32) (acc : Unit) :
    iprop(sDrain c n g fO w k2_t4_loop.trips acc ∗ ((Memref.whole main_v0_4 : Memref sig .tc .hbm S100000x16x32 .f32).view.loc (c : Thread nD τ) ↦[mrest n]{fullShare} fO))
      ⊢ iprop(pt c (Memref.whole cc2_stg0_0) g ∗ (∃ W, owes (c : Thread nD τ) 0 W) ∗ semVal ((c : Thread nD τ), SemLoc.dma cc2_scratch3.sem) 0
        ∗ pt c (Memref.whole main_v0_4) (scat n fO w) ∗ pt c (Memref.whole cc2_scratch1) w) := by
  rw [trips4, split1 c w]
  unfold sDrain
  rw [if_neg (Nat.lt_irrefl _)]
  unfold sD
  rw [bigSep_sep']
  iintro ⟨⟨-, H0, HW, Hc, HD⟩, Hr⟩
  isplitl [H0]; · iexact H0
  isplitl [HW]; · iexact HW
  isplitl [Hc]; · iexact Hc
  icases HD with ⟨HA, HB⟩
  isplitl [HA Hr]
  · iapply (splitO c hn (scat n fO w)).2
    isplitl [HA]; · iexact HA
    iapply (Entails.of_eq (pointsTo_congr (ℓ := (Memref.whole main_v0_4 : Memref sig .tc .hbm S100000x16x32 .f32).view.loc (c : Thread nD τ)) (f := fO) (g := scat n fO w)
      (fun i hi => (scat_of_ne fO w i (mem_mrest hi)).symm)))
    iexact Hr
  iexact HB

set_option maxHeartbeats 4000000 in
theorem body2_run [∀ e, Nonempty (Elt F e)] (hn : Function.Injective n) (hg : Words g n) (W : Waits sig Unit) :
    iprop(pt c (Memref.whole cc2_stg0_0) g ∗ pt c (Memref.whole cc2_stg1_0) f1 ∗ pt c (Memref.whole cc2_stg2_0) f2 ∗ pt c (Memref.whole cc2_stg3_0) f3
        ∗ pt c (Memref.whole cc2_stg4_0) f6 ∗ pt c (Memref.whole cc2_stg5_0) f7 ∗ pt c (Memref.whole cc2_stg6_0) f8
        ∗ pt c (Memref.whole cc2_scratch0) s0 ∗ pt c (Memref.whole cc2_scratch1) s1
        ∗ pt c (Memref.whole main_arg4) f4 ∗ pt c (Memref.whole main_v0_4) fO
        ∗ semVal ((c : Thread nD τ), SemLoc.dma cc2_scratch2.sem) 0 ∗ semVal ((c : Thread nD τ), SemLoc.dma cc2_scratch3.sem) 0
        ∗ owes (c : Thread nD τ) 0 W)
      ⊢ wp frame (wpE (defs₀ (F := F)) 𝒱₀ c none) Set.univ body2
        (fun _ => iprop(pt c (Memref.whole cc2_stg0_0) g ∗ pt c (Memref.whole cc2_stg1_0) f1 ∗ pt c (Memref.whole cc2_stg2_0) f2 ∗ pt c (Memref.whole cc2_stg3_0) f3
        ∗ pt c (Memref.whole cc2_stg4_0) (ptOf f2 (gath n f4)) ∗ pt c (Memref.whole cc2_stg5_0) (confOf f1 f2) ∗ pt c (Memref.whole cc2_stg6_0) (lossOf f1 f2 (gath n f4))
        ∗ pt c (Memref.whole cc2_scratch0) (gath n f4) ∗ pt c (Memref.whole cc2_scratch1) (newRows f1 f2 f3 (gath n f4))
        ∗ pt c (Memref.whole main_arg4) f4 ∗ pt c (Memref.whole main_v0_4) (scat n fO (newRows f1 f2 f3 (gath n f4)))
        ∗ semVal ((c : Thread nD τ), SemLoc.dma cc2_scratch2.sem) 0 ∗ semVal ((c : Thread nD τ), SemLoc.dma cc2_scratch3.sem) 0
        ∗ ∃ W, owes (c : Thread nD τ) 0 W)) := by
  iintro ⟨H0, H1, H2, H3, H6, H7, H8, HS0, HS1, H4, HO5, Hc2, Hc3, HW⟩
  ihave HS0 := (Entails.of_eq (split0 c s0)) $$ HS0
  ihave H4 := (split4 c hn f4).1 $$ H4
  icases H4 with ⟨H4, H4r⟩
  ihave HP := (gPairs_of c n f4 s0) $$ [HS0 H4]
  · isplitl [HS0] <;> iassumption
  imod (Transfers.batch_alloc' (Lvl := ℕ) (countersEmb (U := UU)) (c : Thread nD τ) () NN (gD c n f4) (sm := .dma cc2_scratch2.sem) (E := Set.univ)) $$ Hc2 with HB
  unfold body2
  sl_unfold [cc2__rows_body]
  sl_exec
  sl_for (gIssue c n g f4) $$ [H0 HB HP]
  · intro k acc; exact gIssue_step c n g f4 _ _ _ _ _ _ _ _ _ _ _ _ hg k acc
  · unfold gIssue gBatch
    isplitl [H0]; · iexact H0
    isplitl [HB]; · iexact HB
    iexact HP
  iintro %acc HL
  ihave HL := (gIssue_end c n g f4 acc) $$ HL
  icases HL with ⟨H0, HB⟩
  sl_exec
  sl_for (gDrain c n g f4) $$ [H0 HB HW]
  · intro k acc; exact gDrain_step c n g f4 _ _ _ _ _ _ _ _ _ _ _ _ hg k acc
  · iapply (gDrain_start c n g f4 W)
    isplitl [H0]; · iexact H0
    isplitl [HB]; · iexact HB
    iexact HW
  iintro %acc2 HL
  ihave HL := (gDrain_end c n g f4 acc2) $$ HL
  icases HL with ⟨H0, ⟨%W2, HW⟩, Hc2, HS0, H4⟩
  sl_exec
  have rstg1_0 : View.readAt (Elt F) (Memref.whole cc2_stg1_0 : Memref sig .tc .vmem S256x16x32 .f32).view (Rect.unit (s := S256x16x32) ![0, 0, 0] S256x16x32.size inb_S256x16x32_S256x16x32_0_0_0).toLoadRect f1 = f1 :=
    View.readAt_full (s := S256x16x32) (Val := Elt F) (Memref.whole cc2_stg1_0 : Memref sig .tc .vmem S256x16x32 .f32).view _ _
  have rstg2_0 : View.readAt (Elt F) (Memref.whole cc2_stg2_0 : Memref sig .tc .vmem S256x16x32 .f32).view (Rect.unit (s := S256x16x32) ![0, 0, 0] S256x16x32.size inb_S256x16x32_S256x16x32_0_0_0).toLoadRect f2 = f2 :=
    View.readAt_full (s := S256x16x32) (Val := Elt F) (Memref.whole cc2_stg2_0 : Memref sig .tc .vmem S256x16x32 .f32).view _ _
  have rstg3_0 : View.readAt (Elt F) (Memref.whole cc2_stg3_0 : Memref sig .tc .vmem S256x16x32 .f32).view (Rect.unit (s := S256x16x32) ![0, 0, 0] S256x16x32.size inb_S256x16x32_S256x16x32_0_0_0).toLoadRect f3 = f3 :=
    View.readAt_full (s := S256x16x32) (Val := Elt F) (Memref.whole cc2_stg3_0 : Memref sig .tc .vmem S256x16x32 .f32).view _ _
  have rscratch0 : View.readAt (Elt F) (Memref.whole cc2_scratch0 : Memref sig .tc .vmem S256x16x32 .f32).view (Rect.unit (s := S256x16x32) ![0, 0, 0] S256x16x32.size inb_S256x16x32_S256x16x32_0_0_0).toLoadRect (gath n f4) = gath n f4 :=
    View.readAt_full (s := S256x16x32) (Val := Elt F) (Memref.whole cc2_scratch0 : Memref sig .tc .vmem S256x16x32 .f32).view _ _
  have e6 : (Memref.whole cc2_stg4_0).view.writes (Elt F) (Memref.whole cc2_stg4_0).view.junk (body2_run.sl.H6_1 n f2 f4) = ptOf f2 (gath n f4) := by
    unfold body2_run.sl.H6_1
    refine (View.read_writes_full (s := S256x16x32) (Val := Elt F) (Memref.whole cc2_stg4_0 : Memref sig .tc .vmem S256x16x32 .f32).view _ _ _ _).trans ?_
    exact ptOf_congr rstg2_0 rscratch0
  have e7 : (Memref.whole cc2_stg5_0).view.writes (Elt F) (Memref.whole cc2_stg5_0).view.junk (body2_run.sl.H7_1 f1 f2) = confOf f1 f2 := by
    unfold body2_run.sl.H7_1
    refine (View.read_writes_full (s := S256x16x32) (Val := Elt F) (Memref.whole cc2_stg5_0 : Memref sig .tc .vmem S256x16x32 .f32).view _ _ _ _).trans ?_
    exact confOf_congr rstg1_0 rstg2_0
  have e8 : (Memref.whole cc2_stg6_0).view.writes (Elt F) (Memref.whole cc2_stg6_0).view.junk (body2_run.sl.H8_1 n f1 f2 f4) = lossOf f1 f2 (gath n f4) := by
    unfold body2_run.sl.H8_1
    refine (View.read_writes_full (s := S1x1) (Val := Elt F) (Memref.whole cc2_stg6_0 : Memref sig .tc .smem S1x1 .f32).view _ _ _ _).trans ?_
    exact lossOf_congr rstg1_0 rstg2_0 rscratch0
  have eS : (Memref.whole cc2_scratch1).view.writes (Elt F) (Memref.whole cc2_scratch1).view.junk (body2_run.sl.HS1_1 n f1 f2 f3 f4) = newRows f1 f2 f3 (gath n f4) := by
    unfold body2_run.sl.HS1_1
    refine (View.read_writes_full (s := S256x16x32) (Val := Elt F) (Memref.whole cc2_scratch1 : Memref sig .tc .vmem S256x16x32 .f32).view _ _ _ _).trans ?_
    exact newRows_congr rstg1_0 rstg2_0 rstg3_0 rscratch0
  rw [e6, e7, e8, eS]
  clear e6 e7 e8 eS rstg1_0 rstg2_0 rstg3_0 rscratch0
  ihave HS1 := (Entails.of_eq (split1 c (newRows f1 f2 f3 (gath n f4)))) $$ HS1
  ihave HO5 := (splitO c hn fO).1 $$ HO5
  icases HO5 with ⟨HO5, HO5r⟩
  ihave HP := (sPairs_of c n fO (newRows f1 f2 f3 (gath n f4))) $$ [HO5 HS1]
  · isplitl [HO5] <;> iassumption
  imod (Transfers.batch_alloc' (Lvl := ℕ) (countersEmb (U := UU)) (c : Thread nD τ) () NN (sD c n fO (newRows f1 f2 f3 (gath n f4))) (sm := .dma cc2_scratch3.sem) (E := Set.univ)) $$ Hc3 with HB
  sl_for (sIssue c n g fO (newRows f1 f2 f3 (gath n f4))) $$ [H0 HB HP]
  · intro k acc; exact sIssue_step c n g fO _ _ _ _ _ _ _ _ _ _ _ _ _ hn hg k acc
  · unfold sIssue sBatch
    isplitl [H0]; · iexact H0
    isplitl [HB]; · iexact HB
    iexact HP
  iintro %acc3 HL
  ihave HL := (sIssue_end c n g fO (newRows f1 f2 f3 (gath n f4)) acc3) $$ HL
  icases HL with ⟨H0, HB⟩
  sl_exec
  sl_for (sDrain c n g fO (newRows f1 f2 f3 (gath n f4))) $$ [H0 HB HW]
  · intro k acc; exact sDrain_step c n g fO _ _ _ _ _ _ _ _ _ _ _ _ _ hg k acc
  · iapply (sDrain_start c n g fO (newRows f1 f2 f3 (gath n f4)) W2)
    isplitl [H0]; · iexact H0
    isplitl [HB]; · iexact HB
    iexact HW
  iintro %acc4 HL
  ihave HL := (sDrain_end c n g fO hn (newRows f1 f2 f3 (gath n f4)) acc4) $$ [HL HO5r]
  · isplitl [HL] <;> iassumption
  icases HL with ⟨H0, HW, Hc3, HO5, HS1⟩
  sl_exec
  sl_step
  isplitl [H0]; · iexact H0
  isplitl [H1]; · iexact H1
  isplitl [H2]; · iexact H2
  isplitl [H3]; · iexact H3
  isplitl [H6]; · iexact H6
  isplitl [H7]; · iexact H7
  isplitl [H8]; · iexact H8
  isplitl [HS0]; · iexact HS0
  isplitl [HS1]; · iexact HS1
  isplitl [H4 H4r]
  · iapply (split4 c hn f4).2
    isplitl [H4]; · iexact H4
    iexact H4r
  isplitl [HO5]; · iexact HO5
  isplitl [Hc2]; · iexact Hc2
  isplitl [Hc3]; · iexact Hc3
  iexact HW

end Body

end Cert.Proof.KernelIdeal

end
-- ==== Proof.Ideal.Call2.lean ====
/-
  The row-wise call as an item of the program: the batch's rows gathered out of the memory, the results computed,
  the new rows scattered into the memory's copy.
-/
module

public import proofs.«01_k».proof.Proof.Ideal.Rows2
public import proofs.«01_k».proof.Proof.Ideal.Reg

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ UU ℕ

/-- The two semaphores the gather and the scatter wait on. -/
def sem2 (k : Fin 2) : SemLoc sig := ![SemLoc.dma cc2_scratch2.sem, SemLoc.dma cc2_scratch3.sem] k

theorem ownFacts2 : Pipeline.OwnSemFacts spec2 sem2 := by decide

theorem owns_whole_eq (c : Dev nD) (b : Ref sig .tc) (X : b.ty.Contents (Elt F)) :
    (owns (c : Thread nD τ) (Memref.whole b) fullShare X : sProp 𝕄)
      = iprop(∃ f, ⌜f = X⌝ ∗ ((c : Thread nD τ).loc b ↦{fullShare} f)) := by
  unfold owns
  congr 1; funext f
  rw [show (Memref.whole b).view.read (Elt F) f = f from rfl, View.set_whole]

variable (V : Dev nD → Valuation τ sig (Elt F)) (n : Dev nD → Fin 256 → Fin 100000)

/-- The blocks the call's inputs stage: the whole arrays. -/
abbrev stg2_0 (c : Dev nD) : S256.Idx → Elt F .i32 := ((cfg2.win 0).blk t2_0).view.read (Elt F) (V c main_arg1)
abbrev stg2_1 (c : Dev nD) : S256x16x32.Idx → Elt F .f32 := ((cfg2.win 1).blk t2_0).view.read (Elt F) (V c main_v0_1)
abbrev stg2_2 (c : Dev nD) : S256x16x32.Idx → Elt F .f32 := ((cfg2.win 2).blk t2_0).view.read (Elt F) (V c main_call0_v1)
abbrev stg2_3 (c : Dev nD) : S256x16x32.Idx → Elt F .f32 := ((cfg2.win 3).blk t2_0).view.read (Elt F) (V c main_call0_v4)

/-- The memory's gathered rows, and the rows the call puts back. -/
abbrev rows2 (c : Dev nD) : S256x16x32.Idx → Elt F .f32 := gath (n c) (V c main_arg4)
abbrev new2 (c : Dev nD) : S256x16x32.Idx → Elt F .f32 := newRows (stg2_1 V c) (stg2_2 V c) (stg2_3 V c) (rows2 V n c)

/-- What the call holds between its ends: the buffers no window stages, its semaphores at zero, the memory, and the
    copy, before the one point as it was and after it with the rows scattered. -/
def Φ2 (c : Dev nD) (j : ℕ) : sProp 𝕄 :=
  iprop(Pipeline.scopedRest (Ix := Unit) (Name := ℕ) (U := UU) (Lvl := ℕ) (Val := Elt F) spec2 c ∗ Pipeline.ownSems0 sem2 c
    ∗ pt c (Memref.whole main_arg4) (V c main_arg4)
    ∗ pt c (Memref.whole main_v0_4) (if j = 0 then V c main_v0_4 else scat (n c) (V c main_v0_4) (new2 V n c)))

def dat2 (c : Dev nD) : Dat τ (Elt F) Unit ℕ UU ℕ cfg2 c where
  A w := V c (Pipeline.arrRef spec2 w)
  after w _ := match w with
    | ⟨0, _⟩ => stg2_0 V c
    | ⟨1, _⟩ => stg2_1 V c
    | ⟨2, _⟩ => stg2_2 V c
    | ⟨3, _⟩ => stg2_3 V c
    | ⟨4, _⟩ => ptOf (stg2_2 V c) (rows2 V n c)
    | ⟨5, _⟩ => confOf (stg2_1 V c) (stg2_2 V c)
    | ⟨6, _⟩ => lossOf (stg2_1 V c) (stg2_2 V c) (rows2 V n c)
  Φ t := Φ2 V n c t.val
  q _ := fullShare
  owed _ := 0

theorem before2_0 (c : Dev nD) (d) : (dat2 V n c).before 0 t2_0 d = stg2_0 V c := by unfold Dat.before; rw [if_pos (by decide)]; rfl
theorem before2_1 (c : Dev nD) (d) : (dat2 V n c).before 1 t2_0 d = stg2_1 V c := by unfold Dat.before; rw [if_pos (by decide)]; rfl
theorem before2_2 (c : Dev nD) (d) : (dat2 V n c).before 2 t2_0 d = stg2_2 V c := by unfold Dat.before; rw [if_pos (by decide)]; rfl
theorem before2_3 (c : Dev nD) (d) : (dat2 V n c).before 3 t2_0 d = stg2_3 V c := by unfold Dat.before; rw [if_pos (by decide)]; rfl

theorem bigSep_2 {M : Type} [URA M] (Φ : Fin 2 → sProp M) : bigSep Finset.univ Φ = iprop(Φ 0 ∗ Φ 1) :=
  bigSep_univ_eq_bigSepL [(0 : Fin 2), (1 : Fin 2)] (by decide) (by decide) Φ

theorem sems2 (c : Dev nD) : (Pipeline.ownSems0 sem2 c : sProp 𝕄)
    = iprop(semVal ((c : Thread nD τ), SemLoc.dma cc2_scratch2.sem) 0 ∗ semVal ((c : Thread nD τ), SemLoc.dma cc2_scratch3.sem) 0) := by
  unfold Pipeline.ownSems0; rw [bigSep_2]; rfl

set_option maxHeartbeats 2000000 in
theorem body2_obligation (hn : ∀ c, Function.Injective (n c)) (hg : ∀ c, Words (stg2_0 V c) (n c)) (c : Dev nD) :
    Pipeline.BodyObligation (dat2 V n c) (defs₀ (F := F)) 𝒱₀ () Set.univ := fun t => by
  obtain rfl := fin_N2 t
  rw [bigSep_W2, bigSep_W2]
  simp only [owns_whole_eq]
  rw [show (dat2 V n c).Φ t2_0.castSucc = Φ2 V n c 0 from rfl, show (dat2 V n c).Φ t2_0.succ = Φ2 V n c 1 from rfl]
  unfold Φ2 Dat.owesAt Pipeline.owesWithin
  rw [if_pos rfl, if_neg Nat.one_ne_zero, sems2, scopedRest2_eq]
  iintro ⟨⟨⟨Ha, Hb, Hd, He, Hf, Hg, ⟨%s0, HS0⟩, ⟨%s1, HS1⟩⟩, ⟨Hc2, Hc3⟩, H4, HO⟩, ⟨%W, -, HW⟩, ⟨%d0, %f0, %hf0, H0⟩, ⟨%d1, %f1, %hf1, H1⟩, ⟨%d2, %f2, %hf2, H2⟩, ⟨%d3, %f3, %hf3, H3⟩,
    ⟨%d4, %f6, -, H6⟩, ⟨%d5, %f7, -, H7⟩, ⟨%d6, %f8, -, H8⟩⟩
  rw [before2_0] at hf0
  rw [before2_1] at hf1
  rw [before2_2] at hf2
  rw [before2_3] at hf3
  subst hf0 hf1 hf2 hf3
  ihave HL := (body2_run c (n c) (stg2_0 V c) (stg2_1 V c) (stg2_2 V c) (stg2_3 V c) f6 f7 s0 s1 (V c main_arg4) (V c main_v0_4) f8 (hn c) (hg c) W) $$ [H0 H1 H2 H3 H6 H7 H8 HS0 HS1 H4 HO Hc2 Hc3 HW]
  · isplitl [H0]; · iexact H0
    isplitl [H1]; · iexact H1
    isplitl [H2]; · iexact H2
    isplitl [H3]; · iexact H3
    isplitl [H6]; · iexact H6
    isplitl [H7]; · iexact H7
    isplitl [H8]; · iexact H8
    isplitl [HS0]; · iexact HS0
    isplitl [HS1]; · iexact HS1
    isplitl [H4]; · iexact H4
    isplitl [HO]; · iexact HO
    isplitl [Hc2]; · iexact Hc2
    isplitl [Hc3]; · iexact Hc3
    iexact HW
  iapply (wp_wand frame (wpE (defs₀ (F := F)) 𝒱₀ c none) Set.univ) $$ HL
  iintro %_ ⟨H0, H1, H2, H3, H6, H7, H8, HS0, HS1, H4, HO, Hc2, Hc3, ⟨%W', HW⟩⟩
  isplitl [Ha Hb Hd He Hf Hg HS0 HS1 Hc2 Hc3 H4 HO]
  · isplitl [Ha Hb Hd He Hf Hg HS0 HS1]
    · isplitl [Ha]; · iexact Ha
      isplitl [Hb]; · iexact Hb
      isplitl [Hd]; · iexact Hd
      isplitl [He]; · iexact He
      isplitl [Hf]; · iexact Hf
      isplitl [Hg]; · iexact Hg
      isplitl [HS0]; · iexists _; iexact HS0
      iexists _; iexact HS1
    isplitl [Hc2 Hc3]
    · isplitl [Hc2]; · iexact Hc2
      iexact Hc3
    isplitl [H4]; · iexact H4
    iexact HO
  isplitl [HW]
  · iexists W'; isplitr; · ipureintro; exact fun _ _ => Or.inl trivial
    iexact HW
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H6]; · iexists _; isplitr; swap; (· iexact H6); ipureintro; rfl
  isplitl [H7]; · iexists _; isplitr; swap; (· iexact H7); ipureintro; rfl
  iexists _; isplitr; swap; (· iexact H8); ipureintro; rfl

end Cert.Proof.KernelIdeal

end
-- ==== Proof.Ideal.Items.lean ====
/-
  The program's run: its four host stretches and three calls in order, over the buffers' contents between them.
-/
module

public import proofs.«01_k».proof.Proof.Ideal.Soft
public import proofs.«01_k».proof.Proof.Ideal.Call1
public import proofs.«01_k».proof.Proof.Ideal.Call2

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ UU ℕ

variable (m : (ℓ : Loc nD τ sig) → Buf (Elt F) ℓ) (n : Dev nD → Fin 256 → Fin 100000)

/-- The buffers' contents between the items, each call's results named. -/
def U2 (c : Dev nD) : Valuation τ sig (Elt F) := Function.update (V1 m c) main_call0_v15 ((dat0 (V1 m) c).arrAt 3 cfg0.N)
def U3 (c : Dev nD) : Valuation τ sig (Elt F) := StableHlo.after hostOps1 (U2 m c)
def U4 (c : Dev nD) : Valuation τ sig (Elt F) := Function.update (U3 m c) main_call0_v17 (U3 m c main_arg4)
def U5 (c : Dev nD) : Valuation τ sig (Elt F) := StableHlo.after hostOps2 (U4 m c)
def U6 (c : Dev nD) : Valuation τ sig (Elt F) :=
  Function.update (Function.update (Function.update (Function.update (U5 m c) main_v0_2 ((dat2 (U5 m) n c).arrAt 4 cfg2.N))
    main_v0_3 ((dat2 (U5 m) n c).arrAt 5 cfg2.N)) main_call0_v18_2 ((dat2 (U5 m) n c).arrAt 6 cfg2.N))
    main_v0_4 (scat (n c) (U5 m c main_v0_4) (new2 (U5 m) n c))
def U7 (c : Dev nD) : Valuation τ sig (Elt F) := StableHlo.after hostOps3 (U6 m n c)

/-- What the calls leave, as the items' chain takes it. -/
def outs : Outs (F := F) := fun k r c => match k with
  | 2 => U2 m c r
  | 4 => U4 m c r
  | _ => U6 m n c r

theorem U2_of (c : Dev nD) (r : Ref sig .tc) (h : r ≠ main_call0_v15) : U2 m c (Proc.devRef .tc r) = V1 m c (Proc.devRef .tc r) := by
  unfold U2; rw [Function.update_of_ne (StableHlo.devRef_ne_of_ne h)]
theorem U2_v15 (c : Dev nD) : U2 m c (Proc.devRef .tc main_call0_v15) = (dat0 (V1 m) c).arrAt 3 cfg0.N := by
  unfold U2; rw [Function.update_self]
theorem U6_ref (c : Dev nD) (r : Ref sig .tc) (h2 : r ≠ main_v0_2) (h3 : r ≠ main_v0_3) (h1 : r ≠ main_call0_v18_2) (h4 : r ≠ main_v0_4) :
    U6 m n c (Proc.devRef .tc r) = U5 m c (Proc.devRef .tc r) := by
  unfold U6; rw [Function.update_of_ne (StableHlo.devRef_ne_of_ne h4), Function.update_of_ne (StableHlo.devRef_ne_of_ne h1),
    Function.update_of_ne (StableHlo.devRef_ne_of_ne h3), Function.update_of_ne (StableHlo.devRef_ne_of_ne h2)]

theorem V2_eq (c : Dev nD) : V2 m (outs m n) c = U2 m c := by
  show Function.update (V1 m c) main_call0_v15 (U2 m c main_call0_v15) = U2 m c
  unfold U2; rw [Function.update_self]
theorem V3_eq (c : Dev nD) : V3 m (outs m n) c = U3 m c := by
  show StableHlo.after hostOps1 (V2 m (outs m n) c) = _
  rw [V2_eq]; rfl
theorem V4_eq (c : Dev nD) : V4 m (outs m n) c = U4 m c := by
  show Function.update (V3 m (outs m n) c) main_call0_v17 (U4 m c main_call0_v17) = U4 m c
  rw [V3_eq]; unfold U4; rw [Function.update_self]
theorem V5_eq (c : Dev nD) : V5 m (outs m n) c = U5 m c := by
  show StableHlo.after hostOps2 (V4 m (outs m n) c) = _
  rw [V4_eq]; rfl

theorem U6_v0_4 (c : Dev nD) : U6 m n c main_v0_4 = scat (n c) (U5 m c main_v0_4) (new2 (U5 m) n c) := by
  unfold U6; rw [Function.update_self]
theorem U6_v18_2 (c : Dev nD) : U6 m n c main_call0_v18_2 = (dat2 (U5 m) n c).arrAt 6 cfg2.N := by
  unfold U6; rw [Function.update_of_ne (StableHlo.devRef_ne_of_ne (by decide)), Function.update_self]
theorem U6_v0_3 (c : Dev nD) : U6 m n c main_v0_3 = (dat2 (U5 m) n c).arrAt 5 cfg2.N := by
  unfold U6; rw [Function.update_of_ne (StableHlo.devRef_ne_of_ne (by decide)), Function.update_of_ne (StableHlo.devRef_ne_of_ne (by decide)), Function.update_self]
theorem U6_v0_2 (c : Dev nD) : U6 m n c main_v0_2 = (dat2 (U5 m) n c).arrAt 4 cfg2.N := by
  unfold U6; rw [Function.update_of_ne (StableHlo.devRef_ne_of_ne (by decide)), Function.update_of_ne (StableHlo.devRef_ne_of_ne (by decide)),
    Function.update_of_ne (StableHlo.devRef_ne_of_ne (by decide)), Function.update_self]
theorem U6_of (c : Dev nD) (b : DevRef τ sig) (h2 : b ≠ main_v0_2) (h3 : b ≠ main_v0_3) (h1 : b ≠ main_call0_v18_2) (h4 : b ≠ main_v0_4) : U6 m n c b = U5 m c b := by
  unfold U6; rw [Function.update_of_ne h4, Function.update_of_ne h1, Function.update_of_ne h3, Function.update_of_ne h2]

theorem V6_eq (c : Dev nD) : V6 m (outs m n) c = U6 m n c := by
  show Function.update (Function.update (Function.update (Function.update (V5 m (outs m n) c) main_v0_2 (U6 m n c main_v0_2)) main_v0_3 (U6 m n c main_v0_3))
    main_call0_v18_2 (U6 m n c main_call0_v18_2)) main_v0_4 (U6 m n c main_v0_4) = _
  rw [V5_eq, U6_v0_2, U6_v0_3, U6_v18_2, U6_v0_4]; rfl
theorem V7_eq (c : Dev nD) : V7 m (outs m n) c = U7 m n c := by
  show StableHlo.after hostOps3 (V6 m (outs m n) c) = _
  rw [V6_eq]; rfl

/-- The calls' proof data, each entered from the contents before it. -/
def pdats : (p : Fin 3) → (c : Dev nD) → Dat τ (Elt F) Unit ℕ UU ℕ (cfgs p) c
  | ⟨0, _⟩ => fun c => dat0 (V1 m) c
  | ⟨1, _⟩ => fun c => dat1 (U3 m) c
  | ⟨2, _⟩ => fun c => dat2 (U5 m) n c

theorem not_arr {p : Fin 3} {H : Finset (Ref sig .tc)} {b : DevRef τ sig}
    (hb : b ∈ (Pipeline.ucRefs τ sig \ Pipeline.arrRefs (pcfgs (F := F) p).spec) \ Pipeline.hbmRefs (τ := τ) H) (r : Ref sig .tc)
    (hr : Proc.devRef (τ := τ) .tc r ∈ Pipeline.arrRefs (τ := τ) (pcfgs (F := F) p).spec) : b ≠ Proc.devRef .tc r := fun h =>
  (Finset.mem_sdiff.mp (Finset.mem_sdiff.mp hb).1).2 (h ▸ hr)
theorem not_hbm {p : Fin 3} {H : Finset (Ref sig .tc)} {b : DevRef τ sig}
    (hb : b ∈ (Pipeline.ucRefs τ sig \ Pipeline.arrRefs (pcfgs (F := F) p).spec) \ Pipeline.hbmRefs (τ := τ) H) (r : Ref sig .tc)
    (hr : Proc.devRef (τ := τ) .tc r ∈ Pipeline.hbmRefs (τ := τ) H) : b ≠ Proc.devRef .tc r := fun h =>
  (Finset.mem_sdiff.mp hb).2 (h ▸ hr)

theorem arr_sub0 : Pipeline.arrRefs (τ := τ) spec0 ⊆ Pipeline.ucRefs τ sig := by decide
theorem arr_sub1 : Pipeline.arrRefs (τ := τ) cfg1.spec ⊆ Pipeline.ucRefs τ sig := by decide
theorem arr_sub2 : Pipeline.arrRefs (τ := τ) spec2 ⊆ Pipeline.ucRefs τ sig := by decide
theorem hbm_sub0 : Pipeline.hbmRefs (τ := τ) (∅ : Finset (Ref sig .tc)) ⊆ Pipeline.ucRefs τ sig \ Pipeline.arrRefs (τ := τ) spec0 := by decide
theorem hbm_sub1 : Pipeline.hbmRefs (τ := τ) ({main_arg4, main_call0_v17} : Finset (Ref sig .tc)) ⊆ Pipeline.ucRefs τ sig \ Pipeline.arrRefs (τ := τ) cfg1.spec := by decide
theorem hbm_sub2 : Pipeline.hbmRefs (τ := τ) ({main_arg4, main_v0_4} : Finset (Ref sig .tc)) ⊆ Pipeline.ucRefs τ sig \ Pipeline.arrRefs (τ := τ) spec2 := by decide
theorem mem_arr0 : Proc.devRef (τ := τ) .tc main_call0_v15 ∈ Pipeline.arrRefs (τ := τ) spec0 := by decide
theorem mem_arr2_4 : Proc.devRef (τ := τ) .tc main_v0_2 ∈ Pipeline.arrRefs (τ := τ) spec2 := by decide
theorem mem_arr2_5 : Proc.devRef (τ := τ) .tc main_v0_3 ∈ Pipeline.arrRefs (τ := τ) spec2 := by decide
theorem mem_arr2_6 : Proc.devRef (τ := τ) .tc main_call0_v18_2 ∈ Pipeline.arrRefs (τ := τ) spec2 := by decide
theorem mem_hbm1 : Proc.devRef (τ := τ) .tc main_call0_v17 ∈ Pipeline.hbmRefs (τ := τ) ({main_arg4, main_call0_v17} : Finset (Ref sig .tc)) := by decide
theorem mem_hbm2 : Proc.devRef (τ := τ) .tc main_v0_4 ∈ Pipeline.hbmRefs (τ := τ) ({main_arg4, main_v0_4} : Finset (Ref sig .tc)) := by decide

/-- The windows' arrays at each call's end are the contents after it. -/
theorem end0 (c : Dev nD) : ∀ w : Fin 4, (dat0 (V1 m) c).arrAt w cfg0.N = U2 m c (Proc.devRef .tc (Pipeline.arrRef spec0 w))
  | ⟨0, _⟩ => ((dat0 (V1 m) c).arrAt_in 0 rfl _).trans (U2_of m c main_call0_v0 (by decide)).symm
  | ⟨1, _⟩ => ((dat0 (V1 m) c).arrAt_in 1 rfl _).trans (U2_of m c main_call0_v13 (by decide)).symm
  | ⟨2, _⟩ => ((dat0 (V1 m) c).arrAt_in 2 rfl _).trans (U2_of m c main_call0_v14 (by decide)).symm
  | ⟨3, _⟩ => (U2_v15 m c).symm
theorem end2 (c : Dev nD) : ∀ w : Fin 7, (dat2 (U5 m) n c).arrAt w cfg2.N = U6 m n c (Proc.devRef .tc (Pipeline.arrRef spec2 w))
  | ⟨0, _⟩ => ((dat2 (U5 m) n c).arrAt_in 0 rfl _).trans (U6_ref m n c main_arg1 (by decide) (by decide) (by decide) (by decide)).symm
  | ⟨1, _⟩ => ((dat2 (U5 m) n c).arrAt_in 1 rfl _).trans (U6_ref m n c main_v0_1 (by decide) (by decide) (by decide) (by decide)).symm
  | ⟨2, _⟩ => ((dat2 (U5 m) n c).arrAt_in 2 rfl _).trans (U6_ref m n c main_call0_v1 (by decide) (by decide) (by decide) (by decide)).symm
  | ⟨3, _⟩ => ((dat2 (U5 m) n c).arrAt_in 3 rfl _).trans (U6_ref m n c main_call0_v4 (by decide) (by decide) (by decide) (by decide)).symm
  | ⟨4, _⟩ => (U6_v0_2 m n c).symm
  | ⟨5, _⟩ => (U6_v0_3 m n c).symm
  | ⟨6, _⟩ => (U6_v18_2 m n c).symm

set_option maxHeartbeats 1000000 in
set_option backward.isDefEq.respectTransparency.types false in
def reg0 : RegionSeg (pcfgs (F := F)) adm (pdats m n) () defs₀ 𝒱₀ L lv 0 :=
  regOf (pdats m n) 0 (K := PEmpty) (fun k => k.elim) (Pipeline.OwnSemFacts.none _) ∅ arr_sub0 hbm_sub0 launch0.toP rfl
    (fun c => (body0_obligation (V1 m) c).loose) (fun _ _ => rfl) (fun _ => rfl) (fun c => (pdats m n 0 c).share_full fun _ => rfl) (V1 m) (U2 m)
    (fun c b hb => by unfold U2; rw [Function.update_of_ne (not_arr hb main_call0_v15 mem_arr0)])
    (fun c => by
      rw [show (pdats m n 0 c).Φ 0 = Φ0 c from rfl]
      iintro ⟨Hr, -, -⟩; iexact Hr)
    (fun c => by
      rw [Pipeline.ownSems0_none, BI.bigSep_empty, show (pdats m n 0 c).Φ (Fin.last _) = Φ0 c from rfl]
      iintro Hr
      isplitl [Hr]; · iexact Hr
      isplitr <;> iempintro)
    (fun c w => rfl)
    (fun c w => end0 m c w)

theorem bigSep_refs2 {M : Type} [URA M] {a b : Ref sig .tc} (h : a ≠ b) (Φ : Ref sig .tc → sProp M) : bigSep ({a, b} : Finset (Ref sig .tc)) Φ = iprop(Φ a ∗ Φ b) := by
  rw [BI.bigSep_insert (by simpa using h), BI.bigSep_singleton]; rfl

set_option maxHeartbeats 1000000 in
set_option backward.isDefEq.respectTransparency.types false in
def reg1 : RegionSeg (pcfgs (F := F)) adm (pdats m n) () defs₀ 𝒱₀ L lv 1 :=
  regOf (pdats m n) 1 (K := Fin 40) sem1 ownFacts1 {main_arg4, main_call0_v17} arr_sub1 hbm_sub1 launch1.toP rfl
    (fun c => (body1_obligation (U3 m) c).loose) (fun _ _ => rfl) (fun _ => rfl) (fun c => (pdats m n 1 c).share_full fun _ => rfl) (U3 m) (U4 m)
    (fun c b hb => by unfold U4; rw [Function.update_of_ne (not_hbm hb main_call0_v17 mem_hbm1)])
    (fun c => by
      rw [bigSep_refs2 (by decide), show (pdats m n 1 c).Φ 0 = Φ1 (U3 m) c 0 from rfl]
      unfold Φ1; rw [if_pos rfl]
      iintro ⟨Hr, Hs, H4, HO⟩
      isplitl [Hr]; · iexact Hr
      isplitl [Hs]; · iexact Hs
      isplitl [H4]; · iexact H4
      iexact HO)
    (fun c => by
      rw [bigSep_refs2 (by decide), show (pdats m n 1 c).Φ (Fin.last _) = Φ1 (U3 m) c 1 from rfl]
      unfold Φ1; rw [if_neg Nat.one_ne_zero, show U4 m c (Proc.devRef .tc main_arg4) = U3 m c main_arg4 from by
        unfold U4; rw [Function.update_of_ne (StableHlo.devRef_ne_of_ne (by decide))],
        show U4 m c (Proc.devRef .tc main_call0_v17) = U3 m c main_arg4 from by unfold U4; rw [Function.update_self]]
      iintro ⟨Hr, Hs, H4, HO⟩
      isplitl [Hr]; · iexact Hr
      isplitl [Hs]; · iexact Hs
      isplitl [H4]; · iexact H4
      iexact HO)
    (fun c w => w.elim0)
    (fun c w => w.elim0)

set_option maxHeartbeats 1000000 in
set_option backward.isDefEq.respectTransparency.types false in
def reg2 (hn : ∀ c, Function.Injective (n c)) (hg : ∀ c, Words (stg2_0 (U5 m) c) (n c)) : RegionSeg (pcfgs (F := F)) adm (pdats m n) () defs₀ 𝒱₀ L lv 2 :=
  regOf (pdats m n) 2 (K := Fin 2) sem2 ownFacts2 {main_arg4, main_v0_4} arr_sub2 hbm_sub2 launch2.toP rfl
    (fun c => (body2_obligation (U5 m) n hn hg c).loose) (fun _ _ => rfl) (fun _ => rfl) (fun c => (pdats m n 2 c).share_full fun _ => rfl) (U5 m) (U6 m n)
    (fun c b hb => U6_of m n c b (not_arr hb main_v0_2 mem_arr2_4) (not_arr hb main_v0_3 mem_arr2_5) (not_arr hb main_call0_v18_2 mem_arr2_6) (not_hbm hb main_v0_4 mem_hbm2))
    (fun c => by
      rw [bigSep_refs2 (by decide), show (pdats m n 2 c).Φ 0 = Φ2 (U5 m) n c 0 from rfl]
      unfold Φ2; rw [if_pos rfl]
      iintro ⟨Hr, Hs, H4, HO⟩
      isplitl [Hr]; · iexact Hr
      isplitl [Hs]; · iexact Hs
      isplitl [H4]; · iexact H4
      iexact HO)
    (fun c => by
      rw [bigSep_refs2 (by decide), show (pdats m n 2 c).Φ (Fin.last _) = Φ2 (U5 m) n c 1 from rfl]
      unfold Φ2; rw [if_neg Nat.one_ne_zero, show U6 m n c (Proc.devRef .tc main_arg4) = U5 m c main_arg4 from
        U6_of m n c _ (StableHlo.devRef_ne_of_ne (by decide)) (StableHlo.devRef_ne_of_ne (by decide)) (StableHlo.devRef_ne_of_ne (by decide)) (StableHlo.devRef_ne_of_ne (by decide)),
        show U6 m n c (Proc.devRef .tc main_v0_4) = scat (n c) (U5 m c main_v0_4) (new2 (U5 m) n c) from U6_v0_4 m n c]
      iintro ⟨Hr, Hs, H4, HO⟩
      isplitl [Hr]; · iexact Hr
      isplitl [Hs]; · iexact Hs
      isplitl [H4]; · iexact H4
      iexact HO)
    (fun c w => rfl)
    (fun c w => end2 m n c w)

end Cert.Proof.KernelIdeal

end
-- ==== Proof.Ideal.Run.lean ====
/-
  The run of the whole program: every execution ends, with every buffer that outlives the calls at the last contents.
-/
module

public import proofs.«01_k».proof.Proof.Ideal.Items
public import Idealize.ShloMosaic.Lib.Pipeline.Value

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ UU ℕ

variable (m : (ℓ : Loc nD τ sig) → Buf (Elt F) ℓ) (n : Dev nD → Fin 256 → Fin 100000)

/-- What rides along between the items: nothing owed. -/
abbrev EE (_ : Fin 4) (c : Dev nD) : sProp 𝕄 := iprop(∃ W, owes (c : Thread nD τ) (0 : CellTallies nD τ sig Unit) W)

/-- The launch's own resource: the pipelines' cells and tokens. -/
def uStart : UU := (initOf (Pipeline.cells cfgs cellOf_inj) (Pipeline.launchToks cfgs cellOf_inj), 1)

abbrev EP : Emb (UR sig nD τ) (MT nD τ sig Unit (Elt F) ℕ UU ℕ) := embL

theorem uStart_gives : (ownU uStart : sProp 𝕄) ⊢ |={Set.univ}=> iprop(BI.own ((EP (F := F)) (initOf (Pipeline.cells cfgs cellOf_inj) (Pipeline.launchToks cfgs cellOf_inj)))
    ∗ bigSep Finset.univ fun _ : Dev nD => (BI.emp : sProp 𝕄)) := by
  unfold uStart
  iintro Hu
  ihave H := (ownU_pair _ _) $$ Hu
  icases H with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

theorem launch_rest (ρ : Dev nD → PrngReg) :
    iprop((bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ (BI.emp : sProp 𝕄))) ∗ levAts L lv)
      ⊢ (|={Set.univ}=> bigSep Finset.univ (EE 0) : sProp 𝕄) := by
  iintro ⟨H, -⟩
  imodintro
  have h : ∀ c : Dev nD, iprop(unscopedSems0 c ∗ owes (c : Thread nD τ) (0 : CellTallies nD τ sig Unit) ∅
        ∗ Pipeline.launchCred (fun _ => (0 : CellTallies nD τ sig Unit)) c ∗ prngReg c (ρ c) ∗ (BI.emp : sProp 𝕄)) ⊢ (EE (F := F) 0 c : sProp 𝕄) := fun c => by
    iintro ⟨-, HO, -, -, -⟩; iexists _; iexact HO
  have h' : (bigSep Finset.univ fun c : Dev nD => iprop(unscopedSems0 c ∗ owes (c : Thread nD τ) (0 : CellTallies nD τ sig Unit) ∅
        ∗ Pipeline.launchCred (fun _ => (0 : CellTallies nD τ sig Unit)) c ∗ prngReg c (ρ c) ∗ (BI.emp : sProp 𝕄)))
      ⊢ (bigSep Finset.univ (EE 0) : sProp 𝕄) := BI.bigSep_mono fun c _ => h c
  iapply h'
  iexact H

/-- The calls' records, their ends spelt over the chain's contents. -/
theorem pre0 (c : Dev nD) : iprop(StableHlo.held (c : Thread nD τ) (Pipeline.ucRefs τ sig) (V1 m c) ∗ EE 0 c) ⊢ (reg0 m n).pre c := .rfl
theorem post0 (c : Dev nD) : (reg0 m n).post c ⊢ iprop(StableHlo.held (c : Thread nD τ) (Pipeline.ucRefs τ sig) (V2 m (outs m n) c) ∗ EE 1 c) := by
  rw [V2_eq]; exact .rfl
theorem pre1 (c : Dev nD) : iprop(StableHlo.held (c : Thread nD τ) (Pipeline.ucRefs τ sig) (V3 m (outs m n) c) ∗ EE 1 c) ⊢ (reg1 m n).pre c := by
  rw [V3_eq]; exact .rfl
theorem post1 (c : Dev nD) : (reg1 m n).post c ⊢ iprop(StableHlo.held (c : Thread nD τ) (Pipeline.ucRefs τ sig) (V4 m (outs m n) c) ∗ EE 2 c) := by
  rw [V4_eq]; exact .rfl
theorem pre2 (hn) (hg) (c : Dev nD) : iprop(StableHlo.held (c : Thread nD τ) (Pipeline.ucRefs τ sig) (V5 m (outs m n) c) ∗ EE 2 c) ⊢ (reg2 m n hn hg).pre c := by
  rw [V5_eq]; exact .rfl
theorem post2 (hn) (hg) (c : Dev nD) : (reg2 m n hn hg).post c ⊢ iprop(StableHlo.held (c : Thread nD τ) (Pipeline.ucRefs τ sig) (V6 m (outs m n) c) ∗ EE 3 c) := by
  rw [V6_eq]; exact .rfl

set_option backward.isDefEq.respectTransparency.types false in
/-- Every weakly fair execution from zero counters ends, with every semaphore at zero and every buffer that outlives the
    calls at the last contents. -/
theorem run (ρ : Dev nD → PrngReg) (hn : ∀ c, Function.Injective (n c)) (hg : ∀ c, Words (stg2_0 (U5 m) c) (n c)) :
    θ_run defs (onTc (τ := τ) (main (F := F))) ⟨m, fun _ => 0, ρ⟩ (fun r => (∀ c : Dev nD, ∀ b ∈ Pipeline.ucRefs τ sig, r.2.mem ((c : Thread nD τ).1, b) = U7 m n c b)
      ∧ r.2.sem = fun _ => 0) := by
  refine Pipeline.θ_run_regions_kit_dev_sems (pcfgs (F := F)) adm (pdats m n) () cellOf_inj EP defs₀ 𝒱₀ L lv m ρ main
    (segs m (outs m n) 𝒱₀ L lv EE () (pdats m n) (reg0 m n) (reg1 m n) (reg2 m n hn hg))
    (fun c Q => by
      rewrite [main_chain c, Seg.run_eq_chain,
        show (segs m (outs m n) 𝒱₀ L lv EE () (pdats m n) (reg0 m n) (reg1 m n) (reg2 m n hn hg) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0) (fun _ _ => rfl) (fun _ => BI.emp) uStart uStart_gives
    (T₀ := fun c => iprop(StableHlo.held (c : Thread nD τ) (Pipeline.ucRefs τ sig) (V0 m c) ∗ EE 0 c))
    (Tₙ := fun c => StableHlo.held (c : Thread nD τ) (Pipeline.ucRefs τ sig) (V7 m (outs m n) c))
    (hch := fun c => ⟨.rfl, pre0 m n c, post0 m n c, pre1 m n c, post1 m n c, pre2 m n hn hg c, post2 m n hn hg c, sep_mono .rfl .rfl⟩)
    (hinit := ?_) (QY := fun c s => ∀ b ∈ Pipeline.ucRefs τ sig, s.mem ((c : Thread nD τ).1, b) = U7 m n c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅
              ∗ Pipeline.launchCred (fun _ => (0 : CellTallies nD τ sig Unit)) c ∗ prngReg c (ρ c) ∗ (BI.emp : sProp 𝕄)))) := by
      rw [← bigSep_sep']
      exact BI.bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launch_rest ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V7 m (outs m n) c) s') $$ [Hh HSI]
    · isplitl [Hh] <;> iassumption
    icases Hr with ⟨%h, HSI⟩
    imodintro
    isplitr
    · ipureintro
      rw [V7_eq] at h
      exact h
    · iexact HSI

theorem mem_uc (r : Ref sig .tc) (h : (Proc.devRef (τ := τ) .tc r).isScoped = false) : Proc.devRef (τ := τ) .tc r ∈ Pipeline.ucRefs τ sig :=
  Finset.mem_filter.mpr ⟨StableHlo.devRef_mem_tcRefs r, by rw [h]; exact Bool.false_ne_true⟩

/-- An argument the items leave alone ends as launched. -/
theorem arg_kept (c : Dev nD) (r : Ref sig .tc) (h : V7 m (outs m n) c r = m ((c : Thread nD τ).loc r)) : U7 m n c r = m ((c : Thread nD τ).loc r) := by
  rw [← V7_eq]; exact h

/-- The frame: the run, read at the arguments. -/
theorem run_frame (ρ : Dev nD → PrngReg) (hn : ∀ c, Function.Injective (n c)) (hg : ∀ c, Words (stg2_0 (U5 m) c) (n c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hh => ⟨fun c =>
    ⟨(hh.1 c (Proc.devRef .tc main_arg0) (mem_uc main_arg0 rfl)).trans (arg_kept m n c main_arg0 (V7_main_arg0 m (outs m n) c)),
     (hh.1 c (Proc.devRef .tc main_arg1) (mem_uc main_arg1 rfl)).trans (arg_kept m n c main_arg1 (V7_main_arg1 m (outs m n) c)),
     (hh.1 c (Proc.devRef .tc main_arg2) (mem_uc main_arg2 rfl)).trans (arg_kept m n c main_arg2 (V7_main_arg2 m (outs m n) c)),
     (hh.1 c (Proc.devRef .tc main_arg3) (mem_uc main_arg3 rfl)).trans (arg_kept m n c main_arg3 (V7_main_arg3 m (outs m n) c)),
     (hh.1 c (Proc.devRef .tc main_arg4) (mem_uc main_arg4 rfl)).trans (arg_kept m n c main_arg4 (V7_main_arg4 m (outs m n) c))⟩, hh.2⟩) (run m n ρ hn hg)

/-- The index words the last call stages are the launch memory's. -/
theorem words_of_mem (c : Dev nD) (nc : Fin 256 → Fin 100000)
    (h : ∀ i : S256.Idx, ((m ((c.tc : Thread nD τ).loc main_arg1) : S256.Idx → BitVec 32) i).toNat = (nc (i 0)).val) : Words (stg2_0 (U5 m) c) nc := by
  have e : U5 m c (Proc.devRef .tc main_arg1) = m ((c.tc : Thread nD τ).loc main_arg1) := by
    rw [← V5_eq m (fun _ _ => 0) c]
    exact (V5_of m _ c main_arg1 (by decide)).trans <| (V4_of m _ c main_arg1 (by decide)).trans <| (V3_of m _ c main_arg1 (by decide)).trans <|
      (V2_of m _ c main_arg1 (by decide)).trans (V1_of m c main_arg1 (by decide))
  intro i
  have hi := h i
  rw [← e] at hi
  refine Eq.trans (congrArg (fun j => BitVec.toNat ((U5 m c (Proc.devRef .tc main_arg1) : S256.Idx → BitVec 32) j)) ?_) hi
  exact funext fun a => Fin.ext (Pipeline.Window.rect_emb_val_of_index_zero win2_0 t2_0 a rfl i)

end Cert.Proof.KernelIdeal

end
-- ==== Proof.Ref.Ops.lean ====
/- The reference's @main as a list of its host operations, calls written out in place. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- Operations 0 to 25. -/
abbrev ops0_0 : List (HloOp τ sig (Elt F)) :=
  [ nullary main_cst (constant S_ .f32 0x3D8F5C29#32),
    unary main_cst main_v0 (broadcastInDim S256x256x16x32 ![] bcast_S_S256x256x16x32 : (⟨S_, .f32⟩ : BufTy).Contents (Elt F) → (⟨S256x256x16x32, .f32⟩ : BufTy).Contents (Elt F)),
    binary main_arg0 main_v0 main_v1 (Host.divf : (⟨S256x256x16x32, .f32⟩ : BufTy).Contents (Elt F) → (⟨S256x256x16x32, .f32⟩ : BufTy).Contents (Elt F) → (⟨S256x256x16x32, .f32⟩ : BufTy).Contents (Elt F)),
    unary main_v1 main_v2 ((transpose S256x16x256x32 [0, 2, 1, 3] · transposes_S256x256x16x32_S256x16x256x32_0_2_1_3) : (⟨S256x256x16x32, .f32⟩ : BufTy).Contents (Elt F) → (⟨S256x16x256x32, .f32⟩ : BufTy).Contents (Elt F)),
    reshape main_v2 main_v3 (rfl : (.f32 : EltTy) = .f32) shapeCasts_S256x16x256x32_S256x16x8192,
    nullary main_cst_0 (constant S_ .f32 0xFF800000#32),
    binary main_v3 main_cst_0 main_v4 ((fun x v => Host.reduce FloatOps.maximumf x v reducesTo_S256x16x8192_S256x16_d2 h_S_) : (⟨S256x16x8192, .f32⟩ : BufTy).Contents (Elt F) → (⟨S_, .f32⟩ : BufTy).Contents (Elt F) → (⟨S256x16, .f32⟩ : BufTy).Contents (Elt F)),
    unary main_v4 main_v5 (broadcastInDim S256x16x1 ![0, 1] bcast_S256x16_S256x16x1_0_1 : (⟨S256x16, .f32⟩ : BufTy).Contents (Elt F) → (⟨S256x16x1, .f32⟩ : BufTy).Contents (Elt F)),
    unary main_v5 main_v6 (broadcastInDim S256x16x8192 ![0, 1, 2] bcast_S256x16x1_S256x16x8192_0_1_2 : (⟨S256x16x1, .f32⟩ : BufTy).Contents (Elt F) → (⟨S256x16x8192, .f32⟩ : BufTy).Contents (Elt F)),
    binary main_v3 main_v6 main_v7 (subf : (⟨S256x16x8192, .f32⟩ : BufTy).Contents (Elt F) → (⟨S256x16x8192, .f32⟩ : BufTy).Contents (Elt F) → (⟨S256x16x8192, .f32⟩ : BufTy).Contents (Elt F)),
    unary main_v7 main_v8 (Host.exp : (⟨S256x16x8192, .f32⟩ : BufTy).Contents (Elt F) → (⟨S256x16x8192, .f32⟩ : BufTy).Contents (Elt F)),
    nullary main_cst_1 (constant S_ .f32 0x00000000#32),
    binary main_v8 main_cst_1 main_v9 ((fun x v => Host.reduceAdd x v reducesTo_S256x16x8192_S256x16_d2 h_S_) : (⟨S256x16x8192, .f32⟩ : BufTy).Contents (Elt F) → (⟨S_, .f32⟩ : BufTy).Contents (Elt F) → (⟨S256x16, .f32⟩ : BufTy).Contents (Elt F)),
    unary main_v9 main_v10 (broadcastInDim S256x16x1 ![0, 1] bcast_S256x16_S256x16x1_0_1 : (⟨S256x16, .f32⟩ : BufTy).Contents (Elt F) → (⟨S256x16x1, .f32⟩ : BufTy).Contents (Elt F)),
    unary main_v10 main_v11 (Host.log : (⟨S256x16x1, .f32⟩ : BufTy).Contents (Elt F) → (⟨S256x16x1, .f32⟩ : BufTy).Contents (Elt F)),
    unary main_v11 main_v12 (broadcastInDim S256x16x8192 ![0, 1, 2] bcast_S256x16x1_S256x16x8192_0_1_2 : (⟨S256x16x1, .f32⟩ : BufTy).Contents (Elt F) → (⟨S256x16x8192, .f32⟩ : BufTy).Contents (Elt F)),
    binary main_v7 main_v12 main_v13 (subf : (⟨S256x16x8192, .f32⟩ : BufTy).Contents (Elt F) → (⟨S256x16x8192, .f32⟩ : BufTy).Contents (Elt F) → (⟨S256x16x8192, .f32⟩ : BufTy).Contents (Elt F)),
    reshape main_v13 main_v14 (rfl : (.f32 : EltTy) = .f32) shapeCasts_S256x16x8192_S256x16x256x32,
    unary main_v14 main_v15 ((transpose S256x256x16x32 [0, 2, 1, 3] · transposes_S256x16x256x32_S256x256x16x32_0_2_1_3) : (⟨S256x16x256x32, .f32⟩ : BufTy).Contents (Elt F) → (⟨S256x256x16x32, .f32⟩ : BufTy).Contents (Elt F)),
    nullary main_v16 (iotaInDim S256 32 0),
    nullary main_v17 (iotaInDim S256 32 0),
    nullary main_c (constantI S_ 32 0#32),
    unary main_c main_v18 (broadcastInDim S256 ![] bcast_S_S256 : (⟨S_, .i32⟩ : BufTy).Contents (Elt F) → (⟨S256, .i32⟩ : BufTy).Contents (Elt F)),
    binary main_v16 main_v18 main_v19 (cmpi .slt : (⟨S256, .i32⟩ : BufTy).Contents (Elt F) → (⟨S256, .i32⟩ : BufTy).Contents (Elt F) → (⟨S256, .i1⟩ : BufTy).Contents (Elt F)),
    nullary main_c_2 (constantI S_ 32 256#32),
    unary main_c_2 main_v20 (broadcastInDim S256 ![] bcast_S_S256 : (⟨S_, .i32⟩ : BufTy).Contents (Elt F) → (⟨S256, .i32⟩ : BufTy).Contents (Elt F)) ]

/-- Operations 26 to 51. -/
abbrev ops0_1 : List (HloOp τ sig (Elt F)) :=
  [ binary main_v16 main_v20 main_v21 (addi : (⟨S256, .i32⟩ : BufTy).Contents (Elt F) → (⟨S256, .i32⟩ : BufTy).Contents (Elt F) → (⟨S256, .i32⟩ : BufTy).Contents (Elt F)),
    ternary main_v19 main_v21 main_v16 main_v22 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    nullary main_c_3 (constantI S_ 32 0#32),
    unary main_c_3 main_v23 (broadcastInDim S256 ![] bcast_S_S256 : (⟨S_, .i32⟩ : BufTy).Contents (Elt F) → (⟨S256, .i32⟩ : BufTy).Contents (Elt F)),
    binary main_v17 main_v23 main_v24 (cmpi .slt : (⟨S256, .i32⟩ : BufTy).Contents (Elt F) → (⟨S256, .i32⟩ : BufTy).Contents (Elt F) → (⟨S256, .i1⟩ : BufTy).Contents (Elt F)),
    nullary main_c_4 (constantI S_ 32 256#32),
    unary main_c_4 main_v25 (broadcastInDim S256 ![] bcast_S_S256 : (⟨S_, .i32⟩ : BufTy).Contents (Elt F) → (⟨S256, .i32⟩ : BufTy).Contents (Elt F)),
    binary main_v17 main_v25 main_v26 (addi : (⟨S256, .i32⟩ : BufTy).Contents (Elt F) → (⟨S256, .i32⟩ : BufTy).Contents (Elt F) → (⟨S256, .i32⟩ : BufTy).Contents (Elt F)),
    ternary main_v24 main_v26 main_v17 main_v27 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v22 main_v28 (broadcastInDim S256x1 ![0] bcast_S256_S256x1_0 : (⟨S256, .i32⟩ : BufTy).Contents (Elt F) → (⟨S256x1, .i32⟩ : BufTy).Contents (Elt F)),
    unary main_v27 main_v29 (broadcastInDim S256x1 ![0] bcast_S256_S256x1_0 : (⟨S256, .i32⟩ : BufTy).Contents (Elt F) → (⟨S256x1, .i32⟩ : BufTy).Contents (Elt F)),
    binary main_v28 main_v29 main_v30 ((fun a b => concatenate S256x2 1 [⟨S256x1, a⟩, ⟨S256x1, b⟩] concatenates_S256x1_S256x1_S256x2_d1) : (⟨S256x1, .i32⟩ : BufTy).Contents (Elt F) → (⟨S256x1, .i32⟩ : BufTy).Contents (Elt F) → (⟨S256x2, .i32⟩ : BufTy).Contents (Elt F)),
    binary main_v15 main_v30 main_v31 ((fun x i => Host.gather gather_S256x256x16x32_S256x2_S256x16x32_12_01_n_n_01_1_111632 x i) : (⟨S256x256x16x32, .f32⟩ : BufTy).Contents (Elt F) → (⟨S256x2, .i32⟩ : BufTy).Contents (Elt F) → (⟨S256x16x32, .f32⟩ : BufTy).Contents (Elt F)),
    TRef.nullary (.of (T := ⟨S_, .i32⟩) main_call0_c) (constantI S_ 32 0#32),
    TRef.unary (.of (T := ⟨S_, .i32⟩) main_call0_c) (.of (T := ⟨S256, .i32⟩) main_call0_v0) (broadcastInDim S256 ![] bcast_S_S256),
    TRef.binary (.of (T := ⟨S256, .i32⟩) main_arg1) (.of (T := ⟨S256, .i32⟩) main_call0_v0) (.of (T := ⟨S256, .i1⟩) main_call0_v1) (cmpi .slt),
    TRef.nullary (.of (T := ⟨S_, .i32⟩) main_call0_c_0) (constantI S_ 32 100000#32),
    TRef.unary (.of (T := ⟨S_, .i32⟩) main_call0_c_0) (.of (T := ⟨S256, .i32⟩) main_call0_v2) (broadcastInDim S256 ![] bcast_S_S256),
    TRef.binary (.of (T := ⟨S256, .i32⟩) main_arg1) (.of (T := ⟨S256, .i32⟩) main_call0_v2) (.of (T := ⟨S256, .i32⟩) main_call0_v3) addi,
    TRef.ternary (.of (T := ⟨S256, .i1⟩) main_call0_v1) (.of (T := ⟨S256, .i32⟩) main_call0_v3) (.of (T := ⟨S256, .i32⟩) main_arg1) (.of (T := ⟨S256, .i32⟩) main_call0_v4) select,
    TRef.unary (.of (T := ⟨S256, .i32⟩) main_call0_v4) (.of (T := ⟨S256x1, .i32⟩) main_call0_v5) (broadcastInDim S256x1 ![0] bcast_S256_S256x1_0),
    TRef.nullary (.of (T := ⟨S1, .i32⟩) main_call0_c_1) (constantI S1 32 99999#32),
    TRef.nullary (.of (T := ⟨S_, .i32⟩) main_call0_c_2) (constantI S_ 32 0#32),
    TRef.unary (.of (T := ⟨S_, .i32⟩) main_call0_c_2) (.of (T := ⟨S256x1, .i32⟩) main_call0_v6) (broadcastInDim S256x1 ![] bcast_S_S256x1),
    TRef.binary (.of (T := ⟨S256x1, .i32⟩) main_call0_v5) (.of (T := ⟨S256x1, .i32⟩) main_call0_v6) (.of (T := ⟨S256x1, .i1⟩) main_call0_v7) (cmpi .sge),
    TRef.unary (.of (T := ⟨S1, .i32⟩) main_call0_c_1) (.of (T := ⟨S1x1, .i32⟩) main_call0_v8) (broadcastInDim S1x1 ![1] bcast_S1_S1x1_1) ]

/-- Operations 52 to 77. -/
abbrev ops0_2 : List (HloOp τ sig (Elt F)) :=
  [ TRef.unary (.of (T := ⟨S1x1, .i32⟩) main_call0_v8) (.of (T := ⟨S256x1, .i32⟩) main_call0_v9) (broadcastInDim S256x1 ![0, 1] bcast_S1x1_S256x1_0_1),
    TRef.binary (.of (T := ⟨S256x1, .i32⟩) main_call0_v5) (.of (T := ⟨S256x1, .i32⟩) main_call0_v9) (.of (T := ⟨S256x1, .i1⟩) main_call0_v10) (cmpi .sle),
    TRef.binary (.of (T := ⟨S256x1, .i1⟩) main_call0_v7) (.of (T := ⟨S256x1, .i1⟩) main_call0_v10) (.of (T := ⟨S256x1, .i1⟩) main_call0_v11) andi,
    TRef.nullary (.of (T := ⟨S_, .i1⟩) main_call0_c_3) (constantI S_ 1 1#1),
    TRef.binary (.of (T := ⟨S256x1, .i1⟩) main_call0_v11) (.of (T := ⟨S_, .i1⟩) main_call0_c_3) (.of (T := ⟨S256, .i1⟩) main_call0_v12) (fun x v => Host.reduce IntOp.andi x v reducesTo_S256x1_S256_d1 h_S_),
    TRef.binary (.of (T := ⟨S100000x16x32, .f32⟩) main_arg4) (.of (T := ⟨S256x1, .i32⟩) main_call0_v5) (.of (T := ⟨S256x16x32, .f32⟩) main_call0_v13) (fun x i => Host.gather gather_S100000x16x32_S256x1_S256x16x32_12_0_n_n_0_1_11632 x i),
    TRef.unary (.of (T := ⟨S256, .i1⟩) main_call0_v12) (.of (T := ⟨S256x16x32, .i1⟩) main_call0_v14) (broadcastInDim S256x16x32 ![0] bcast_S256_S256x16x32_0),
    TRef.nullary (.of (T := ⟨S_, .f32⟩) main_call0_cst) (constant S_ .f32 0x7FC00000#32),
    TRef.unary (.of (T := ⟨S_, .f32⟩) main_call0_cst) (.of (T := ⟨S256x16x32, .f32⟩) main_call0_v15) (broadcastInDim S256x16x32 ![] bcast_S_S256x16x32),
    TRef.ternary (.of (T := ⟨S256x16x32, .i1⟩) main_call0_v14) (.of (T := ⟨S256x16x32, .f32⟩) main_call0_v13) (.of (T := ⟨S256x16x32, .f32⟩) main_call0_v15) (.of (T := ⟨S256x16x32, .f32⟩) main_v32) select,
    nullary main_cst_5 (constant S_ .f32 0x00000000#32),
    TRef.unary (.of (T := ⟨S_, .f32⟩) main_cst_5) (.of (T := ⟨S_, .f32⟩) main_call1_v0) id,
    TRef.unary (.of (T := ⟨S_, .f32⟩) main_call1_v0) (.of (T := ⟨S256x16x32, .f32⟩) main_call1_v1) (broadcastInDim S256x16x32 ![] bcast_S_S256x16x32),
    TRef.ternary (.of (T := ⟨S256x16x32, .i1⟩) main_arg3) (.of (T := ⟨S256x16x32, .f32⟩) main_v32) (.of (T := ⟨S256x16x32, .f32⟩) main_call1_v1) (.of (T := ⟨S256x16x32, .f32⟩) main_v33) select,
    unary main_arg3 main_v34 ((extractStridedSlice S256x16x1 ![0, 0, 0] · slices_S256x16x32_S256x16x1_0_0_0) : (⟨S256x16x32, .i1⟩ : BufTy).Contents (Elt F) → (⟨S256x16x1, .i1⟩ : BufTy).Contents (Elt F)),
    reshape main_v34 main_v35 (rfl : (.i1 : EltTy) = .i1) shapeCasts_S256x16x1_S256x16,
    binary main_v33 main_v31 main_v36 (mulf : (⟨S256x16x32, .f32⟩ : BufTy).Contents (Elt F) → (⟨S256x16x32, .f32⟩ : BufTy).Contents (Elt F) → (⟨S256x16x32, .f32⟩ : BufTy).Contents (Elt F)),
    nullary main_cst_6 (constant S_ .f32 0x00000000#32),
    binary main_v36 main_cst_6 main_v37 ((fun x v => Host.reduceAdd x v reducesTo_S256x16x32_S256x16_d2 h_S_) : (⟨S256x16x32, .f32⟩ : BufTy).Contents (Elt F) → (⟨S_, .f32⟩ : BufTy).Contents (Elt F) → (⟨S256x16, .f32⟩ : BufTy).Contents (Elt F)),
    unary main_v37 main_v38 (Host.negf : (⟨S256x16, .f32⟩ : BufTy).Contents (Elt F) → (⟨S256x16, .f32⟩ : BufTy).Contents (Elt F)),
    nullary main_cst_7 (constant S_ .f32 0x00000000#32),
    binary main_v38 main_cst_7 main_v39 ((fun x v => Host.reduceAdd x v reducesTo_S256x16_S_d0_1 h_S_) : (⟨S256x16, .f32⟩ : BufTy).Contents (Elt F) → (⟨S_, .f32⟩ : BufTy).Contents (Elt F) → (⟨S_, .f32⟩ : BufTy).Contents (Elt F)),
    unary main_v35 main_v40 ((extui 32 · natLt_1_32) : (⟨S256x16, .i1⟩ : BufTy).Contents (Elt F) → (⟨S256x16, .i32⟩ : BufTy).Contents (Elt F)),
    nullary main_c_8 (constantI S_ 32 0#32),
    binary main_v40 main_c_8 main_v41 ((fun x v => Host.reduce IntOp.addi x v reducesTo_S256x16_S_d0_1 h_S_) : (⟨S256x16, .i32⟩ : BufTy).Contents (Elt F) → (⟨S_, .i32⟩ : BufTy).Contents (Elt F) → (⟨S_, .i32⟩ : BufTy).Contents (Elt F)),
    unary main_v41 main_v42 (sitofp .f32 : (⟨S_, .i32⟩ : BufTy).Contents (Elt F) → (⟨S_, .f32⟩ : BufTy).Contents (Elt F)) ]

/-- Operations 78 to 83. -/
abbrev ops0_3 : List (HloOp τ sig (Elt F)) :=
  [ nullary main_cst_9 (constant S_ .f32 0x34000000#32),
    binary main_v42 main_cst_9 main_v43 (addf : (⟨S_, .f32⟩ : BufTy).Contents (Elt F) → (⟨S_, .f32⟩ : BufTy).Contents (Elt F) → (⟨S_, .f32⟩ : BufTy).Contents (Elt F)),
    binary main_v39 main_v43 main_v44 (Host.divf : (⟨S_, .f32⟩ : BufTy).Contents (Elt F) → (⟨S_, .f32⟩ : BufTy).Contents (Elt F) → (⟨S_, .f32⟩ : BufTy).Contents (Elt F)),
    nullary main_cst_10 (constant S_ .f32 0x3F800000#32),
    binary main_v44 main_cst_10 main_v45 (mulf : (⟨S_, .f32⟩ : BufTy).Contents (Elt F) → (⟨S_, .f32⟩ : BufTy).Contents (Elt F) → (⟨S_, .f32⟩ : BufTy).Contents (Elt F)),
    nullary main_cst_11 (constant S_ .f32 0xFF800000#32) ]

/-- The operations of @main's part 0. -/
def ops0 : List (HloOp τ sig (Elt F)) :=
  ops0_0 ++ (ops0_1 ++ (ops0_2 ++ (ops0_3)))

/-- Operations 84 to 109. -/
abbrev ops1_0 : List (HloOp τ sig (Elt F)) :=
  [ TRef.unary (.of (T := ⟨S_, .f32⟩) main_cst_11) (.of (T := ⟨S_, .f32⟩) main_call2_v0) id,
    TRef.unary (.of (T := ⟨S_, .f32⟩) main_call2_v0) (.of (T := ⟨S256x16x32, .f32⟩) main_call2_v1) (broadcastInDim S256x16x32 ![] bcast_S_S256x16x32),
    TRef.ternary (.of (T := ⟨S256x16x32, .i1⟩) main_arg3) (.of (T := ⟨S256x16x32, .f32⟩) main_v31) (.of (T := ⟨S256x16x32, .f32⟩) main_call2_v1) (.of (T := ⟨S256x16x32, .f32⟩) main_v46) select,
    nullary main_cst_12 (constant S_ .f32 0xFF800000#32),
    binary main_v46 main_cst_12 main_v47 ((fun x v => Host.reduce FloatOps.maximumf x v reducesTo_S256x16x32_S256x16_d2 h_S_) : (⟨S256x16x32, .f32⟩ : BufTy).Contents (Elt F) → (⟨S_, .f32⟩ : BufTy).Contents (Elt F) → (⟨S256x16, .f32⟩ : BufTy).Contents (Elt F)),
    nullary main_cst_13 (constant S_ .f32 0xFF800000#32),
    unary main_cst_13 main_v48 (broadcastInDim S256x16 ![] bcast_S_S256x16 : (⟨S_, .f32⟩ : BufTy).Contents (Elt F) → (⟨S256x16, .f32⟩ : BufTy).Contents (Elt F)),
    binary main_v48 main_v47 main_v49 (maximumf : (⟨S256x16, .f32⟩ : BufTy).Contents (Elt F) → (⟨S256x16, .f32⟩ : BufTy).Contents (Elt F) → (⟨S256x16, .f32⟩ : BufTy).Contents (Elt F)),
    unary main_v49 main_v50 (broadcastInDim S256x16x1 ![0, 1] bcast_S256x16_S256x16x1_0_1 : (⟨S256x16, .f32⟩ : BufTy).Contents (Elt F) → (⟨S256x16x1, .f32⟩ : BufTy).Contents (Elt F)),
    unary main_v50 main_v51 (broadcastInDim S256x16x32 ![0, 1, 2] bcast_S256x16x1_S256x16x32_0_1_2 : (⟨S256x16x1, .f32⟩ : BufTy).Contents (Elt F) → (⟨S256x16x32, .f32⟩ : BufTy).Contents (Elt F)),
    binary main_v46 main_v51 main_v52 (subf : (⟨S256x16x32, .f32⟩ : BufTy).Contents (Elt F) → (⟨S256x16x32, .f32⟩ : BufTy).Contents (Elt F) → (⟨S256x16x32, .f32⟩ : BufTy).Contents (Elt F)),
    unary main_v52 main_v53 (Host.exp : (⟨S256x16x32, .f32⟩ : BufTy).Contents (Elt F) → (⟨S256x16x32, .f32⟩ : BufTy).Contents (Elt F)),
    nullary main_cst_14 (constant S_ .f32 0x00000000#32),
    binary main_v53 main_cst_14 main_v54 ((fun x v => Host.reduceAdd x v reducesTo_S256x16x32_S256x16_d2 h_S_) : (⟨S256x16x32, .f32⟩ : BufTy).Contents (Elt F) → (⟨S_, .f32⟩ : BufTy).Contents (Elt F) → (⟨S256x16, .f32⟩ : BufTy).Contents (Elt F)),
    unary main_v54 main_v55 (broadcastInDim S256x16x1 ![0, 1] bcast_S256x16_S256x16x1_0_1 : (⟨S256x16, .f32⟩ : BufTy).Contents (Elt F) → (⟨S256x16x1, .f32⟩ : BufTy).Contents (Elt F)),
    unary main_v55 main_v56 (broadcastInDim S256x16x32 ![0, 1, 2] bcast_S256x16x1_S256x16x32_0_1_2 : (⟨S256x16x1, .f32⟩ : BufTy).Contents (Elt F) → (⟨S256x16x32, .f32⟩ : BufTy).Contents (Elt F)),
    binary main_v53 main_v56 main_v57 (Host.divf : (⟨S256x16x32, .f32⟩ : BufTy).Contents (Elt F) → (⟨S256x16x32, .f32⟩ : BufTy).Contents (Elt F) → (⟨S256x16x32, .f32⟩ : BufTy).Contents (Elt F)),
    nullary main_cst_15 (constant S_ .f32 0x00000000#32),
    TRef.unary (.of (T := ⟨S_, .f32⟩) main_cst_15) (.of (T := ⟨S_, .f32⟩) main_call3_v0) id,
    TRef.unary (.of (T := ⟨S_, .f32⟩) main_call3_v0) (.of (T := ⟨S256x16x32, .f32⟩) main_call3_v1) (broadcastInDim S256x16x32 ![] bcast_S_S256x16x32),
    TRef.ternary (.of (T := ⟨S256x16x32, .i1⟩) main_arg3) (.of (T := ⟨S256x16x32, .f32⟩) main_v57) (.of (T := ⟨S256x16x32, .f32⟩) main_call3_v1) (.of (T := ⟨S256x16x32, .f32⟩) main_v58) select,
    unary main_arg2 main_v59 (broadcastInDim S256x1x32 ![0, 2] bcast_S256x32_S256x1x32_0_2 : (⟨S256x32, .i32⟩ : BufTy).Contents (Elt F) → (⟨S256x1x32, .i32⟩ : BufTy).Contents (Elt F)),
    unary main_v59 main_v60 (broadcastInDim S256x16x32 ![0, 1, 2] bcast_S256x1x32_S256x16x32_0_1_2 : (⟨S256x1x32, .i32⟩ : BufTy).Contents (Elt F) → (⟨S256x16x32, .i32⟩ : BufTy).Contents (Elt F)),
    TRef.nullary (.of (T := ⟨S256x16x32, .i32⟩) main_call4_v0) (iotaInDim S256x16x32 32 2),
    TRef.nullary (.of (T := ⟨S_, .f32⟩) main_call4_cst) (constant S_ .f32 0xFF800000#32),
    TRef.nullary (.of (T := ⟨S_, .i32⟩) main_call4_c) (constantI S_ 32 0#32) ]

/-- Operations 110 to 135. -/
abbrev ops1_1 : List (HloOp τ sig (Elt F)) :=
  [ TRef.quaternary (.of (T := ⟨S256x16x32, .f32⟩) main_v58) (.of (T := ⟨S256x16x32, .i32⟩) main_call4_v0) (.of (T := ⟨S_, .f32⟩) main_call4_cst) (.of (T := ⟨S_, .i32⟩) main_call4_c) (.of (T := ⟨S256x16, .f32⟩) main_call4_v1_0) (fun x y u v j => (Host.argReduce reducer_argmax_f32_i32 x y u v reducesTo_S256x16x32_S256x16_d2 h_S_ j).1),
    TRef.quaternary (.of (T := ⟨S256x16x32, .f32⟩) main_v58) (.of (T := ⟨S256x16x32, .i32⟩) main_call4_v0) (.of (T := ⟨S_, .f32⟩) main_call4_cst) (.of (T := ⟨S_, .i32⟩) main_call4_c) (.of (T := ⟨S256x16, .i32⟩) main_v61) (fun x y u v j => (Host.argReduce reducer_argmax_f32_i32 x y u v reducesTo_S256x16x32_S256x16_d2 h_S_ j).2),
    TRef.unary (.of (T := ⟨S256x16, .i32⟩) main_v61) (.of (T := ⟨S256x16x1, .i32⟩) main_call5_v0) (broadcastInDim S256x16x1 ![0, 1] bcast_S256x16_S256x16x1_0_1),
    TRef.nullary (.of (T := ⟨S1x1x32, .i32⟩) main_call5_v1) (iotaInDim S1x1x32 32 2),
    TRef.unary (.of (T := ⟨S256x16x1, .i32⟩) main_call5_v0) (.of (T := ⟨S256x16x32, .i32⟩) main_call5_v2) (broadcastInDim S256x16x32 ![0, 1, 2] bcast_S256x16x1_S256x16x32_0_1_2),
    TRef.unary (.of (T := ⟨S1x1x32, .i32⟩) main_call5_v1) (.of (T := ⟨S256x16x32, .i32⟩) main_call5_v3) (broadcastInDim S256x16x32 ![0, 1, 2] bcast_S1x1x32_S256x16x32_0_1_2),
    TRef.binary (.of (T := ⟨S256x16x32, .i32⟩) main_call5_v2) (.of (T := ⟨S256x16x32, .i32⟩) main_call5_v3) (.of (T := ⟨S256x16x32, .i1⟩) main_call5_v4) (cmpi .eq),
    TRef.unary (.of (T := ⟨S256x16x32, .i1⟩) main_call5_v4) (.of (T := ⟨S256x16x32, .i32⟩) main_v62) (extui 32 · natLt_1_32),
    nullary main_c_16 (constantI S_ 32 0#32),
    TRef.unary (.of (T := ⟨S_, .i32⟩) main_c_16) (.of (T := ⟨S_, .i32⟩) main_call6_v0) id,
    TRef.unary (.of (T := ⟨S_, .i32⟩) main_call6_v0) (.of (T := ⟨S256x16x32, .i32⟩) main_call6_v1) (broadcastInDim S256x16x32 ![] bcast_S_S256x16x32),
    TRef.ternary (.of (T := ⟨S256x16x32, .i1⟩) main_arg3) (.of (T := ⟨S256x16x32, .i32⟩) main_v62) (.of (T := ⟨S256x16x32, .i32⟩) main_call6_v1) (.of (T := ⟨S256x16x32, .i32⟩) main_v63) select,
    binary main_v60 main_v63 main_v64 (muli : (⟨S256x16x32, .i32⟩ : BufTy).Contents (Elt F) → (⟨S256x16x32, .i32⟩ : BufTy).Contents (Elt F) → (⟨S256x16x32, .i32⟩ : BufTy).Contents (Elt F)),
    nullary main_c_17 (constantI S_ 32 2147483648#32),
    binary main_v64 main_c_17 main_v65 ((fun x v => Host.reduce IntOp.maxsi x v reducesTo_S256x16x32_S256x16_d2 h_S_) : (⟨S256x16x32, .i32⟩ : BufTy).Contents (Elt F) → (⟨S_, .i32⟩ : BufTy).Contents (Elt F) → (⟨S256x16, .i32⟩ : BufTy).Contents (Elt F)),
    unary main_v65 main_v66 (broadcastInDim S256x16x1 ![0, 1] bcast_S256x16_S256x16x1_0_1 : (⟨S256x16, .i32⟩ : BufTy).Contents (Elt F) → (⟨S256x16x1, .i32⟩ : BufTy).Contents (Elt F)),
    unary main_v66 main_v67 (broadcastInDim S256x16x32 ![0, 1, 2] bcast_S256x16x1_S256x16x32_0_1_2 : (⟨S256x16x1, .i32⟩ : BufTy).Contents (Elt F) → (⟨S256x16x32, .i32⟩ : BufTy).Contents (Elt F)),
    binary main_v67 main_v60 main_v68 (cmpi .eq : (⟨S256x16x32, .i32⟩ : BufTy).Contents (Elt F) → (⟨S256x16x32, .i32⟩ : BufTy).Contents (Elt F) → (⟨S256x16x32, .i1⟩ : BufTy).Contents (Elt F)),
    unary main_v68 main_v69 (uitofp .f32 : (⟨S256x16x32, .i1⟩ : BufTy).Contents (Elt F) → (⟨S256x16x32, .f32⟩ : BufTy).Contents (Elt F)),
    TRef.nullary (.of (T := ⟨S_, .i32⟩) main_call7_c) (constantI S_ 32 0#32),
    TRef.unary (.of (T := ⟨S_, .i32⟩) main_call7_c) (.of (T := ⟨S256, .i32⟩) main_call7_v0) (broadcastInDim S256 ![] bcast_S_S256),
    TRef.binary (.of (T := ⟨S256, .i32⟩) main_arg1) (.of (T := ⟨S256, .i32⟩) main_call7_v0) (.of (T := ⟨S256, .i1⟩) main_call7_v1) (cmpi .slt),
    TRef.nullary (.of (T := ⟨S_, .i32⟩) main_call7_c_0) (constantI S_ 32 100000#32),
    TRef.unary (.of (T := ⟨S_, .i32⟩) main_call7_c_0) (.of (T := ⟨S256, .i32⟩) main_call7_v2) (broadcastInDim S256 ![] bcast_S_S256),
    TRef.binary (.of (T := ⟨S256, .i32⟩) main_arg1) (.of (T := ⟨S256, .i32⟩) main_call7_v2) (.of (T := ⟨S256, .i32⟩) main_call7_v3) addi,
    TRef.ternary (.of (T := ⟨S256, .i1⟩) main_call7_v1) (.of (T := ⟨S256, .i32⟩) main_call7_v3) (.of (T := ⟨S256, .i32⟩) main_arg1) (.of (T := ⟨S256, .i32⟩) main_call7_v4) select ]

/-- Operations 136 to 161. -/
abbrev ops1_2 : List (HloOp τ sig (Elt F)) :=
  [ TRef.unary (.of (T := ⟨S256, .i32⟩) main_call7_v4) (.of (T := ⟨S256x1, .i32⟩) main_call7_v5) (broadcastInDim S256x1 ![0] bcast_S256_S256x1_0),
    TRef.nullary (.of (T := ⟨S1, .i32⟩) main_call7_c_1) (constantI S1 32 99999#32),
    TRef.nullary (.of (T := ⟨S_, .i32⟩) main_call7_c_2) (constantI S_ 32 0#32),
    TRef.unary (.of (T := ⟨S_, .i32⟩) main_call7_c_2) (.of (T := ⟨S256x1, .i32⟩) main_call7_v6) (broadcastInDim S256x1 ![] bcast_S_S256x1),
    TRef.binary (.of (T := ⟨S256x1, .i32⟩) main_call7_v5) (.of (T := ⟨S256x1, .i32⟩) main_call7_v6) (.of (T := ⟨S256x1, .i1⟩) main_call7_v7) (cmpi .sge),
    TRef.unary (.of (T := ⟨S1, .i32⟩) main_call7_c_1) (.of (T := ⟨S1x1, .i32⟩) main_call7_v8) (broadcastInDim S1x1 ![1] bcast_S1_S1x1_1),
    TRef.unary (.of (T := ⟨S1x1, .i32⟩) main_call7_v8) (.of (T := ⟨S256x1, .i32⟩) main_call7_v9) (broadcastInDim S256x1 ![0, 1] bcast_S1x1_S256x1_0_1),
    TRef.binary (.of (T := ⟨S256x1, .i32⟩) main_call7_v5) (.of (T := ⟨S256x1, .i32⟩) main_call7_v9) (.of (T := ⟨S256x1, .i1⟩) main_call7_v10) (cmpi .sle),
    TRef.binary (.of (T := ⟨S256x1, .i1⟩) main_call7_v7) (.of (T := ⟨S256x1, .i1⟩) main_call7_v10) (.of (T := ⟨S256x1, .i1⟩) main_call7_v11) andi,
    TRef.nullary (.of (T := ⟨S_, .i1⟩) main_call7_c_3) (constantI S_ 1 1#1),
    TRef.binary (.of (T := ⟨S256x1, .i1⟩) main_call7_v11) (.of (T := ⟨S_, .i1⟩) main_call7_c_3) (.of (T := ⟨S256, .i1⟩) main_call7_v12) (fun x v => Host.reduce IntOp.andi x v reducesTo_S256x1_S256_d1 h_S_),
    TRef.binary (.of (T := ⟨S100000x16x32, .f32⟩) main_arg4) (.of (T := ⟨S256x1, .i32⟩) main_call7_v5) (.of (T := ⟨S256x16x32, .f32⟩) main_call7_v13) (fun x i => Host.gather gather_S100000x16x32_S256x1_S256x16x32_12_0_n_n_0_1_11632 x i),
    TRef.unary (.of (T := ⟨S256, .i1⟩) main_call7_v12) (.of (T := ⟨S256x16x32, .i1⟩) main_call7_v14) (broadcastInDim S256x16x32 ![0] bcast_S256_S256x16x32_0),
    TRef.nullary (.of (T := ⟨S_, .f32⟩) main_call7_cst) (constant S_ .f32 0x7FC00000#32),
    TRef.unary (.of (T := ⟨S_, .f32⟩) main_call7_cst) (.of (T := ⟨S256x16x32, .f32⟩) main_call7_v15) (broadcastInDim S256x16x32 ![] bcast_S_S256x16x32),
    TRef.ternary (.of (T := ⟨S256x16x32, .i1⟩) main_call7_v14) (.of (T := ⟨S256x16x32, .f32⟩) main_call7_v13) (.of (T := ⟨S256x16x32, .f32⟩) main_call7_v15) (.of (T := ⟨S256x16x32, .f32⟩) main_v70) select,
    nullary main_cst_18 (constant S_ .f32 0x3F7D70A4#32),
    unary main_cst_18 main_v71 (broadcastInDim S256x16x32 ![] bcast_S_S256x16x32 : (⟨S_, .f32⟩ : BufTy).Contents (Elt F) → (⟨S256x16x32, .f32⟩ : BufTy).Contents (Elt F)),
    binary main_v71 main_v70 main_v72 (mulf : (⟨S256x16x32, .f32⟩ : BufTy).Contents (Elt F) → (⟨S256x16x32, .f32⟩ : BufTy).Contents (Elt F) → (⟨S256x16x32, .f32⟩ : BufTy).Contents (Elt F)),
    nullary main_cst_19 (constant S_ .f32 0x3C23D70A#32),
    unary main_cst_19 main_v73 (broadcastInDim S256x16x32 ![] bcast_S_S256x16x32 : (⟨S_, .f32⟩ : BufTy).Contents (Elt F) → (⟨S256x16x32, .f32⟩ : BufTy).Contents (Elt F)),
    binary main_v73 main_v69 main_v74 (mulf : (⟨S256x16x32, .f32⟩ : BufTy).Contents (Elt F) → (⟨S256x16x32, .f32⟩ : BufTy).Contents (Elt F) → (⟨S256x16x32, .f32⟩ : BufTy).Contents (Elt F)),
    binary main_v72 main_v74 main_v75 (addf : (⟨S256x16x32, .f32⟩ : BufTy).Contents (Elt F) → (⟨S256x16x32, .f32⟩ : BufTy).Contents (Elt F) → (⟨S256x16x32, .f32⟩ : BufTy).Contents (Elt F)),
    nullary main_c_20 (constantI S_ 32 0#32),
    unary main_c_20 main_v76 (broadcastInDim S256 ![] bcast_S_S256 : (⟨S_, .i32⟩ : BufTy).Contents (Elt F) → (⟨S256, .i32⟩ : BufTy).Contents (Elt F)),
    binary main_arg1 main_v76 main_v77 (cmpi .slt : (⟨S256, .i32⟩ : BufTy).Contents (Elt F) → (⟨S256, .i32⟩ : BufTy).Contents (Elt F) → (⟨S256, .i1⟩ : BufTy).Contents (Elt F)) ]

/-- Operations 162 to 167. -/
abbrev ops1_3 : List (HloOp τ sig (Elt F)) :=
  [ nullary main_c_21 (constantI S_ 32 100000#32),
    unary main_c_21 main_v78 (broadcastInDim S256 ![] bcast_S_S256 : (⟨S_, .i32⟩ : BufTy).Contents (Elt F) → (⟨S256, .i32⟩ : BufTy).Contents (Elt F)),
    binary main_arg1 main_v78 main_v79 (addi : (⟨S256, .i32⟩ : BufTy).Contents (Elt F) → (⟨S256, .i32⟩ : BufTy).Contents (Elt F) → (⟨S256, .i32⟩ : BufTy).Contents (Elt F)),
    ternary main_v77 main_v79 main_arg1 main_v80 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v80 main_v81 (broadcastInDim S256x1 ![0] bcast_S256_S256x1_0 : (⟨S256, .i32⟩ : BufTy).Contents (Elt F) → (⟨S256x1, .i32⟩ : BufTy).Contents (Elt F)),
    ternary main_arg4 main_v81 main_v75 main_v82 ((fun x i u => Host.scatter scatter_S100000x16x32_S256x1_S256x16x32_12_0_0_1 (fun _ b => b) x i u) : (⟨S100000x16x32, .f32⟩ : BufTy).Contents (Elt F) → (⟨S256x1, .i32⟩ : BufTy).Contents (Elt F) → (⟨S256x16x32, .f32⟩ : BufTy).Contents (Elt F) → (⟨S100000x16x32, .f32⟩ : BufTy).Contents (Elt F)) ]

/-- The operations of @main's part 1. -/
def ops1 : List (HloOp τ sig (Elt F)) :=
  ops1_0 ++ (ops1_1 ++ (ops1_2 ++ (ops1_3)))

/-- @main's operations. -/
def ops : List (HloOp τ sig (Elt F)) := ops0 ++ ops1

set_option maxRecDepth 8192 in
set_option maxHeartbeats 4000000 in
theorem part0_eq (c : Dev nD) : main_part0 (F := F) c = seq ops0 := rfl

set_option maxRecDepth 8192 in
set_option maxHeartbeats 4000000 in
theorem part1_eq (c : Dev nD) : main_part1 (F := F) c = seq ops1 := rfl

theorem main_eq (c : Dev nD) : main (F := F) c = seq ops := by
  simp only [ops, seq_append, ← part0_eq c, ← part1_eq c]
  rfl

set_option maxRecDepth 8192 in
theorem sub0_0 : (ops0_0 : List (HloOp τ sig (Elt F))).Forall fun op => op.bufs ⊆ tcRefs τ sig :=
  ⟨nullary_bufs_sub .., unary_bufs_sub .., binary_bufs_sub .., unary_bufs_sub .., reshape_bufs_sub .., nullary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., reshape_bufs_sub .., unary_bufs_sub .., nullary_bufs_sub .., nullary_bufs_sub .., nullary_bufs_sub .., unary_bufs_sub .., binary_bufs_sub .., nullary_bufs_sub .., unary_bufs_sub ..⟩
theorem fresh0_0 : (ops0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem sub0_1 : (ops0_1 : List (HloOp τ sig (Elt F))).Forall fun op => op.bufs ⊆ tcRefs τ sig :=
  ⟨binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub ..⟩
theorem fresh0_1 : (ops0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem sub0_2 : (ops0_2 : List (HloOp τ sig (Elt F))).Forall fun op => op.bufs ⊆ tcRefs τ sig :=
  ⟨unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., reshape_bufs_sub .., binary_bufs_sub .., nullary_bufs_sub .., binary_bufs_sub .., unary_bufs_sub .., nullary_bufs_sub .., binary_bufs_sub .., unary_bufs_sub .., nullary_bufs_sub .., binary_bufs_sub .., unary_bufs_sub ..⟩
theorem fresh0_2 : (ops0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem sub0_3 : (ops0_3 : List (HloOp τ sig (Elt F))).Forall fun op => op.bufs ⊆ tcRefs τ sig :=
  ⟨nullary_bufs_sub .., binary_bufs_sub .., binary_bufs_sub .., nullary_bufs_sub .., binary_bufs_sub .., nullary_bufs_sub ..⟩
theorem fresh0_3 : (ops0_3 : List (HloOp τ sig (Elt F))).Forall fun op => op.fresh = ∅ :=
  ⟨rfl, rfl, rfl, rfl, rfl, rfl⟩
set_option maxRecDepth 8192 in
theorem sub1_0 : (ops1_0 : List (HloOp τ sig (Elt F))).Forall fun op => op.bufs ⊆ tcRefs τ sig :=
  ⟨unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., unary_bufs_sub .., ternary_bufs_sub .., unary_bufs_sub .., unary_bufs_sub .., nullary_bufs_sub .., nullary_bufs_sub .., nullary_bufs_sub ..⟩
theorem fresh1_0 : (ops1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem sub1_1 : (ops1_1 : List (HloOp τ sig (Elt F))).Forall fun op => op.bufs ⊆ tcRefs τ sig :=
  ⟨quaternary_bufs_sub .., quaternary_bufs_sub .., unary_bufs_sub .., nullary_bufs_sub .., unary_bufs_sub .., unary_bufs_sub .., binary_bufs_sub .., unary_bufs_sub .., nullary_bufs_sub .., unary_bufs_sub .., unary_bufs_sub .., ternary_bufs_sub .., binary_bufs_sub .., nullary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub ..⟩
theorem fresh1_1 : (ops1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem sub1_2 : (ops1_2 : List (HloOp τ sig (Elt F))).Forall fun op => op.bufs ⊆ tcRefs τ sig :=
  ⟨unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩
theorem fresh1_2 : (ops1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem sub1_3 : (ops1_3 : List (HloOp τ sig (Elt F))).Forall fun op => op.bufs ⊆ tcRefs τ sig :=
  ⟨nullary_bufs_sub .., unary_bufs_sub .., binary_bufs_sub .., ternary_bufs_sub .., unary_bufs_sub .., ternary_bufs_sub ..⟩
theorem fresh1_3 : (ops1_3 : List (HloOp τ sig (Elt F))).Forall fun op => op.fresh = ∅ :=
  ⟨rfl, rfl, rfl, rfl, rfl, rfl⟩

theorem mem_ops {op : HloOp τ sig (Elt F)} (h : op ∈ (ops : List (HloOp τ sig (Elt F)))) : op ∈ (ops0_0 : List (HloOp τ sig (Elt F))) ∨ op ∈ (ops0_1 : List (HloOp τ sig (Elt F))) ∨ op ∈ (ops0_2 : List (HloOp τ sig (Elt F))) ∨ op ∈ (ops0_3 : List (HloOp τ sig (Elt F))) ∨ op ∈ (ops1_0 : List (HloOp τ sig (Elt F))) ∨ op ∈ (ops1_1 : List (HloOp τ sig (Elt F))) ∨ op ∈ (ops1_2 : List (HloOp τ sig (Elt F))) ∨ op ∈ (ops1_3 : List (HloOp τ sig (Elt F))) := by
  simp only [ops, ops0, ops1, List.mem_append, or_assoc] at h
  exact h

theorem ops_sub : (ops : List (HloOp τ sig (Elt F))).Forall fun op => op.bufs ⊆ tcRefs τ sig :=
  List.forall_iff_forall_mem.2 fun op h => by
    rcases mem_ops h with h | h | h | h | h | h | h | h
    · exact List.forall_iff_forall_mem.1 sub0_0 op h
    · exact List.forall_iff_forall_mem.1 sub0_1 op h
    · exact List.forall_iff_forall_mem.1 sub0_2 op h
    · exact List.forall_iff_forall_mem.1 sub0_3 op h
    · exact List.forall_iff_forall_mem.1 sub1_0 op h
    · exact List.forall_iff_forall_mem.1 sub1_1 op h
    · exact List.forall_iff_forall_mem.1 sub1_2 op h
    · exact List.forall_iff_forall_mem.1 sub1_3 op h

theorem ops_fresh : ∀ op ∈ (ops : List (HloOp τ sig (Elt F))), op.fresh = ∅ := fun op h => by
  rcases mem_ops h with h | h | h | h | h | h | h | h
  · exact List.forall_iff_forall_mem.1 fresh0_0 op h
  · exact List.forall_iff_forall_mem.1 fresh0_1 op h
  · exact List.forall_iff_forall_mem.1 fresh0_2 op h
  · exact List.forall_iff_forall_mem.1 fresh0_3 op h
  · exact List.forall_iff_forall_mem.1 fresh1_0 op h
  · exact List.forall_iff_forall_mem.1 fresh1_1 op h
  · exact List.forall_iff_forall_mem.1 fresh1_2 op h
  · exact List.forall_iff_forall_mem.1 fresh1_3 op h

theorem no_scoped : (Finset.univ.filter fun b : Ref sig .tc => b.isScoped) = ∅ := by decide
theorem no_scoped_sems : (Finset.univ.filter fun sm : SemLoc sig => sm.isScoped .tc) = ∅ := by decide

/-- The reference ends with every buffer at the operations' fold over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq no_scoped no_scoped_sems defs main (fun _ => ops) main_eq (fun _ => ops_sub) m ρ fun _ => ops_fresh

end Cert.Proof.Ref

end
-- ==== Proof.Ref.Eqs.lean ====
/- What the reference's line of operations computes, one equation an operation. -/
module

public import proofs.«01_k».proof.Proof.Gen.ReferenceIdeal
public import Idealize.ShloMosaic.PureOps.Ideal
public import proofs.«01_k».proof.Proof.Ref.Ops

@[expose] public section

set_option Elab.async false

noncomputable section

namespace Cert.Proof.Ref

open Cert.ReferenceIdeal Cert.ReferenceIdeal.Gen Idealize.ShloMosaic Idealize.ShloMosaic.TcCoe Idealize.SL.Sem Idealize.ShloMosaic.StableHlo

/-- A buffer's position. -/
abbrev num (r : Ref sig .tc) : ℕ := r.idx.val

/-- The contents of a buffer type over the extended reals. -/
abbrev C (t : BufTy) : Type := t.Contents (Elt Ideal)

/-- A line whose operations write the buffers `k`, `k + 1`, … in turn. -/
inductive Line : ℕ → List (HloOp τ sig (Elt Ideal)) → Prop
  | nil (k) : Line k []
  | cons {k op l} (y : Ref sig .tc) (hw : op.writes = {Proc.devRef (τ := τ) .tc y}) (hk : num y = k) (t : Line (k + 1) l) : Line k (op :: l)

/-- What lies below the line's first buffer is kept. -/
theorem Line.keep {k l} (h : Line k l) (V : Valuation τ sig (Elt Ideal)) {r : Ref sig .tc} (hr : num r < k) :
    after l V (Proc.devRef .tc r) = V (Proc.devRef .tc r) := by
  induction h generalizing V with
  | nil => rfl
  | cons y hw hk t ih =>
    rw [after_cons, ih _ (by omega), result_of_writes_ne _ _ y r hw (fun e => by subst e; omega)]

/-- A line read at one of its operations: the contents after the whole line are that operation's result over
    contents that agree with them below. -/
theorem Line.split {k l} (h : Line k l) (V : Valuation τ sig (Elt Ideal)) {i : ℕ} {op : HloOp τ sig (Elt Ideal)} (hop : l[i]? = some op) :
    ∃ U : Valuation τ sig (Elt Ideal), (∀ r : Ref sig .tc, num r < i + k → after l V (Proc.devRef .tc r) = U (Proc.devRef .tc r))
      ∧ ∀ r : Ref sig .tc, num r = i + k → after l V (Proc.devRef .tc r) = op.result U (Proc.devRef .tc r) := by
  induction h generalizing V i with
  | nil => simp at hop
  | @cons k op' l y hw hk t ih =>
    cases i with
    | zero =>
      simp only [List.getElem?_cons_zero, Option.some.injEq] at hop
      subst hop
      refine ⟨V, fun r hr => ?_, fun r hr => ?_⟩
      · rw [after_cons, t.keep _ (by omega), result_of_writes_ne _ _ y r hw (fun e => by subst e; omega)]
      · rw [after_cons, t.keep _ (by omega)]
    | succ i =>
      obtain ⟨U, h1, h2⟩ := ih (op'.result V) (by simpa using hop)
      exact ⟨U, fun r hr => h1 r (by omega), fun r hr => h2 r (by omega)⟩

set_option maxRecDepth 16384 in
set_option maxHeartbeats 4000000 in
theorem line : Line 5 (ops (F := Ideal)) := by
  unfold ops ops0 ops1
  repeat' (first | exact Line.nil _ | refine Line.cons _ rfl rfl ?_)

variable (V : Valuation τ sig (Elt Ideal))

/-- The contents after the reference's line. -/
def w (r : Ref sig .tc) : r.ty.Contents (Elt Ideal) := after (ops (F := Ideal)) V (Proc.devRef .tc r)

variable {x a b c e y : Ref sig .tc}

theorem w_arg (hr : num x < 5) : w V x = V (Proc.devRef .tc x) := line.keep V hr

theorem nul (i : ℕ) {v : y.ty.Contents (Elt Ideal)} {hy} (h : (ops (F := Ideal))[i]? = some (nullary (τ := τ) y v hy)) (ky : num y = i + 5) : w V y = v := by
  obtain ⟨U, _, h2⟩ := line.split V h
  exact (h2 y ky).trans (nullary_result y v hy U)

theorem una (i : ℕ) {f : x.ty.Contents (Elt Ideal) → y.ty.Contents (Elt Ideal)} {hx hy} (h : (ops (F := Ideal))[i]? = some (unary (τ := τ) x y f hx hy))
    (kx : num x < i + 5) (ky : num y = i + 5) : w V y = f (w V x) := by
  obtain ⟨U, h1, h2⟩ := line.split V h
  refine (h2 y ky).trans ((unary_result x y f hx hy U).trans ?_)
  rw [← h1 x kx]; rfl

theorem rsh (i : ℕ) {he hn hx hy} (h : (ops (F := Ideal))[i]? = some (reshape (τ := τ) (Val := Elt Ideal) x y he hn hx hy))
    (kx : num x < i + 5) (ky : num y = i + 5) : w V y = fun j => he ▸ shapeCast y.ty.shape (w V x) hn j := by
  obtain ⟨U, h1, h2⟩ := line.split V h
  refine (h2 y ky).trans ((reshape_result x y he hn hx hy U).trans ?_)
  rw [← h1 x kx]; rfl

theorem bin (i : ℕ) {f : a.ty.Contents (Elt Ideal) → b.ty.Contents (Elt Ideal) → y.ty.Contents (Elt Ideal)} {ha hb hy}
    (h : (ops (F := Ideal))[i]? = some (binary (τ := τ) a b y f ha hb hy)) (ka : num a < i + 5) (kb : num b < i + 5) (ky : num y = i + 5) :
    w V y = f (w V a) (w V b) := by
  obtain ⟨U, h1, h2⟩ := line.split V h
  refine (h2 y ky).trans ((binary_result a b y f ha hb hy U).trans ?_)
  rw [← h1 a ka, ← h1 b kb]; rfl

theorem ter (i : ℕ) {f : a.ty.Contents (Elt Ideal) → b.ty.Contents (Elt Ideal) → c.ty.Contents (Elt Ideal) → y.ty.Contents (Elt Ideal)} {ha hb hc hy}
    (h : (ops (F := Ideal))[i]? = some (ternary (τ := τ) a b c y f ha hb hc hy)) (ka : num a < i + 5) (kb : num b < i + 5) (kc : num c < i + 5)
    (ky : num y = i + 5) : w V y = f (w V a) (w V b) (w V c) := by
  obtain ⟨U, h1, h2⟩ := line.split V h
  refine (h2 y ky).trans ((ternary_result a b c y f ha hb hc hy U).trans ?_)
  rw [← h1 a ka, ← h1 b kb, ← h1 c kc]; rfl

theorem qua (i : ℕ)
    {f : a.ty.Contents (Elt Ideal) → b.ty.Contents (Elt Ideal) → c.ty.Contents (Elt Ideal) → e.ty.Contents (Elt Ideal) → y.ty.Contents (Elt Ideal)}
    {ha hb hc he hy} (h : (ops (F := Ideal))[i]? = some (quaternary (τ := τ) a b c e y f ha hb hc he hy)) (ka : num a < i + 5) (kb : num b < i + 5)
    (kc : num c < i + 5) (ke : num e < i + 5) (ky : num y = i + 5) : w V y = f (w V a) (w V b) (w V c) (w V e) := by
  obtain ⟨U, h1, h2⟩ := line.split V h
  refine (h2 y ky).trans ((quaternary_result a b c e y f ha hb hc he hy U).trans ?_)
  rw [← h1 a ka, ← h1 b kb, ← h1 c kc, ← h1 e ke]; rfl

theorem e_cst : w V main_cst = ((constant S_ .f32 0x3D8F5C29#32) : FVec Ideal S_ .f32) :=
  nul V 0 (y := main_cst)  rfl rfl
theorem e_v0 : w V main_v0 = ((broadcastInDim S256x256x16x32 ![] bcast_S_S256x256x16x32 : FVec Ideal S_ .f32 → FVec Ideal S256x256x16x32 .f32) (w V main_cst) : FVec Ideal S256x256x16x32 .f32) :=
  una V 1 (y := main_v0) (x := main_cst) (f := (broadcastInDim S256x256x16x32 ![] bcast_S_S256x256x16x32 : FVec Ideal S_ .f32 → FVec Ideal S256x256x16x32 .f32)) rfl (by decide) rfl
theorem e_v1 : w V main_v1 = ((Host.divf : FVec Ideal S256x256x16x32 .f32 → FVec Ideal S256x256x16x32 .f32 → FVec Ideal S256x256x16x32 .f32) (w V main_arg0) (w V main_v0) : FVec Ideal S256x256x16x32 .f32) :=
  bin V 2 (y := main_v1) (a := main_arg0) (b := main_v0) (f := (Host.divf : FVec Ideal S256x256x16x32 .f32 → FVec Ideal S256x256x16x32 .f32 → FVec Ideal S256x256x16x32 .f32)) rfl (by decide) (by decide) rfl
theorem e_v2 : w V main_v2 = (((transpose S256x16x256x32 [0, 2, 1, 3] · transposes_S256x256x16x32_S256x16x256x32_0_2_1_3) : FVec Ideal S256x256x16x32 .f32 → FVec Ideal S256x16x256x32 .f32) (w V main_v1) : FVec Ideal S256x16x256x32 .f32) :=
  una V 3 (y := main_v2) (x := main_v1) (f := ((transpose S256x16x256x32 [0, 2, 1, 3] · transposes_S256x256x16x32_S256x16x256x32_0_2_1_3) : FVec Ideal S256x256x16x32 .f32 → FVec Ideal S256x16x256x32 .f32)) rfl (by decide) rfl
theorem e_v3 : w V main_v3 = (shapeCast S256x16x8192 (w V main_v2 : FVec Ideal S256x16x256x32 .f32) shapeCasts_S256x16x256x32_S256x16x8192 : FVec Ideal S256x16x8192 .f32) :=
  rsh V 4 (y := main_v3) (x := main_v2) rfl (by decide) rfl
theorem e_cst_0 : w V main_cst_0 = ((constant S_ .f32 0xFF800000#32) : FVec Ideal S_ .f32) :=
  nul V 5 (y := main_cst_0)  rfl rfl
theorem e_v4 : w V main_v4 = (((fun x v => Host.reduce FloatOps.maximumf x v reducesTo_S256x16x8192_S256x16_d2 h_S_) : FVec Ideal S256x16x8192 .f32 → FVec Ideal S_ .f32 → FVec Ideal S256x16 .f32) (w V main_v3) (w V main_cst_0) : FVec Ideal S256x16 .f32) :=
  bin V 6 (y := main_v4) (a := main_v3) (b := main_cst_0) (f := ((fun x v => Host.reduce FloatOps.maximumf x v reducesTo_S256x16x8192_S256x16_d2 h_S_) : FVec Ideal S256x16x8192 .f32 → FVec Ideal S_ .f32 → FVec Ideal S256x16 .f32)) rfl (by decide) (by decide) rfl
theorem e_v5 : w V main_v5 = ((broadcastInDim S256x16x1 ![0, 1] bcast_S256x16_S256x16x1_0_1 : FVec Ideal S256x16 .f32 → FVec Ideal S256x16x1 .f32) (w V main_v4) : FVec Ideal S256x16x1 .f32) :=
  una V 7 (y := main_v5) (x := main_v4) (f := (broadcastInDim S256x16x1 ![0, 1] bcast_S256x16_S256x16x1_0_1 : FVec Ideal S256x16 .f32 → FVec Ideal S256x16x1 .f32)) rfl (by decide) rfl
theorem e_v6 : w V main_v6 = ((broadcastInDim S256x16x8192 ![0, 1, 2] bcast_S256x16x1_S256x16x8192_0_1_2 : FVec Ideal S256x16x1 .f32 → FVec Ideal S256x16x8192 .f32) (w V main_v5) : FVec Ideal S256x16x8192 .f32) :=
  una V 8 (y := main_v6) (x := main_v5) (f := (broadcastInDim S256x16x8192 ![0, 1, 2] bcast_S256x16x1_S256x16x8192_0_1_2 : FVec Ideal S256x16x1 .f32 → FVec Ideal S256x16x8192 .f32)) rfl (by decide) rfl
theorem e_v7 : w V main_v7 = ((subf : FVec Ideal S256x16x8192 .f32 → FVec Ideal S256x16x8192 .f32 → FVec Ideal S256x16x8192 .f32) (w V main_v3) (w V main_v6) : FVec Ideal S256x16x8192 .f32) :=
  bin V 9 (y := main_v7) (a := main_v3) (b := main_v6) (f := (subf : FVec Ideal S256x16x8192 .f32 → FVec Ideal S256x16x8192 .f32 → FVec Ideal S256x16x8192 .f32)) rfl (by decide) (by decide) rfl
theorem e_v8 : w V main_v8 = ((Host.exp : FVec Ideal S256x16x8192 .f32 → FVec Ideal S256x16x8192 .f32) (w V main_v7) : FVec Ideal S256x16x8192 .f32) :=
  una V 10 (y := main_v8) (x := main_v7) (f := (Host.exp : FVec Ideal S256x16x8192 .f32 → FVec Ideal S256x16x8192 .f32)) rfl (by decide) rfl
theorem e_cst_1 : w V main_cst_1 = ((constant S_ .f32 0x00000000#32) : FVec Ideal S_ .f32) :=
  nul V 11 (y := main_cst_1)  rfl rfl
theorem e_v9 : w V main_v9 = (((fun x v => Host.reduceAdd x v reducesTo_S256x16x8192_S256x16_d2 h_S_) : FVec Ideal S256x16x8192 .f32 → FVec Ideal S_ .f32 → FVec Ideal S256x16 .f32) (w V main_v8) (w V main_cst_1) : FVec Ideal S256x16 .f32) :=
  bin V 12 (y := main_v9) (a := main_v8) (b := main_cst_1) (f := ((fun x v => Host.reduceAdd x v reducesTo_S256x16x8192_S256x16_d2 h_S_) : FVec Ideal S256x16x8192 .f32 → FVec Ideal S_ .f32 → FVec Ideal S256x16 .f32)) rfl (by decide) (by decide) rfl
theorem e_v10 : w V main_v10 = ((broadcastInDim S256x16x1 ![0, 1] bcast_S256x16_S256x16x1_0_1 : FVec Ideal S256x16 .f32 → FVec Ideal S256x16x1 .f32) (w V main_v9) : FVec Ideal S256x16x1 .f32) :=
  una V 13 (y := main_v10) (x := main_v9) (f := (broadcastInDim S256x16x1 ![0, 1] bcast_S256x16_S256x16x1_0_1 : FVec Ideal S256x16 .f32 → FVec Ideal S256x16x1 .f32)) rfl (by decide) rfl
theorem e_v11 : w V main_v11 = ((Host.log : FVec Ideal S256x16x1 .f32 → FVec Ideal S256x16x1 .f32) (w V main_v10) : FVec Ideal S256x16x1 .f32) :=
  una V 14 (y := main_v11) (x := main_v10) (f := (Host.log : FVec Ideal S256x16x1 .f32 → FVec Ideal S256x16x1 .f32)) rfl (by decide) rfl
theorem e_v12 : w V main_v12 = ((broadcastInDim S256x16x8192 ![0, 1, 2] bcast_S256x16x1_S256x16x8192_0_1_2 : FVec Ideal S256x16x1 .f32 → FVec Ideal S256x16x8192 .f32) (w V main_v11) : FVec Ideal S256x16x8192 .f32) :=
  una V 15 (y := main_v12) (x := main_v11) (f := (broadcastInDim S256x16x8192 ![0, 1, 2] bcast_S256x16x1_S256x16x8192_0_1_2 : FVec Ideal S256x16x1 .f32 → FVec Ideal S256x16x8192 .f32)) rfl (by decide) rfl
theorem e_v13 : w V main_v13 = ((subf : FVec Ideal S256x16x8192 .f32 → FVec Ideal S256x16x8192 .f32 → FVec Ideal S256x16x8192 .f32) (w V main_v7) (w V main_v12) : FVec Ideal S256x16x8192 .f32) :=
  bin V 16 (y := main_v13) (a := main_v7) (b := main_v12) (f := (subf : FVec Ideal S256x16x8192 .f32 → FVec Ideal S256x16x8192 .f32 → FVec Ideal S256x16x8192 .f32)) rfl (by decide) (by decide) rfl
theorem e_v14 : w V main_v14 = (shapeCast S256x16x256x32 (w V main_v13 : FVec Ideal S256x16x8192 .f32) shapeCasts_S256x16x8192_S256x16x256x32 : FVec Ideal S256x16x256x32 .f32) :=
  rsh V 17 (y := main_v14) (x := main_v13) rfl (by decide) rfl
theorem e_v15 : w V main_v15 = (((transpose S256x256x16x32 [0, 2, 1, 3] · transposes_S256x16x256x32_S256x256x16x32_0_2_1_3) : FVec Ideal S256x16x256x32 .f32 → FVec Ideal S256x256x16x32 .f32) (w V main_v14) : FVec Ideal S256x256x16x32 .f32) :=
  una V 18 (y := main_v15) (x := main_v14) (f := ((transpose S256x256x16x32 [0, 2, 1, 3] · transposes_S256x16x256x32_S256x256x16x32_0_2_1_3) : FVec Ideal S256x16x256x32 .f32 → FVec Ideal S256x256x16x32 .f32)) rfl (by decide) rfl
theorem e_v16 : w V main_v16 = ((iotaInDim S256 32 0) : IVec S256 32) :=
  nul V 19 (y := main_v16)  rfl rfl
theorem e_v17 : w V main_v17 = ((iotaInDim S256 32 0) : IVec S256 32) :=
  nul V 20 (y := main_v17)  rfl rfl
theorem e_c : w V main_c = ((constantI S_ 32 0#32) : IVec S_ 32) :=
  nul V 21 (y := main_c)  rfl rfl
theorem e_v18 : w V main_v18 = ((broadcastInDim S256 ![] bcast_S_S256 : IVec S_ 32 → IVec S256 32) (w V main_c) : IVec S256 32) :=
  una V 22 (y := main_v18) (x := main_c) (f := (broadcastInDim S256 ![] bcast_S_S256 : IVec S_ 32 → IVec S256 32)) rfl (by decide) rfl
theorem e_v19 : w V main_v19 = ((cmpi .slt : IVec S256 32 → IVec S256 32 → IVec S256 1) (w V main_v16) (w V main_v18) : IVec S256 1) :=
  bin V 23 (y := main_v19) (a := main_v16) (b := main_v18) (f := (cmpi .slt : IVec S256 32 → IVec S256 32 → IVec S256 1)) rfl (by decide) (by decide) rfl
theorem e_c_2 : w V main_c_2 = ((constantI S_ 32 256#32) : IVec S_ 32) :=
  nul V 24 (y := main_c_2)  rfl rfl
theorem e_v20 : w V main_v20 = ((broadcastInDim S256 ![] bcast_S_S256 : IVec S_ 32 → IVec S256 32) (w V main_c_2) : IVec S256 32) :=
  una V 25 (y := main_v20) (x := main_c_2) (f := (broadcastInDim S256 ![] bcast_S_S256 : IVec S_ 32 → IVec S256 32)) rfl (by decide) rfl
theorem e_v21 : w V main_v21 = ((addi : IVec S256 32 → IVec S256 32 → IVec S256 32) (w V main_v16) (w V main_v20) : IVec S256 32) :=
  bin V 26 (y := main_v21) (a := main_v16) (b := main_v20) (f := (addi : IVec S256 32 → IVec S256 32 → IVec S256 32)) rfl (by decide) (by decide) rfl
theorem e_v22 : w V main_v22 = ((select : IVec S256 1 → IVec S256 32 → IVec S256 32 → IVec S256 32) (w V main_v19) (w V main_v21) (w V main_v16) : IVec S256 32) :=
  ter V 27 (y := main_v22) (a := main_v19) (b := main_v21) (c := main_v16) (f := (select : IVec S256 1 → IVec S256 32 → IVec S256 32 → IVec S256 32)) rfl (by decide) (by decide) (by decide) rfl
theorem e_c_3 : w V main_c_3 = ((constantI S_ 32 0#32) : IVec S_ 32) :=
  nul V 28 (y := main_c_3)  rfl rfl
theorem e_v23 : w V main_v23 = ((broadcastInDim S256 ![] bcast_S_S256 : IVec S_ 32 → IVec S256 32) (w V main_c_3) : IVec S256 32) :=
  una V 29 (y := main_v23) (x := main_c_3) (f := (broadcastInDim S256 ![] bcast_S_S256 : IVec S_ 32 → IVec S256 32)) rfl (by decide) rfl
theorem e_v24 : w V main_v24 = ((cmpi .slt : IVec S256 32 → IVec S256 32 → IVec S256 1) (w V main_v17) (w V main_v23) : IVec S256 1) :=
  bin V 30 (y := main_v24) (a := main_v17) (b := main_v23) (f := (cmpi .slt : IVec S256 32 → IVec S256 32 → IVec S256 1)) rfl (by decide) (by decide) rfl
theorem e_c_4 : w V main_c_4 = ((constantI S_ 32 256#32) : IVec S_ 32) :=
  nul V 31 (y := main_c_4)  rfl rfl
theorem e_v25 : w V main_v25 = ((broadcastInDim S256 ![] bcast_S_S256 : IVec S_ 32 → IVec S256 32) (w V main_c_4) : IVec S256 32) :=
  una V 32 (y := main_v25) (x := main_c_4) (f := (broadcastInDim S256 ![] bcast_S_S256 : IVec S_ 32 → IVec S256 32)) rfl (by decide) rfl
theorem e_v26 : w V main_v26 = ((addi : IVec S256 32 → IVec S256 32 → IVec S256 32) (w V main_v17) (w V main_v25) : IVec S256 32) :=
  bin V 33 (y := main_v26) (a := main_v17) (b := main_v25) (f := (addi : IVec S256 32 → IVec S256 32 → IVec S256 32)) rfl (by decide) (by decide) rfl
theorem e_v27 : w V main_v27 = ((select : IVec S256 1 → IVec S256 32 → IVec S256 32 → IVec S256 32) (w V main_v24) (w V main_v26) (w V main_v17) : IVec S256 32) :=
  ter V 34 (y := main_v27) (a := main_v24) (b := main_v26) (c := main_v17) (f := (select : IVec S256 1 → IVec S256 32 → IVec S256 32 → IVec S256 32)) rfl (by decide) (by decide) (by decide) rfl
theorem e_v28 : w V main_v28 = ((broadcastInDim S256x1 ![0] bcast_S256_S256x1_0 : IVec S256 32 → IVec S256x1 32) (w V main_v22) : IVec S256x1 32) :=
  una V 35 (y := main_v28) (x := main_v22) (f := (broadcastInDim S256x1 ![0] bcast_S256_S256x1_0 : IVec S256 32 → IVec S256x1 32)) rfl (by decide) rfl
theorem e_v29 : w V main_v29 = ((broadcastInDim S256x1 ![0] bcast_S256_S256x1_0 : IVec S256 32 → IVec S256x1 32) (w V main_v27) : IVec S256x1 32) :=
  una V 36 (y := main_v29) (x := main_v27) (f := (broadcastInDim S256x1 ![0] bcast_S256_S256x1_0 : IVec S256 32 → IVec S256x1 32)) rfl (by decide) rfl
theorem e_v30 : w V main_v30 = (((fun a b => concatenate S256x2 1 [⟨S256x1, a⟩, ⟨S256x1, b⟩] concatenates_S256x1_S256x1_S256x2_d1) : IVec S256x1 32 → IVec S256x1 32 → IVec S256x2 32) (w V main_v28) (w V main_v29) : IVec S256x2 32) :=
  bin V 37 (y := main_v30) (a := main_v28) (b := main_v29) (f := ((fun a b => concatenate S256x2 1 [⟨S256x1, a⟩, ⟨S256x1, b⟩] concatenates_S256x1_S256x1_S256x2_d1) : IVec S256x1 32 → IVec S256x1 32 → IVec S256x2 32)) rfl (by decide) (by decide) rfl
theorem e_v31 : w V main_v31 = (((fun x i => Host.gather gather_S256x256x16x32_S256x2_S256x16x32_12_01_n_n_01_1_111632 x i) : FVec Ideal S256x256x16x32 .f32 → IVec S256x2 32 → FVec Ideal S256x16x32 .f32) (w V main_v15) (w V main_v30) : FVec Ideal S256x16x32 .f32) :=
  bin V 38 (y := main_v31) (a := main_v15) (b := main_v30) (f := ((fun x i => Host.gather gather_S256x256x16x32_S256x2_S256x16x32_12_01_n_n_01_1_111632 x i) : FVec Ideal S256x256x16x32 .f32 → IVec S256x2 32 → FVec Ideal S256x16x32 .f32)) rfl (by decide) (by decide) rfl
theorem e_call0_c : w V main_call0_c = ((constantI S_ 32 0#32) : IVec S_ 32) :=
  nul V 39 (y := main_call0_c)  rfl rfl
theorem e_call0_v0 : w V main_call0_v0 = (((broadcastInDim S256 ![] bcast_S_S256) : IVec S_ 32 → IVec S256 32) (w V main_call0_c) : IVec S256 32) :=
  una V 40 (y := main_call0_v0) (x := main_call0_c) (f := ((broadcastInDim S256 ![] bcast_S_S256) : IVec S_ 32 → IVec S256 32)) rfl (by decide) rfl
theorem e_call0_v1 : w V main_call0_v1 = (((cmpi .slt) : IVec S256 32 → IVec S256 32 → IVec S256 1) (w V main_arg1) (w V main_call0_v0) : IVec S256 1) :=
  bin V 41 (y := main_call0_v1) (a := main_arg1) (b := main_call0_v0) (f := ((cmpi .slt) : IVec S256 32 → IVec S256 32 → IVec S256 1)) rfl (by decide) (by decide) rfl
theorem e_call0_c_0 : w V main_call0_c_0 = ((constantI S_ 32 100000#32) : IVec S_ 32) :=
  nul V 42 (y := main_call0_c_0)  rfl rfl
theorem e_call0_v2 : w V main_call0_v2 = (((broadcastInDim S256 ![] bcast_S_S256) : IVec S_ 32 → IVec S256 32) (w V main_call0_c_0) : IVec S256 32) :=
  una V 43 (y := main_call0_v2) (x := main_call0_c_0) (f := ((broadcastInDim S256 ![] bcast_S_S256) : IVec S_ 32 → IVec S256 32)) rfl (by decide) rfl
theorem e_call0_v3 : w V main_call0_v3 = ((addi : IVec S256 32 → IVec S256 32 → IVec S256 32) (w V main_arg1) (w V main_call0_v2) : IVec S256 32) :=
  bin V 44 (y := main_call0_v3) (a := main_arg1) (b := main_call0_v2) (f := (addi : IVec S256 32 → IVec S256 32 → IVec S256 32)) rfl (by decide) (by decide) rfl
theorem e_call0_v4 : w V main_call0_v4 = ((select : IVec S256 1 → IVec S256 32 → IVec S256 32 → IVec S256 32) (w V main_call0_v1) (w V main_call0_v3) (w V main_arg1) : IVec S256 32) :=
  ter V 45 (y := main_call0_v4) (a := main_call0_v1) (b := main_call0_v3) (c := main_arg1) (f := (select : IVec S256 1 → IVec S256 32 → IVec S256 32 → IVec S256 32)) rfl (by decide) (by decide) (by decide) rfl
theorem e_call0_v5 : w V main_call0_v5 = (((broadcastInDim S256x1 ![0] bcast_S256_S256x1_0) : IVec S256 32 → IVec S256x1 32) (w V main_call0_v4) : IVec S256x1 32) :=
  una V 46 (y := main_call0_v5) (x := main_call0_v4) (f := ((broadcastInDim S256x1 ![0] bcast_S256_S256x1_0) : IVec S256 32 → IVec S256x1 32)) rfl (by decide) rfl
theorem e_call0_c_1 : w V main_call0_c_1 = ((constantI S1 32 99999#32) : IVec S1 32) :=
  nul V 47 (y := main_call0_c_1)  rfl rfl
theorem e_call0_c_2 : w V main_call0_c_2 = ((constantI S_ 32 0#32) : IVec S_ 32) :=
  nul V 48 (y := main_call0_c_2)  rfl rfl
theorem e_call0_v6 : w V main_call0_v6 = (((broadcastInDim S256x1 ![] bcast_S_S256x1) : IVec S_ 32 → IVec S256x1 32) (w V main_call0_c_2) : IVec S256x1 32) :=
  una V 49 (y := main_call0_v6) (x := main_call0_c_2) (f := ((broadcastInDim S256x1 ![] bcast_S_S256x1) : IVec S_ 32 → IVec S256x1 32)) rfl (by decide) rfl
theorem e_call0_v7 : w V main_call0_v7 = (((cmpi .sge) : IVec S256x1 32 → IVec S256x1 32 → IVec S256x1 1) (w V main_call0_v5) (w V main_call0_v6) : IVec S256x1 1) :=
  bin V 50 (y := main_call0_v7) (a := main_call0_v5) (b := main_call0_v6) (f := ((cmpi .sge) : IVec S256x1 32 → IVec S256x1 32 → IVec S256x1 1)) rfl (by decide) (by decide) rfl
theorem e_call0_v8 : w V main_call0_v8 = (((broadcastInDim S1x1 ![1] bcast_S1_S1x1_1) : IVec S1 32 → IVec S1x1 32) (w V main_call0_c_1) : IVec S1x1 32) :=
  una V 51 (y := main_call0_v8) (x := main_call0_c_1) (f := ((broadcastInDim S1x1 ![1] bcast_S1_S1x1_1) : IVec S1 32 → IVec S1x1 32)) rfl (by decide) rfl
theorem e_call0_v9 : w V main_call0_v9 = (((broadcastInDim S256x1 ![0, 1] bcast_S1x1_S256x1_0_1) : IVec S1x1 32 → IVec S256x1 32) (w V main_call0_v8) : IVec S256x1 32) :=
  una V 52 (y := main_call0_v9) (x := main_call0_v8) (f := ((broadcastInDim S256x1 ![0, 1] bcast_S1x1_S256x1_0_1) : IVec S1x1 32 → IVec S256x1 32)) rfl (by decide) rfl
theorem e_call0_v10 : w V main_call0_v10 = (((cmpi .sle) : IVec S256x1 32 → IVec S256x1 32 → IVec S256x1 1) (w V main_call0_v5) (w V main_call0_v9) : IVec S256x1 1) :=
  bin V 53 (y := main_call0_v10) (a := main_call0_v5) (b := main_call0_v9) (f := ((cmpi .sle) : IVec S256x1 32 → IVec S256x1 32 → IVec S256x1 1)) rfl (by decide) (by decide) rfl
theorem e_call0_v11 : w V main_call0_v11 = ((andi : IVec S256x1 1 → IVec S256x1 1 → IVec S256x1 1) (w V main_call0_v7) (w V main_call0_v10) : IVec S256x1 1) :=
  bin V 54 (y := main_call0_v11) (a := main_call0_v7) (b := main_call0_v10) (f := (andi : IVec S256x1 1 → IVec S256x1 1 → IVec S256x1 1)) rfl (by decide) (by decide) rfl
theorem e_call0_c_3 : w V main_call0_c_3 = ((constantI S_ 1 1#1) : IVec S_ 1) :=
  nul V 55 (y := main_call0_c_3)  rfl rfl
theorem e_call0_v12 : w V main_call0_v12 = (((fun x v => Host.reduce IntOp.andi x v reducesTo_S256x1_S256_d1 h_S_) : IVec S256x1 1 → IVec S_ 1 → IVec S256 1) (w V main_call0_v11) (w V main_call0_c_3) : IVec S256 1) :=
  bin V 56 (y := main_call0_v12) (a := main_call0_v11) (b := main_call0_c_3) (f := ((fun x v => Host.reduce IntOp.andi x v reducesTo_S256x1_S256_d1 h_S_) : IVec S256x1 1 → IVec S_ 1 → IVec S256 1)) rfl (by decide) (by decide) rfl
theorem e_call0_v13 : w V main_call0_v13 = (((fun x i => Host.gather gather_S100000x16x32_S256x1_S256x16x32_12_0_n_n_0_1_11632 x i) : FVec Ideal S100000x16x32 .f32 → IVec S256x1 32 → FVec Ideal S256x16x32 .f32) (w V main_arg4) (w V main_call0_v5) : FVec Ideal S256x16x32 .f32) :=
  bin V 57 (y := main_call0_v13) (a := main_arg4) (b := main_call0_v5) (f := ((fun x i => Host.gather gather_S100000x16x32_S256x1_S256x16x32_12_0_n_n_0_1_11632 x i) : FVec Ideal S100000x16x32 .f32 → IVec S256x1 32 → FVec Ideal S256x16x32 .f32)) rfl (by decide) (by decide) rfl
theorem e_call0_v14 : w V main_call0_v14 = (((broadcastInDim S256x16x32 ![0] bcast_S256_S256x16x32_0) : IVec S256 1 → IVec S256x16x32 1) (w V main_call0_v12) : IVec S256x16x32 1) :=
  una V 58 (y := main_call0_v14) (x := main_call0_v12) (f := ((broadcastInDim S256x16x32 ![0] bcast_S256_S256x16x32_0) : IVec S256 1 → IVec S256x16x32 1)) rfl (by decide) rfl
theorem e_call0_cst : w V main_call0_cst = ((constant S_ .f32 0x7FC00000#32) : FVec Ideal S_ .f32) :=
  nul V 59 (y := main_call0_cst)  rfl rfl
theorem e_call0_v15 : w V main_call0_v15 = (((broadcastInDim S256x16x32 ![] bcast_S_S256x16x32) : FVec Ideal S_ .f32 → FVec Ideal S256x16x32 .f32) (w V main_call0_cst) : FVec Ideal S256x16x32 .f32) :=
  una V 60 (y := main_call0_v15) (x := main_call0_cst) (f := ((broadcastInDim S256x16x32 ![] bcast_S_S256x16x32) : FVec Ideal S_ .f32 → FVec Ideal S256x16x32 .f32)) rfl (by decide) rfl
theorem e_v32 : w V main_v32 = ((select : IVec S256x16x32 1 → FVec Ideal S256x16x32 .f32 → FVec Ideal S256x16x32 .f32 → FVec Ideal S256x16x32 .f32) (w V main_call0_v14) (w V main_call0_v13) (w V main_call0_v15) : FVec Ideal S256x16x32 .f32) :=
  ter V 61 (y := main_v32) (a := main_call0_v14) (b := main_call0_v13) (c := main_call0_v15) (f := (select : IVec S256x16x32 1 → FVec Ideal S256x16x32 .f32 → FVec Ideal S256x16x32 .f32 → FVec Ideal S256x16x32 .f32)) rfl (by decide) (by decide) (by decide) rfl
theorem e_cst_5 : w V main_cst_5 = ((constant S_ .f32 0x00000000#32) : FVec Ideal S_ .f32) :=
  nul V 62 (y := main_cst_5)  rfl rfl
theorem e_call1_v0 : w V main_call1_v0 = ((id : FVec Ideal S_ .f32 → FVec Ideal S_ .f32) (w V main_cst_5) : FVec Ideal S_ .f32) :=
  una V 63 (y := main_call1_v0) (x := main_cst_5) (f := (id : FVec Ideal S_ .f32 → FVec Ideal S_ .f32)) rfl (by decide) rfl
theorem e_call1_v1 : w V main_call1_v1 = (((broadcastInDim S256x16x32 ![] bcast_S_S256x16x32) : FVec Ideal S_ .f32 → FVec Ideal S256x16x32 .f32) (w V main_call1_v0) : FVec Ideal S256x16x32 .f32) :=
  una V 64 (y := main_call1_v1) (x := main_call1_v0) (f := ((broadcastInDim S256x16x32 ![] bcast_S_S256x16x32) : FVec Ideal S_ .f32 → FVec Ideal S256x16x32 .f32)) rfl (by decide) rfl
theorem e_v33 : w V main_v33 = ((select : IVec S256x16x32 1 → FVec Ideal S256x16x32 .f32 → FVec Ideal S256x16x32 .f32 → FVec Ideal S256x16x32 .f32) (w V main_arg3) (w V main_v32) (w V main_call1_v1) : FVec Ideal S256x16x32 .f32) :=
  ter V 65 (y := main_v33) (a := main_arg3) (b := main_v32) (c := main_call1_v1) (f := (select : IVec S256x16x32 1 → FVec Ideal S256x16x32 .f32 → FVec Ideal S256x16x32 .f32 → FVec Ideal S256x16x32 .f32)) rfl (by decide) (by decide) (by decide) rfl
theorem e_v34 : w V main_v34 = (((extractStridedSlice S256x16x1 ![0, 0, 0] · slices_S256x16x32_S256x16x1_0_0_0) : IVec S256x16x32 1 → IVec S256x16x1 1) (w V main_arg3) : IVec S256x16x1 1) :=
  una V 66 (y := main_v34) (x := main_arg3) (f := ((extractStridedSlice S256x16x1 ![0, 0, 0] · slices_S256x16x32_S256x16x1_0_0_0) : IVec S256x16x32 1 → IVec S256x16x1 1)) rfl (by decide) rfl
theorem e_v35 : w V main_v35 = (shapeCast S256x16 (w V main_v34 : IVec S256x16x1 1) shapeCasts_S256x16x1_S256x16 : IVec S256x16 1) :=
  rsh V 67 (y := main_v35) (x := main_v34) rfl (by decide) rfl
theorem e_v36 : w V main_v36 = ((mulf : FVec Ideal S256x16x32 .f32 → FVec Ideal S256x16x32 .f32 → FVec Ideal S256x16x32 .f32) (w V main_v33) (w V main_v31) : FVec Ideal S256x16x32 .f32) :=
  bin V 68 (y := main_v36) (a := main_v33) (b := main_v31) (f := (mulf : FVec Ideal S256x16x32 .f32 → FVec Ideal S256x16x32 .f32 → FVec Ideal S256x16x32 .f32)) rfl (by decide) (by decide) rfl
theorem e_cst_6 : w V main_cst_6 = ((constant S_ .f32 0x00000000#32) : FVec Ideal S_ .f32) :=
  nul V 69 (y := main_cst_6)  rfl rfl
theorem e_v37 : w V main_v37 = (((fun x v => Host.reduceAdd x v reducesTo_S256x16x32_S256x16_d2 h_S_) : FVec Ideal S256x16x32 .f32 → FVec Ideal S_ .f32 → FVec Ideal S256x16 .f32) (w V main_v36) (w V main_cst_6) : FVec Ideal S256x16 .f32) :=
  bin V 70 (y := main_v37) (a := main_v36) (b := main_cst_6) (f := ((fun x v => Host.reduceAdd x v reducesTo_S256x16x32_S256x16_d2 h_S_) : FVec Ideal S256x16x32 .f32 → FVec Ideal S_ .f32 → FVec Ideal S256x16 .f32)) rfl (by decide) (by decide) rfl
theorem e_v38 : w V main_v38 = ((Host.negf : FVec Ideal S256x16 .f32 → FVec Ideal S256x16 .f32) (w V main_v37) : FVec Ideal S256x16 .f32) :=
  una V 71 (y := main_v38) (x := main_v37) (f := (Host.negf : FVec Ideal S256x16 .f32 → FVec Ideal S256x16 .f32)) rfl (by decide) rfl
theorem e_cst_7 : w V main_cst_7 = ((constant S_ .f32 0x00000000#32) : FVec Ideal S_ .f32) :=
  nul V 72 (y := main_cst_7)  rfl rfl
theorem e_v39 : w V main_v39 = (((fun x v => Host.reduceAdd x v reducesTo_S256x16_S_d0_1 h_S_) : FVec Ideal S256x16 .f32 → FVec Ideal S_ .f32 → FVec Ideal S_ .f32) (w V main_v38) (w V main_cst_7) : FVec Ideal S_ .f32) :=
  bin V 73 (y := main_v39) (a := main_v38) (b := main_cst_7) (f := ((fun x v => Host.reduceAdd x v reducesTo_S256x16_S_d0_1 h_S_) : FVec Ideal S256x16 .f32 → FVec Ideal S_ .f32 → FVec Ideal S_ .f32)) rfl (by decide) (by decide) rfl
theorem e_v40 : w V main_v40 = (((extui 32 · natLt_1_32) : IVec S256x16 1 → IVec S256x16 32) (w V main_v35) : IVec S256x16 32) :=
  una V 74 (y := main_v40) (x := main_v35) (f := ((extui 32 · natLt_1_32) : IVec S256x16 1 → IVec S256x16 32)) rfl (by decide) rfl
theorem e_c_8 : w V main_c_8 = ((constantI S_ 32 0#32) : IVec S_ 32) :=
  nul V 75 (y := main_c_8)  rfl rfl
theorem e_v41 : w V main_v41 = (((fun x v => Host.reduce IntOp.addi x v reducesTo_S256x16_S_d0_1 h_S_) : IVec S256x16 32 → IVec S_ 32 → IVec S_ 32) (w V main_v40) (w V main_c_8) : IVec S_ 32) :=
  bin V 76 (y := main_v41) (a := main_v40) (b := main_c_8) (f := ((fun x v => Host.reduce IntOp.addi x v reducesTo_S256x16_S_d0_1 h_S_) : IVec S256x16 32 → IVec S_ 32 → IVec S_ 32)) rfl (by decide) (by decide) rfl
theorem e_v42 : w V main_v42 = ((sitofp .f32 : IVec S_ 32 → FVec Ideal S_ .f32) (w V main_v41) : FVec Ideal S_ .f32) :=
  una V 77 (y := main_v42) (x := main_v41) (f := (sitofp .f32 : IVec S_ 32 → FVec Ideal S_ .f32)) rfl (by decide) rfl
theorem e_cst_9 : w V main_cst_9 = ((constant S_ .f32 0x34000000#32) : FVec Ideal S_ .f32) :=
  nul V 78 (y := main_cst_9)  rfl rfl
theorem e_v43 : w V main_v43 = ((addf : FVec Ideal S_ .f32 → FVec Ideal S_ .f32 → FVec Ideal S_ .f32) (w V main_v42) (w V main_cst_9) : FVec Ideal S_ .f32) :=
  bin V 79 (y := main_v43) (a := main_v42) (b := main_cst_9) (f := (addf : FVec Ideal S_ .f32 → FVec Ideal S_ .f32 → FVec Ideal S_ .f32)) rfl (by decide) (by decide) rfl
theorem e_v44 : w V main_v44 = ((Host.divf : FVec Ideal S_ .f32 → FVec Ideal S_ .f32 → FVec Ideal S_ .f32) (w V main_v39) (w V main_v43) : FVec Ideal S_ .f32) :=
  bin V 80 (y := main_v44) (a := main_v39) (b := main_v43) (f := (Host.divf : FVec Ideal S_ .f32 → FVec Ideal S_ .f32 → FVec Ideal S_ .f32)) rfl (by decide) (by decide) rfl
theorem e_cst_10 : w V main_cst_10 = ((constant S_ .f32 0x3F800000#32) : FVec Ideal S_ .f32) :=
  nul V 81 (y := main_cst_10)  rfl rfl
theorem e_v45 : w V main_v45 = ((mulf : FVec Ideal S_ .f32 → FVec Ideal S_ .f32 → FVec Ideal S_ .f32) (w V main_v44) (w V main_cst_10) : FVec Ideal S_ .f32) :=
  bin V 82 (y := main_v45) (a := main_v44) (b := main_cst_10) (f := (mulf : FVec Ideal S_ .f32 → FVec Ideal S_ .f32 → FVec Ideal S_ .f32)) rfl (by decide) (by decide) rfl
theorem e_cst_11 : w V main_cst_11 = ((constant S_ .f32 0xFF800000#32) : FVec Ideal S_ .f32) :=
  nul V 83 (y := main_cst_11)  rfl rfl
theorem e_call2_v0 : w V main_call2_v0 = ((id : FVec Ideal S_ .f32 → FVec Ideal S_ .f32) (w V main_cst_11) : FVec Ideal S_ .f32) :=
  una V 84 (y := main_call2_v0) (x := main_cst_11) (f := (id : FVec Ideal S_ .f32 → FVec Ideal S_ .f32)) rfl (by decide) rfl
theorem e_call2_v1 : w V main_call2_v1 = (((broadcastInDim S256x16x32 ![] bcast_S_S256x16x32) : FVec Ideal S_ .f32 → FVec Ideal S256x16x32 .f32) (w V main_call2_v0) : FVec Ideal S256x16x32 .f32) :=
  una V 85 (y := main_call2_v1) (x := main_call2_v0) (f := ((broadcastInDim S256x16x32 ![] bcast_S_S256x16x32) : FVec Ideal S_ .f32 → FVec Ideal S256x16x32 .f32)) rfl (by decide) rfl
theorem e_v46 : w V main_v46 = ((select : IVec S256x16x32 1 → FVec Ideal S256x16x32 .f32 → FVec Ideal S256x16x32 .f32 → FVec Ideal S256x16x32 .f32) (w V main_arg3) (w V main_v31) (w V main_call2_v1) : FVec Ideal S256x16x32 .f32) :=
  ter V 86 (y := main_v46) (a := main_arg3) (b := main_v31) (c := main_call2_v1) (f := (select : IVec S256x16x32 1 → FVec Ideal S256x16x32 .f32 → FVec Ideal S256x16x32 .f32 → FVec Ideal S256x16x32 .f32)) rfl (by decide) (by decide) (by decide) rfl
theorem e_cst_12 : w V main_cst_12 = ((constant S_ .f32 0xFF800000#32) : FVec Ideal S_ .f32) :=
  nul V 87 (y := main_cst_12)  rfl rfl
theorem e_v47 : w V main_v47 = (((fun x v => Host.reduce FloatOps.maximumf x v reducesTo_S256x16x32_S256x16_d2 h_S_) : FVec Ideal S256x16x32 .f32 → FVec Ideal S_ .f32 → FVec Ideal S256x16 .f32) (w V main_v46) (w V main_cst_12) : FVec Ideal S256x16 .f32) :=
  bin V 88 (y := main_v47) (a := main_v46) (b := main_cst_12) (f := ((fun x v => Host.reduce FloatOps.maximumf x v reducesTo_S256x16x32_S256x16_d2 h_S_) : FVec Ideal S256x16x32 .f32 → FVec Ideal S_ .f32 → FVec Ideal S256x16 .f32)) rfl (by decide) (by decide) rfl
theorem e_cst_13 : w V main_cst_13 = ((constant S_ .f32 0xFF800000#32) : FVec Ideal S_ .f32) :=
  nul V 89 (y := main_cst_13)  rfl rfl
theorem e_v48 : w V main_v48 = ((broadcastInDim S256x16 ![] bcast_S_S256x16 : FVec Ideal S_ .f32 → FVec Ideal S256x16 .f32) (w V main_cst_13) : FVec Ideal S256x16 .f32) :=
  una V 90 (y := main_v48) (x := main_cst_13) (f := (broadcastInDim S256x16 ![] bcast_S_S256x16 : FVec Ideal S_ .f32 → FVec Ideal S256x16 .f32)) rfl (by decide) rfl
theorem e_v49 : w V main_v49 = ((maximumf : FVec Ideal S256x16 .f32 → FVec Ideal S256x16 .f32 → FVec Ideal S256x16 .f32) (w V main_v48) (w V main_v47) : FVec Ideal S256x16 .f32) :=
  bin V 91 (y := main_v49) (a := main_v48) (b := main_v47) (f := (maximumf : FVec Ideal S256x16 .f32 → FVec Ideal S256x16 .f32 → FVec Ideal S256x16 .f32)) rfl (by decide) (by decide) rfl
theorem e_v50 : w V main_v50 = ((broadcastInDim S256x16x1 ![0, 1] bcast_S256x16_S256x16x1_0_1 : FVec Ideal S256x16 .f32 → FVec Ideal S256x16x1 .f32) (w V main_v49) : FVec Ideal S256x16x1 .f32) :=
  una V 92 (y := main_v50) (x := main_v49) (f := (broadcastInDim S256x16x1 ![0, 1] bcast_S256x16_S256x16x1_0_1 : FVec Ideal S256x16 .f32 → FVec Ideal S256x16x1 .f32)) rfl (by decide) rfl
theorem e_v51 : w V main_v51 = ((broadcastInDim S256x16x32 ![0, 1, 2] bcast_S256x16x1_S256x16x32_0_1_2 : FVec Ideal S256x16x1 .f32 → FVec Ideal S256x16x32 .f32) (w V main_v50) : FVec Ideal S256x16x32 .f32) :=
  una V 93 (y := main_v51) (x := main_v50) (f := (broadcastInDim S256x16x32 ![0, 1, 2] bcast_S256x16x1_S256x16x32_0_1_2 : FVec Ideal S256x16x1 .f32 → FVec Ideal S256x16x32 .f32)) rfl (by decide) rfl
theorem e_v52 : w V main_v52 = ((subf : FVec Ideal S256x16x32 .f32 → FVec Ideal S256x16x32 .f32 → FVec Ideal S256x16x32 .f32) (w V main_v46) (w V main_v51) : FVec Ideal S256x16x32 .f32) :=
  bin V 94 (y := main_v52) (a := main_v46) (b := main_v51) (f := (subf : FVec Ideal S256x16x32 .f32 → FVec Ideal S256x16x32 .f32 → FVec Ideal S256x16x32 .f32)) rfl (by decide) (by decide) rfl
theorem e_v53 : w V main_v53 = ((Host.exp : FVec Ideal S256x16x32 .f32 → FVec Ideal S256x16x32 .f32) (w V main_v52) : FVec Ideal S256x16x32 .f32) :=
  una V 95 (y := main_v53) (x := main_v52) (f := (Host.exp : FVec Ideal S256x16x32 .f32 → FVec Ideal S256x16x32 .f32)) rfl (by decide) rfl
theorem e_cst_14 : w V main_cst_14 = ((constant S_ .f32 0x00000000#32) : FVec Ideal S_ .f32) :=
  nul V 96 (y := main_cst_14)  rfl rfl
theorem e_v54 : w V main_v54 = (((fun x v => Host.reduceAdd x v reducesTo_S256x16x32_S256x16_d2 h_S_) : FVec Ideal S256x16x32 .f32 → FVec Ideal S_ .f32 → FVec Ideal S256x16 .f32) (w V main_v53) (w V main_cst_14) : FVec Ideal S256x16 .f32) :=
  bin V 97 (y := main_v54) (a := main_v53) (b := main_cst_14) (f := ((fun x v => Host.reduceAdd x v reducesTo_S256x16x32_S256x16_d2 h_S_) : FVec Ideal S256x16x32 .f32 → FVec Ideal S_ .f32 → FVec Ideal S256x16 .f32)) rfl (by decide) (by decide) rfl
theorem e_v55 : w V main_v55 = ((broadcastInDim S256x16x1 ![0, 1] bcast_S256x16_S256x16x1_0_1 : FVec Ideal S256x16 .f32 → FVec Ideal S256x16x1 .f32) (w V main_v54) : FVec Ideal S256x16x1 .f32) :=
  una V 98 (y := main_v55) (x := main_v54) (f := (broadcastInDim S256x16x1 ![0, 1] bcast_S256x16_S256x16x1_0_1 : FVec Ideal S256x16 .f32 → FVec Ideal S256x16x1 .f32)) rfl (by decide) rfl
theorem e_v56 : w V main_v56 = ((broadcastInDim S256x16x32 ![0, 1, 2] bcast_S256x16x1_S256x16x32_0_1_2 : FVec Ideal S256x16x1 .f32 → FVec Ideal S256x16x32 .f32) (w V main_v55) : FVec Ideal S256x16x32 .f32) :=
  una V 99 (y := main_v56) (x := main_v55) (f := (broadcastInDim S256x16x32 ![0, 1, 2] bcast_S256x16x1_S256x16x32_0_1_2 : FVec Ideal S256x16x1 .f32 → FVec Ideal S256x16x32 .f32)) rfl (by decide) rfl
theorem e_v57 : w V main_v57 = ((Host.divf : FVec Ideal S256x16x32 .f32 → FVec Ideal S256x16x32 .f32 → FVec Ideal S256x16x32 .f32) (w V main_v53) (w V main_v56) : FVec Ideal S256x16x32 .f32) :=
  bin V 100 (y := main_v57) (a := main_v53) (b := main_v56) (f := (Host.divf : FVec Ideal S256x16x32 .f32 → FVec Ideal S256x16x32 .f32 → FVec Ideal S256x16x32 .f32)) rfl (by decide) (by decide) rfl
theorem e_cst_15 : w V main_cst_15 = ((constant S_ .f32 0x00000000#32) : FVec Ideal S_ .f32) :=
  nul V 101 (y := main_cst_15)  rfl rfl
theorem e_call3_v0 : w V main_call3_v0 = ((id : FVec Ideal S_ .f32 → FVec Ideal S_ .f32) (w V main_cst_15) : FVec Ideal S_ .f32) :=
  una V 102 (y := main_call3_v0) (x := main_cst_15) (f := (id : FVec Ideal S_ .f32 → FVec Ideal S_ .f32)) rfl (by decide) rfl
theorem e_call3_v1 : w V main_call3_v1 = (((broadcastInDim S256x16x32 ![] bcast_S_S256x16x32) : FVec Ideal S_ .f32 → FVec Ideal S256x16x32 .f32) (w V main_call3_v0) : FVec Ideal S256x16x32 .f32) :=
  una V 103 (y := main_call3_v1) (x := main_call3_v0) (f := ((broadcastInDim S256x16x32 ![] bcast_S_S256x16x32) : FVec Ideal S_ .f32 → FVec Ideal S256x16x32 .f32)) rfl (by decide) rfl
theorem e_v58 : w V main_v58 = ((select : IVec S256x16x32 1 → FVec Ideal S256x16x32 .f32 → FVec Ideal S256x16x32 .f32 → FVec Ideal S256x16x32 .f32) (w V main_arg3) (w V main_v57) (w V main_call3_v1) : FVec Ideal S256x16x32 .f32) :=
  ter V 104 (y := main_v58) (a := main_arg3) (b := main_v57) (c := main_call3_v1) (f := (select : IVec S256x16x32 1 → FVec Ideal S256x16x32 .f32 → FVec Ideal S256x16x32 .f32 → FVec Ideal S256x16x32 .f32)) rfl (by decide) (by decide) (by decide) rfl
theorem e_v59 : w V main_v59 = ((broadcastInDim S256x1x32 ![0, 2] bcast_S256x32_S256x1x32_0_2 : IVec S256x32 32 → IVec S256x1x32 32) (w V main_arg2) : IVec S256x1x32 32) :=
  una V 105 (y := main_v59) (x := main_arg2) (f := (broadcastInDim S256x1x32 ![0, 2] bcast_S256x32_S256x1x32_0_2 : IVec S256x32 32 → IVec S256x1x32 32)) rfl (by decide) rfl
theorem e_v60 : w V main_v60 = ((broadcastInDim S256x16x32 ![0, 1, 2] bcast_S256x1x32_S256x16x32_0_1_2 : IVec S256x1x32 32 → IVec S256x16x32 32) (w V main_v59) : IVec S256x16x32 32) :=
  una V 106 (y := main_v60) (x := main_v59) (f := (broadcastInDim S256x16x32 ![0, 1, 2] bcast_S256x1x32_S256x16x32_0_1_2 : IVec S256x1x32 32 → IVec S256x16x32 32)) rfl (by decide) rfl
theorem e_call4_v0 : w V main_call4_v0 = ((iotaInDim S256x16x32 32 2) : IVec S256x16x32 32) :=
  nul V 107 (y := main_call4_v0)  rfl rfl
theorem e_call4_cst : w V main_call4_cst = ((constant S_ .f32 0xFF800000#32) : FVec Ideal S_ .f32) :=
  nul V 108 (y := main_call4_cst)  rfl rfl
theorem e_call4_c : w V main_call4_c = ((constantI S_ 32 0#32) : IVec S_ 32) :=
  nul V 109 (y := main_call4_c)  rfl rfl
theorem e_call4_v1_0 : w V main_call4_v1_0 = (((fun x y u v j => (Host.argReduce reducer_argmax_f32_i32 x y u v reducesTo_S256x16x32_S256x16_d2 h_S_ j).1) : FVec Ideal S256x16x32 .f32 → IVec S256x16x32 32 → FVec Ideal S_ .f32 → IVec S_ 32 → FVec Ideal S256x16 .f32) (w V main_v58) (w V main_call4_v0) (w V main_call4_cst) (w V main_call4_c) : FVec Ideal S256x16 .f32) :=
  qua V 110 (y := main_call4_v1_0) (a := main_v58) (b := main_call4_v0) (c := main_call4_cst) (e := main_call4_c) (f := ((fun x y u v j => (Host.argReduce reducer_argmax_f32_i32 x y u v reducesTo_S256x16x32_S256x16_d2 h_S_ j).1) : FVec Ideal S256x16x32 .f32 → IVec S256x16x32 32 → FVec Ideal S_ .f32 → IVec S_ 32 → FVec Ideal S256x16 .f32)) rfl (by decide) (by decide) (by decide) (by decide) rfl
theorem e_v61 : w V main_v61 = (((fun x y u v j => (Host.argReduce reducer_argmax_f32_i32 x y u v reducesTo_S256x16x32_S256x16_d2 h_S_ j).2) : FVec Ideal S256x16x32 .f32 → IVec S256x16x32 32 → FVec Ideal S_ .f32 → IVec S_ 32 → IVec S256x16 32) (w V main_v58) (w V main_call4_v0) (w V main_call4_cst) (w V main_call4_c) : IVec S256x16 32) :=
  qua V 111 (y := main_v61) (a := main_v58) (b := main_call4_v0) (c := main_call4_cst) (e := main_call4_c) (f := ((fun x y u v j => (Host.argReduce reducer_argmax_f32_i32 x y u v reducesTo_S256x16x32_S256x16_d2 h_S_ j).2) : FVec Ideal S256x16x32 .f32 → IVec S256x16x32 32 → FVec Ideal S_ .f32 → IVec S_ 32 → IVec S256x16 32)) rfl (by decide) (by decide) (by decide) (by decide) rfl
theorem e_call5_v0 : w V main_call5_v0 = (((broadcastInDim S256x16x1 ![0, 1] bcast_S256x16_S256x16x1_0_1) : IVec S256x16 32 → IVec S256x16x1 32) (w V main_v61) : IVec S256x16x1 32) :=
  una V 112 (y := main_call5_v0) (x := main_v61) (f := ((broadcastInDim S256x16x1 ![0, 1] bcast_S256x16_S256x16x1_0_1) : IVec S256x16 32 → IVec S256x16x1 32)) rfl (by decide) rfl
theorem e_call5_v1 : w V main_call5_v1 = ((iotaInDim S1x1x32 32 2) : IVec S1x1x32 32) :=
  nul V 113 (y := main_call5_v1)  rfl rfl
theorem e_call5_v2 : w V main_call5_v2 = (((broadcastInDim S256x16x32 ![0, 1, 2] bcast_S256x16x1_S256x16x32_0_1_2) : IVec S256x16x1 32 → IVec S256x16x32 32) (w V main_call5_v0) : IVec S256x16x32 32) :=
  una V 114 (y := main_call5_v2) (x := main_call5_v0) (f := ((broadcastInDim S256x16x32 ![0, 1, 2] bcast_S256x16x1_S256x16x32_0_1_2) : IVec S256x16x1 32 → IVec S256x16x32 32)) rfl (by decide) rfl
theorem e_call5_v3 : w V main_call5_v3 = (((broadcastInDim S256x16x32 ![0, 1, 2] bcast_S1x1x32_S256x16x32_0_1_2) : IVec S1x1x32 32 → IVec S256x16x32 32) (w V main_call5_v1) : IVec S256x16x32 32) :=
  una V 115 (y := main_call5_v3) (x := main_call5_v1) (f := ((broadcastInDim S256x16x32 ![0, 1, 2] bcast_S1x1x32_S256x16x32_0_1_2) : IVec S1x1x32 32 → IVec S256x16x32 32)) rfl (by decide) rfl
theorem e_call5_v4 : w V main_call5_v4 = (((cmpi .eq) : IVec S256x16x32 32 → IVec S256x16x32 32 → IVec S256x16x32 1) (w V main_call5_v2) (w V main_call5_v3) : IVec S256x16x32 1) :=
  bin V 116 (y := main_call5_v4) (a := main_call5_v2) (b := main_call5_v3) (f := ((cmpi .eq) : IVec S256x16x32 32 → IVec S256x16x32 32 → IVec S256x16x32 1)) rfl (by decide) (by decide) rfl
theorem e_v62 : w V main_v62 = (((extui 32 · natLt_1_32) : IVec S256x16x32 1 → IVec S256x16x32 32) (w V main_call5_v4) : IVec S256x16x32 32) :=
  una V 117 (y := main_v62) (x := main_call5_v4) (f := ((extui 32 · natLt_1_32) : IVec S256x16x32 1 → IVec S256x16x32 32)) rfl (by decide) rfl
theorem e_c_16 : w V main_c_16 = ((constantI S_ 32 0#32) : IVec S_ 32) :=
  nul V 118 (y := main_c_16)  rfl rfl
theorem e_call6_v0 : w V main_call6_v0 = ((id : IVec S_ 32 → IVec S_ 32) (w V main_c_16) : IVec S_ 32) :=
  una V 119 (y := main_call6_v0) (x := main_c_16) (f := (id : IVec S_ 32 → IVec S_ 32)) rfl (by decide) rfl
theorem e_call6_v1 : w V main_call6_v1 = (((broadcastInDim S256x16x32 ![] bcast_S_S256x16x32) : IVec S_ 32 → IVec S256x16x32 32) (w V main_call6_v0) : IVec S256x16x32 32) :=
  una V 120 (y := main_call6_v1) (x := main_call6_v0) (f := ((broadcastInDim S256x16x32 ![] bcast_S_S256x16x32) : IVec S_ 32 → IVec S256x16x32 32)) rfl (by decide) rfl
theorem e_v63 : w V main_v63 = ((select : IVec S256x16x32 1 → IVec S256x16x32 32 → IVec S256x16x32 32 → IVec S256x16x32 32) (w V main_arg3) (w V main_v62) (w V main_call6_v1) : IVec S256x16x32 32) :=
  ter V 121 (y := main_v63) (a := main_arg3) (b := main_v62) (c := main_call6_v1) (f := (select : IVec S256x16x32 1 → IVec S256x16x32 32 → IVec S256x16x32 32 → IVec S256x16x32 32)) rfl (by decide) (by decide) (by decide) rfl
theorem e_v64 : w V main_v64 = ((muli : IVec S256x16x32 32 → IVec S256x16x32 32 → IVec S256x16x32 32) (w V main_v60) (w V main_v63) : IVec S256x16x32 32) :=
  bin V 122 (y := main_v64) (a := main_v60) (b := main_v63) (f := (muli : IVec S256x16x32 32 → IVec S256x16x32 32 → IVec S256x16x32 32)) rfl (by decide) (by decide) rfl
theorem e_c_17 : w V main_c_17 = ((constantI S_ 32 2147483648#32) : IVec S_ 32) :=
  nul V 123 (y := main_c_17)  rfl rfl
theorem e_v65 : w V main_v65 = (((fun x v => Host.reduce IntOp.maxsi x v reducesTo_S256x16x32_S256x16_d2 h_S_) : IVec S256x16x32 32 → IVec S_ 32 → IVec S256x16 32) (w V main_v64) (w V main_c_17) : IVec S256x16 32) :=
  bin V 124 (y := main_v65) (a := main_v64) (b := main_c_17) (f := ((fun x v => Host.reduce IntOp.maxsi x v reducesTo_S256x16x32_S256x16_d2 h_S_) : IVec S256x16x32 32 → IVec S_ 32 → IVec S256x16 32)) rfl (by decide) (by decide) rfl
theorem e_v66 : w V main_v66 = ((broadcastInDim S256x16x1 ![0, 1] bcast_S256x16_S256x16x1_0_1 : IVec S256x16 32 → IVec S256x16x1 32) (w V main_v65) : IVec S256x16x1 32) :=
  una V 125 (y := main_v66) (x := main_v65) (f := (broadcastInDim S256x16x1 ![0, 1] bcast_S256x16_S256x16x1_0_1 : IVec S256x16 32 → IVec S256x16x1 32)) rfl (by decide) rfl
theorem e_v67 : w V main_v67 = ((broadcastInDim S256x16x32 ![0, 1, 2] bcast_S256x16x1_S256x16x32_0_1_2 : IVec S256x16x1 32 → IVec S256x16x32 32) (w V main_v66) : IVec S256x16x32 32) :=
  una V 126 (y := main_v67) (x := main_v66) (f := (broadcastInDim S256x16x32 ![0, 1, 2] bcast_S256x16x1_S256x16x32_0_1_2 : IVec S256x16x1 32 → IVec S256x16x32 32)) rfl (by decide) rfl
theorem e_v68 : w V main_v68 = ((cmpi .eq : IVec S256x16x32 32 → IVec S256x16x32 32 → IVec S256x16x32 1) (w V main_v67) (w V main_v60) : IVec S256x16x32 1) :=
  bin V 127 (y := main_v68) (a := main_v67) (b := main_v60) (f := (cmpi .eq : IVec S256x16x32 32 → IVec S256x16x32 32 → IVec S256x16x32 1)) rfl (by decide) (by decide) rfl
theorem e_v69 : w V main_v69 = ((uitofp .f32 : IVec S256x16x32 1 → FVec Ideal S256x16x32 .f32) (w V main_v68) : FVec Ideal S256x16x32 .f32) :=
  una V 128 (y := main_v69) (x := main_v68) (f := (uitofp .f32 : IVec S256x16x32 1 → FVec Ideal S256x16x32 .f32)) rfl (by decide) rfl
theorem e_call7_c : w V main_call7_c = ((constantI S_ 32 0#32) : IVec S_ 32) :=
  nul V 129 (y := main_call7_c)  rfl rfl
theorem e_call7_v0 : w V main_call7_v0 = (((broadcastInDim S256 ![] bcast_S_S256) : IVec S_ 32 → IVec S256 32) (w V main_call7_c) : IVec S256 32) :=
  una V 130 (y := main_call7_v0) (x := main_call7_c) (f := ((broadcastInDim S256 ![] bcast_S_S256) : IVec S_ 32 → IVec S256 32)) rfl (by decide) rfl
theorem e_call7_v1 : w V main_call7_v1 = (((cmpi .slt) : IVec S256 32 → IVec S256 32 → IVec S256 1) (w V main_arg1) (w V main_call7_v0) : IVec S256 1) :=
  bin V 131 (y := main_call7_v1) (a := main_arg1) (b := main_call7_v0) (f := ((cmpi .slt) : IVec S256 32 → IVec S256 32 → IVec S256 1)) rfl (by decide) (by decide) rfl
theorem e_call7_c_0 : w V main_call7_c_0 = ((constantI S_ 32 100000#32) : IVec S_ 32) :=
  nul V 132 (y := main_call7_c_0)  rfl rfl
theorem e_call7_v2 : w V main_call7_v2 = (((broadcastInDim S256 ![] bcast_S_S256) : IVec S_ 32 → IVec S256 32) (w V main_call7_c_0) : IVec S256 32) :=
  una V 133 (y := main_call7_v2) (x := main_call7_c_0) (f := ((broadcastInDim S256 ![] bcast_S_S256) : IVec S_ 32 → IVec S256 32)) rfl (by decide) rfl
theorem e_call7_v3 : w V main_call7_v3 = ((addi : IVec S256 32 → IVec S256 32 → IVec S256 32) (w V main_arg1) (w V main_call7_v2) : IVec S256 32) :=
  bin V 134 (y := main_call7_v3) (a := main_arg1) (b := main_call7_v2) (f := (addi : IVec S256 32 → IVec S256 32 → IVec S256 32)) rfl (by decide) (by decide) rfl
theorem e_call7_v4 : w V main_call7_v4 = ((select : IVec S256 1 → IVec S256 32 → IVec S256 32 → IVec S256 32) (w V main_call7_v1) (w V main_call7_v3) (w V main_arg1) : IVec S256 32) :=
  ter V 135 (y := main_call7_v4) (a := main_call7_v1) (b := main_call7_v3) (c := main_arg1) (f := (select : IVec S256 1 → IVec S256 32 → IVec S256 32 → IVec S256 32)) rfl (by decide) (by decide) (by decide) rfl
theorem e_call7_v5 : w V main_call7_v5 = (((broadcastInDim S256x1 ![0] bcast_S256_S256x1_0) : IVec S256 32 → IVec S256x1 32) (w V main_call7_v4) : IVec S256x1 32) :=
  una V 136 (y := main_call7_v5) (x := main_call7_v4) (f := ((broadcastInDim S256x1 ![0] bcast_S256_S256x1_0) : IVec S256 32 → IVec S256x1 32)) rfl (by decide) rfl
theorem e_call7_c_1 : w V main_call7_c_1 = ((constantI S1 32 99999#32) : IVec S1 32) :=
  nul V 137 (y := main_call7_c_1)  rfl rfl
theorem e_call7_c_2 : w V main_call7_c_2 = ((constantI S_ 32 0#32) : IVec S_ 32) :=
  nul V 138 (y := main_call7_c_2)  rfl rfl
theorem e_call7_v6 : w V main_call7_v6 = (((broadcastInDim S256x1 ![] bcast_S_S256x1) : IVec S_ 32 → IVec S256x1 32) (w V main_call7_c_2) : IVec S256x1 32) :=
  una V 139 (y := main_call7_v6) (x := main_call7_c_2) (f := ((broadcastInDim S256x1 ![] bcast_S_S256x1) : IVec S_ 32 → IVec S256x1 32)) rfl (by decide) rfl
theorem e_call7_v7 : w V main_call7_v7 = (((cmpi .sge) : IVec S256x1 32 → IVec S256x1 32 → IVec S256x1 1) (w V main_call7_v5) (w V main_call7_v6) : IVec S256x1 1) :=
  bin V 140 (y := main_call7_v7) (a := main_call7_v5) (b := main_call7_v6) (f := ((cmpi .sge) : IVec S256x1 32 → IVec S256x1 32 → IVec S256x1 1)) rfl (by decide) (by decide) rfl
theorem e_call7_v8 : w V main_call7_v8 = (((broadcastInDim S1x1 ![1] bcast_S1_S1x1_1) : IVec S1 32 → IVec S1x1 32) (w V main_call7_c_1) : IVec S1x1 32) :=
  una V 141 (y := main_call7_v8) (x := main_call7_c_1) (f := ((broadcastInDim S1x1 ![1] bcast_S1_S1x1_1) : IVec S1 32 → IVec S1x1 32)) rfl (by decide) rfl
theorem e_call7_v9 : w V main_call7_v9 = (((broadcastInDim S256x1 ![0, 1] bcast_S1x1_S256x1_0_1) : IVec S1x1 32 → IVec S256x1 32) (w V main_call7_v8) : IVec S256x1 32) :=
  una V 142 (y := main_call7_v9) (x := main_call7_v8) (f := ((broadcastInDim S256x1 ![0, 1] bcast_S1x1_S256x1_0_1) : IVec S1x1 32 → IVec S256x1 32)) rfl (by decide) rfl
theorem e_call7_v10 : w V main_call7_v10 = (((cmpi .sle) : IVec S256x1 32 → IVec S256x1 32 → IVec S256x1 1) (w V main_call7_v5) (w V main_call7_v9) : IVec S256x1 1) :=
  bin V 143 (y := main_call7_v10) (a := main_call7_v5) (b := main_call7_v9) (f := ((cmpi .sle) : IVec S256x1 32 → IVec S256x1 32 → IVec S256x1 1)) rfl (by decide) (by decide) rfl
theorem e_call7_v11 : w V main_call7_v11 = ((andi : IVec S256x1 1 → IVec S256x1 1 → IVec S256x1 1) (w V main_call7_v7) (w V main_call7_v10) : IVec S256x1 1) :=
  bin V 144 (y := main_call7_v11) (a := main_call7_v7) (b := main_call7_v10) (f := (andi : IVec S256x1 1 → IVec S256x1 1 → IVec S256x1 1)) rfl (by decide) (by decide) rfl
theorem e_call7_c_3 : w V main_call7_c_3 = ((constantI S_ 1 1#1) : IVec S_ 1) :=
  nul V 145 (y := main_call7_c_3)  rfl rfl
theorem e_call7_v12 : w V main_call7_v12 = (((fun x v => Host.reduce IntOp.andi x v reducesTo_S256x1_S256_d1 h_S_) : IVec S256x1 1 → IVec S_ 1 → IVec S256 1) (w V main_call7_v11) (w V main_call7_c_3) : IVec S256 1) :=
  bin V 146 (y := main_call7_v12) (a := main_call7_v11) (b := main_call7_c_3) (f := ((fun x v => Host.reduce IntOp.andi x v reducesTo_S256x1_S256_d1 h_S_) : IVec S256x1 1 → IVec S_ 1 → IVec S256 1)) rfl (by decide) (by decide) rfl
theorem e_call7_v13 : w V main_call7_v13 = (((fun x i => Host.gather gather_S100000x16x32_S256x1_S256x16x32_12_0_n_n_0_1_11632 x i) : FVec Ideal S100000x16x32 .f32 → IVec S256x1 32 → FVec Ideal S256x16x32 .f32) (w V main_arg4) (w V main_call7_v5) : FVec Ideal S256x16x32 .f32) :=
  bin V 147 (y := main_call7_v13) (a := main_arg4) (b := main_call7_v5) (f := ((fun x i => Host.gather gather_S100000x16x32_S256x1_S256x16x32_12_0_n_n_0_1_11632 x i) : FVec Ideal S100000x16x32 .f32 → IVec S256x1 32 → FVec Ideal S256x16x32 .f32)) rfl (by decide) (by decide) rfl
theorem e_call7_v14 : w V main_call7_v14 = (((broadcastInDim S256x16x32 ![0] bcast_S256_S256x16x32_0) : IVec S256 1 → IVec S256x16x32 1) (w V main_call7_v12) : IVec S256x16x32 1) :=
  una V 148 (y := main_call7_v14) (x := main_call7_v12) (f := ((broadcastInDim S256x16x32 ![0] bcast_S256_S256x16x32_0) : IVec S256 1 → IVec S256x16x32 1)) rfl (by decide) rfl
theorem e_call7_cst : w V main_call7_cst = ((constant S_ .f32 0x7FC00000#32) : FVec Ideal S_ .f32) :=
  nul V 149 (y := main_call7_cst)  rfl rfl
theorem e_call7_v15 : w V main_call7_v15 = (((broadcastInDim S256x16x32 ![] bcast_S_S256x16x32) : FVec Ideal S_ .f32 → FVec Ideal S256x16x32 .f32) (w V main_call7_cst) : FVec Ideal S256x16x32 .f32) :=
  una V 150 (y := main_call7_v15) (x := main_call7_cst) (f := ((broadcastInDim S256x16x32 ![] bcast_S_S256x16x32) : FVec Ideal S_ .f32 → FVec Ideal S256x16x32 .f32)) rfl (by decide) rfl
theorem e_v70 : w V main_v70 = ((select : IVec S256x16x32 1 → FVec Ideal S256x16x32 .f32 → FVec Ideal S256x16x32 .f32 → FVec Ideal S256x16x32 .f32) (w V main_call7_v14) (w V main_call7_v13) (w V main_call7_v15) : FVec Ideal S256x16x32 .f32) :=
  ter V 151 (y := main_v70) (a := main_call7_v14) (b := main_call7_v13) (c := main_call7_v15) (f := (select : IVec S256x16x32 1 → FVec Ideal S256x16x32 .f32 → FVec Ideal S256x16x32 .f32 → FVec Ideal S256x16x32 .f32)) rfl (by decide) (by decide) (by decide) rfl
theorem e_cst_18 : w V main_cst_18 = ((constant S_ .f32 0x3F7D70A4#32) : FVec Ideal S_ .f32) :=
  nul V 152 (y := main_cst_18)  rfl rfl
theorem e_v71 : w V main_v71 = ((broadcastInDim S256x16x32 ![] bcast_S_S256x16x32 : FVec Ideal S_ .f32 → FVec Ideal S256x16x32 .f32) (w V main_cst_18) : FVec Ideal S256x16x32 .f32) :=
  una V 153 (y := main_v71) (x := main_cst_18) (f := (broadcastInDim S256x16x32 ![] bcast_S_S256x16x32 : FVec Ideal S_ .f32 → FVec Ideal S256x16x32 .f32)) rfl (by decide) rfl
theorem e_v72 : w V main_v72 = ((mulf : FVec Ideal S256x16x32 .f32 → FVec Ideal S256x16x32 .f32 → FVec Ideal S256x16x32 .f32) (w V main_v71) (w V main_v70) : FVec Ideal S256x16x32 .f32) :=
  bin V 154 (y := main_v72) (a := main_v71) (b := main_v70) (f := (mulf : FVec Ideal S256x16x32 .f32 → FVec Ideal S256x16x32 .f32 → FVec Ideal S256x16x32 .f32)) rfl (by decide) (by decide) rfl
theorem e_cst_19 : w V main_cst_19 = ((constant S_ .f32 0x3C23D70A#32) : FVec Ideal S_ .f32) :=
  nul V 155 (y := main_cst_19)  rfl rfl
theorem e_v73 : w V main_v73 = ((broadcastInDim S256x16x32 ![] bcast_S_S256x16x32 : FVec Ideal S_ .f32 → FVec Ideal S256x16x32 .f32) (w V main_cst_19) : FVec Ideal S256x16x32 .f32) :=
  una V 156 (y := main_v73) (x := main_cst_19) (f := (broadcastInDim S256x16x32 ![] bcast_S_S256x16x32 : FVec Ideal S_ .f32 → FVec Ideal S256x16x32 .f32)) rfl (by decide) rfl
theorem e_v74 : w V main_v74 = ((mulf : FVec Ideal S256x16x32 .f32 → FVec Ideal S256x16x32 .f32 → FVec Ideal S256x16x32 .f32) (w V main_v73) (w V main_v69) : FVec Ideal S256x16x32 .f32) :=
  bin V 157 (y := main_v74) (a := main_v73) (b := main_v69) (f := (mulf : FVec Ideal S256x16x32 .f32 → FVec Ideal S256x16x32 .f32 → FVec Ideal S256x16x32 .f32)) rfl (by decide) (by decide) rfl
theorem e_v75 : w V main_v75 = ((addf : FVec Ideal S256x16x32 .f32 → FVec Ideal S256x16x32 .f32 → FVec Ideal S256x16x32 .f32) (w V main_v72) (w V main_v74) : FVec Ideal S256x16x32 .f32) :=
  bin V 158 (y := main_v75) (a := main_v72) (b := main_v74) (f := (addf : FVec Ideal S256x16x32 .f32 → FVec Ideal S256x16x32 .f32 → FVec Ideal S256x16x32 .f32)) rfl (by decide) (by decide) rfl
theorem e_c_20 : w V main_c_20 = ((constantI S_ 32 0#32) : IVec S_ 32) :=
  nul V 159 (y := main_c_20)  rfl rfl
theorem e_v76 : w V main_v76 = ((broadcastInDim S256 ![] bcast_S_S256 : IVec S_ 32 → IVec S256 32) (w V main_c_20) : IVec S256 32) :=
  una V 160 (y := main_v76) (x := main_c_20) (f := (broadcastInDim S256 ![] bcast_S_S256 : IVec S_ 32 → IVec S256 32)) rfl (by decide) rfl
theorem e_v77 : w V main_v77 = ((cmpi .slt : IVec S256 32 → IVec S256 32 → IVec S256 1) (w V main_arg1) (w V main_v76) : IVec S256 1) :=
  bin V 161 (y := main_v77) (a := main_arg1) (b := main_v76) (f := (cmpi .slt : IVec S256 32 → IVec S256 32 → IVec S256 1)) rfl (by decide) (by decide) rfl
theorem e_c_21 : w V main_c_21 = ((constantI S_ 32 100000#32) : IVec S_ 32) :=
  nul V 162 (y := main_c_21)  rfl rfl
theorem e_v78 : w V main_v78 = ((broadcastInDim S256 ![] bcast_S_S256 : IVec S_ 32 → IVec S256 32) (w V main_c_21) : IVec S256 32) :=
  una V 163 (y := main_v78) (x := main_c_21) (f := (broadcastInDim S256 ![] bcast_S_S256 : IVec S_ 32 → IVec S256 32)) rfl (by decide) rfl
theorem e_v79 : w V main_v79 = ((addi : IVec S256 32 → IVec S256 32 → IVec S256 32) (w V main_arg1) (w V main_v78) : IVec S256 32) :=
  bin V 164 (y := main_v79) (a := main_arg1) (b := main_v78) (f := (addi : IVec S256 32 → IVec S256 32 → IVec S256 32)) rfl (by decide) (by decide) rfl
theorem e_v80 : w V main_v80 = ((select : IVec S256 1 → IVec S256 32 → IVec S256 32 → IVec S256 32) (w V main_v77) (w V main_v79) (w V main_arg1) : IVec S256 32) :=
  ter V 165 (y := main_v80) (a := main_v77) (b := main_v79) (c := main_arg1) (f := (select : IVec S256 1 → IVec S256 32 → IVec S256 32 → IVec S256 32)) rfl (by decide) (by decide) (by decide) rfl
theorem e_v81 : w V main_v81 = ((broadcastInDim S256x1 ![0] bcast_S256_S256x1_0 : IVec S256 32 → IVec S256x1 32) (w V main_v80) : IVec S256x1 32) :=
  una V 166 (y := main_v81) (x := main_v80) (f := (broadcastInDim S256x1 ![0] bcast_S256_S256x1_0 : IVec S256 32 → IVec S256x1 32)) rfl (by decide) rfl
theorem e_v82 : w V main_v82 = (((fun x i u => Host.scatter scatter_S100000x16x32_S256x1_S256x16x32_12_0_0_1 (fun _ b => b) x i u) : FVec Ideal S100000x16x32 .f32 → IVec S256x1 32 → FVec Ideal S256x16x32 .f32 → FVec Ideal S100000x16x32 .f32) (w V main_arg4) (w V main_v81) (w V main_v75) : FVec Ideal S100000x16x32 .f32) :=
  ter V 167 (y := main_v82) (a := main_arg4) (b := main_v81) (c := main_v75) (f := ((fun x i u => Host.scatter scatter_S100000x16x32_S256x1_S256x16x32_12_0_0_1 (fun _ b => b) x i u) : FVec Ideal S100000x16x32 .f32 → IVec S256x1 32 → FVec Ideal S256x16x32 .f32 → FVec Ideal S100000x16x32 .f32)) rfl (by decide) (by decide) (by decide) rfl

end Cert.Proof.Ref

end
-- ==== Proof.Frames.lean ====
/-
  The frames: each program ends with its arguments as they were and every counter at zero.
-/
module

public import proofs.«01_k».proof.Defs
public import proofs.«01_k».proof.Proof.Pre
public import proofs.«01_k».proof.Proof.Bits.Run
public import proofs.«01_k».proof.Proof.Ideal.Run
public import proofs.«01_k».proof.Proof.Ref.Eqs
public import Idealize.ShloMosaic.Lib.Quiescent

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_rows_ok.Gen.facts

/-- The kernel's frame. -/
theorem kernel_frame : quiescent_Kernel := fun m g h =>
  Kernel.run_frame m (fun c => (Pre.rows_of (h c)).row) g (fun c => (Pre.rows_of (h c)).row_inj)
    (fun c => Kernel.words_of_mem m c _ (Pre.rows_of (h c)).words)

/-- The ideal kernel's frame. -/
theorem ideal_frame : quiescent_KernelIdeal := fun m g h =>
  KernelIdeal.run_frame m (fun c => (Pre.rows_of (h c)).row) g (fun c => (Pre.rows_of (h c)).row_inj)
    (fun c => KernelIdeal.words_of_mem m c _ (Pre.rows_of (h c)).words)

/-- The reference's frame. -/
theorem reference_frame : quiescent_ReferenceIdeal := fun m g _ =>
  (θ_run _ _ _).mono (fun r h => ⟨fun c =>
    ⟨(h c Cert.ReferenceIdeal.main_arg0).trans (Ref.w_arg (StableHlo.launchContents m c) (x := Cert.ReferenceIdeal.main_arg0) (by decide)),
     (h c Cert.ReferenceIdeal.main_arg1).trans (Ref.w_arg (StableHlo.launchContents m c) (x := Cert.ReferenceIdeal.main_arg1) (by decide)),
     (h c Cert.ReferenceIdeal.main_arg2).trans (Ref.w_arg (StableHlo.launchContents m c) (x := Cert.ReferenceIdeal.main_arg2) (by decide)),
     (h c Cert.ReferenceIdeal.main_arg3).trans (Ref.w_arg (StableHlo.launchContents m c) (x := Cert.ReferenceIdeal.main_arg3) (by decide)),
     (h c Cert.ReferenceIdeal.main_arg4).trans (Ref.w_arg (StableHlo.launchContents m c) (x := Cert.ReferenceIdeal.main_arg4) (by decide))⟩,
    sem_eq_zero_of_no_sems (by decide) r.2⟩) (Ref.run m g)

/-- The ideal kernel is the kernel with its named constants read exactly. -/
theorem preserved : preserves_Kernel_KernelIdeal :=
  ⟨IdealRules.named_const.statement Cert.KernelIdeal.κ "inv_temp" .f32 0x41649249#32 _ rfl,
   IdealRules.named_const.statement Cert.KernelIdeal.κ "neg_inf" .f32 0xFF7F0000#32 _ rfl⟩

end Cert.Proof

end
-- ==== Proof.PreInputs.lean ====
/-
  What the inputs' condition says: the rows are in the memory and distinct, and every float is a real number.
-/
module

public import proofs.«01_k».proof.Pre_inputs_ok
public import proofs.«01_k».proof.Proof.Pre
public import Idealize.ShloMosaic.PureOps.Ideal
public import Idealize.ShloMosaic.Lib.Pointwise

@[expose] public section

set_option Elab.async false

noncomputable section

namespace Cert.Proof.Pre

open Idealize.ShloMosaic Idealize.SL.Sem

open Cert.Pre_inputs_ok in
/-- The condition's shapes agree. -/
instance inputsFacts : Cert.Pre_inputs_ok.Facts where
  bcast_S_S256 := by decide
  bcast_S256_S256x1_0 := by decide
  bcast_S256_S1x256_1 := by decide
  bcast_S256x1_S256x256_0_1 := by decide
  bcast_S1x256_S256x256_0_1 := by decide
  reducesTo_S256_S_d0 := by decide
  h_S_ := by decide
  reducesTo_S256x256_S_d0_1 := by decide
  bcast_S_S256x256x16x32 := by decide
  reducesTo_S256x256x16x32_S_d0_1_2_3 := by decide
  bcast_S_S100000x16x32 := by decide
  reducesTo_S100000x16x32_S_d0_1_2 := by decide

/-- An extended real that is a real number. -/
def Fin' (a : EReal) : Prop := a ≠ ⊤ ∧ a ≠ ⊥

theorem ofBits_inf : Ideal.ofBits .f32 0x7F800000#32 = ⊤ := by simp [Ideal.ofBits, Ideal.ieee]

/-- A magnitude below infinity is a real number's. -/
theorem fin_of_lt (a : EReal) (h : Ideal.cmp .olt (max a (-a)) (Ideal.ofBits .f32 0x7F800000#32) = 1#1) : Fin' a := by
  have h1 : max a (-a) < ⊤ := by
    rw [ofBits_inf] at h
    unfold Ideal.cmp at h
    by_contra hn
    simp only [hn, decide_false] at h
    exact absurd h (by decide)
  constructor
  · rintro rfl; simp at h1
  · rintro rfl; simp at h1

attribute [local instance] Cert.Pre_rows_ok.Gen.facts

open Cert.Pre_inputs_ok in
theorem inputs_of {a0 : FVec Ideal S256x256x16x32 .f32} {x : IVec S256 32} {a2 : IVec S256x32 32} {a3 : IVec S256x16x32 1} {a4 : FVec Ideal S100000x16x32 .f32}
    (h : Cert.Pre_inputs_ok.fn (F := Ideal) a0 x a2 a3 a4 = fun _ => 1#1) : RowsOk x ∧ (∀ i, Fin' (a0 i)) ∧ ∀ i, Fin' (a4 i) := by
  have e := congrFun h (fun a => a.elim0)
  obtain ⟨e1, e3⟩ := IntOp.andi_eq_one.1 e
  obtain ⟨e1, e2⟩ := IntOp.andi_eq_one.1 e1
  haveI : Subsingleton S_.Idx := ⟨fun a b => funext fun i => i.elim0⟩
  refine ⟨rows_of (F := Ideal) (a0 := a0) (a2 := a2) (a3 := a3) (a4 := a4) (funext fun j => ?_), fun i => ?_, fun i => ?_⟩
  · obtain rfl : j = fun a => a.elim0 := funext fun a => a.elim0
    exact e1
  · exact fin_of_lt _ (Host.reduce_andi_all _ _ _ _ _ e2 i)
  · exact fin_of_lt _ (Host.reduce_andi_all _ _ _ _ _ e3 i)

end Cert.Proof.Pre

end
-- ==== Proof.Value.Kern.lean ====
/-
  What the kernel's results are as functions of its arguments: the program's last contents at the five result buffers.
-/
module

public import proofs.«01_k».proof.Proof.Ideal.Run
public import Idealize.ShloMosaic.PureOps.Ideal
public import Idealize.ShloMosaic.Lib.Pipeline.Value

@[expose] public section

noncomputable section

namespace Cert.Proof.KernelIdeal

open Cert.KernelIdeal Cert.KernelIdeal.Gen

open Idealize.ShloMosaic
open Idealize.ShloMosaic.TcCoe Idealize.ShloMosaic.StableHlo
open Idealize.SL.Sem
open Idealize.ShloMosaic.Pipeline (Dat Seg HostSeg RegionSeg)

attribute [local irreducible] ptOf confOf lossOf

variable (m : (ℓ : Loc nD τ sig) → Buf (Elt Ideal) ℓ) (n : Dev nD → Fin 256 → Fin 100000) (c : Dev nD)

/-- The arguments as launched. -/
abbrev X0 : FVec Ideal S256x256x16x32 .f32 := m ((c.tc : Thread nD τ).loc main_arg0)
abbrev X2 : IVec S256x32 32 := m ((c.tc : Thread nD τ).loc main_arg2)
abbrev X3 : IVec S256x16x32 1 := m ((c.tc : Thread nD τ).loc main_arg3)
abbrev X4 : FVec Ideal S100000x16x32 .f32 := m ((c.tc : Thread nD τ).loc main_arg4)

/-- The first stretch of host operations, read at the buffers the calls take. -/
theorem V1_slab : V1 m c main_call0_v0 = (shapeCast S256x256x512 (X0 m c) shapeCasts_S256x256x16x32_S256x256x512 : FVec Ideal S256x256x512 .f32) := by
  rfl
theorem V1_mask : V1 m c main_call0_v1 = (uitofp .f32 (X3 m c) : FVec Ideal S256x16x32 .f32) := by
  rfl

theorem V1_det : V1 m c main_call0_v4 = (broadcastInDim S256x16x32 ![0, 1, 2] bcast_S256x1x32_S256x16x32_0_1_2
    (broadcastInDim S256x1x32 ![0, 2] bcast_S256x32_S256x1x32_0_2 (sitofp .f32 (X2 m c) : FVec Ideal S256x32 .f32)) : FVec Ideal S256x16x32 .f32) := by
  rfl

/-- The positions of a slab's row, halved by 32 as the host does it. -/
abbrev pos : IVec S512 32 := iotaInDim S512 32 0
abbrev by32 : IVec S512 32 := broadcastInDim S512 ![] bcast_S_S512 (constantI S_ 32 32#32)
abbrev group : IVec S512 32 :=
  select (andi (cmpi .ne (signi pos) (broadcastInDim S512 ![] bcast_S_S512 (signi (constantI S_ 32 32#32))))
    (cmpi .ne (Host.remsi pos by32) (broadcastInDim S512 ![] bcast_S_S512 (constantI S_ 32 0#32))))
    (subi (Host.divsi pos by32) (broadcastInDim S512 ![] bcast_S_S512 (constantI S_ 32 1#32))) (Host.divsi pos by32)

/-- The selection matrix of the groups. -/
abbrev sel : FVec Ideal S512x16 .f32 :=
  uitofp .f32 (cmpi .eq (broadcastInDim S512x16 ![0, 1] bcast_S512x1_S512x16_0_1 (broadcastInDim S512x1 ![0] bcast_S512_S512x1_0 group))
    (broadcastInDim S512x16 ![0, 1] bcast_S1x16_S512x16_0_1 (broadcastInDim S1x16 ![1] bcast_S16_S1x16_1 (iotaInDim S16 32 0))))

theorem V1_sel : V1 m c main_call0_v13 = sel := by rfl
theorem V1_selT : V1 m c main_call0_v14 = (transpose S16x512 [1, 0] sel transposes_S512x16_S16x512_1_0 : FVec Ideal S16x512 .f32) := by rfl

/-- A reference the items before the last call leave alone. -/
theorem U5_of (r : Ref sig .tc) (h2 : r ∉ ([main_call0_v15] : List (Ref sig .tc))) (h3 : r ∉ hostOps1_W) (h4 : r ∉ ([main_call0_v17] : List (Ref sig .tc)))
    (h5 : r ∉ hostOps2_W) : U5 m c r = V1 m c r := by
  rw [← V5_eq m (fun _ _ => 0) c]
  exact (V5_of m _ c r h5).trans <| (V4_of m _ c r h4).trans <| (V3_of m _ c r h3).trans (V2_of m _ c r h2)

/-- The logit rows the last call takes. -/
def lg : FVec Ideal S256x16x32 .f32 := shapeCast S256x16x32 (((dat0 (V1 m) c).arrAt 3 cfg0.N : FVec Ideal S256x1x512 .f32)) shapeCasts_S256x1x512_S256x16x32

theorem U3_lg : U3 m c main_v0_1 = lg m c := by
  have h : U3 m c main_v0_1 = (shapeCast S256x16x32 (U2 m c main_call0_v15 : FVec Ideal S256x1x512 .f32) shapeCasts_S256x1x512_S256x16x32 : FVec Ideal S256x16x32 .f32) := rfl
  rw [h]
  have e := U2_v15 m c
  unfold lg
  rw [← e]

theorem U5_lg : U5 m c main_v0_1 = lg m c := by
  rw [← V5_eq m (fun _ _ => 0) c, ← U3_lg m c, ← V3_eq m (fun _ _ => 0) c]
  exact (V5_of m _ c main_v0_1 (by decide)).trans (V4_of m _ c main_v0_1 (by decide))

theorem U5_copy : U5 m c main_v0_4 = X4 m c := by
  have h : U5 m c main_v0_4 = U4 m c main_call0_v17 := rfl
  rw [h]; unfold U4; rw [Function.update_self, ← V3_eq m (fun _ _ => 0) c]
  exact (V3_of m _ c main_arg4 (by decide)).trans <| (V2_of m _ c main_arg4 (by decide)).trans (V1_of m c main_arg4 (by decide))
theorem U5_mem : U5 m c main_arg4 = X4 m c :=
  (U5_of m c main_arg4 (by decide) (by decide) (by decide) (by decide)).trans (V1_of m c main_arg4 (by decide))
theorem U5_mask : U5 m c main_call0_v1 = (uitofp .f32 (X3 m c) : FVec Ideal S256x16x32 .f32) :=
  (U5_of m c main_call0_v1 (by decide) (by decide) (by decide) (by decide)).trans (V1_mask m c)

/-- The mask and the labels as floats. -/
abbrev mk : FVec Ideal S256x16x32 .f32 := uitofp .f32 (X3 m c)
abbrev dt : FVec Ideal S256x16x32 .f32 := broadcastInDim S256x16x32 ![0, 1, 2] bcast_S256x1x32_S256x16x32_0_1_2
    (broadcastInDim S256x1x32 ![0, 2] bcast_S256x32_S256x1x32_0_2 (sitofp .f32 (X2 m c) : FVec Ideal S256x32 .f32))

theorem U5_det : U5 m c main_call0_v4 = dt m c :=
  (U5_of m c main_call0_v4 (by decide) (by decide) (by decide) (by decide)).trans (V1_det m c)

theorem stg1 : stg2_1 (U5 m) c = lg m c := by
  rw [← U5_lg m c]
  funext i
  exact congrArg (U5 m c main_v0_1 : S256x16x32.Idx → EReal) (funext fun a => Fin.ext (Pipeline.Window.rect_emb_val_of_index_zero win2_1 t2_0 a (by fin_cases a <;> rfl) i))
theorem stg2 : stg2_2 (U5 m) c = mk m c := by
  unfold mk
  rw [← U5_mask m c]
  funext i
  exact congrArg (U5 m c main_call0_v1 : S256x16x32.Idx → EReal) (funext fun a => Fin.ext (Pipeline.Window.rect_emb_val_of_index_zero win2_2 t2_0 a (by fin_cases a <;> rfl) i))
theorem stg3 : stg2_3 (U5 m) c = dt m c := by

  rw [← show U5 m c main_call0_v4 = dt m c from U5_det m c]
  funext i
  exact congrArg (U5 m c main_call0_v4 : S256x16x32.Idx → EReal) (funext fun a => Fin.ext (Pipeline.Window.rect_emb_val_of_index_zero win2_3 t2_0 a (by fin_cases a <;> rfl) i))

/-- The rows gathered. -/
abbrev rows : FVec Ideal S256x16x32 .f32 := gath (F := Ideal) (n c) (X4 m c)

theorem rows_eq : rows2 (U5 m) n c = rows m n c := by unfold rows rows2; rw [U5_mem]

theorem fin4' : (dat2 (U5 m) n c).arrAt 4 cfg2.N = (ptOf (F := Ideal) (stg2_2 (U5 m) c) (rows2 (U5 m) n c) : FVec Ideal S256x16x32 .f32) := by
  refine (dat2 (U5 m) n c).arrAt_eq_of_cover 4 _ (fun t _ => ?_) (fun i => ⟨t2_0, by decide, ?_⟩)
  · obtain rfl := fin_N2 t
    funext i
    refine congrArg (ptOf (F := Ideal) (stg2_2 (U5 m) c) (rows2 (U5 m) n c)) (funext fun a => Fin.ext (Eq.symm ?_))
    exact Pipeline.Window.rect_emb_val_of_index_zero win2_4 t2_0 a (by fin_cases a <;> rfl) i
  · show i ∈ ((View.whole main_v0_2).slice (win2_4.rect t2_0)).set
    rw [View.set_slice_whole, Rect.mem_set_unit]
    intro a
    fin_cases a
    · exact ⟨Nat.zero_le _, (show (i 0).val < 256 from (i 0).isLt).trans_le (by decide)⟩
    · exact ⟨Nat.zero_le _, (show (i 1).val < 16 from (i 1).isLt).trans_le (by decide)⟩
    · exact ⟨Nat.zero_le _, (show (i 2).val < 32 from (i 2).isLt).trans_le (by decide)⟩

theorem fin4 : (dat2 (U5 m) n c).arrAt 4 cfg2.N = (ptOf (F := Ideal) (mk m c) (rows m n c) : FVec Ideal S256x16x32 .f32) :=
  (fin4' m n c).trans (congrArg₂ (ptOf (F := Ideal)) (stg2 m c) (rows_eq m n c))

theorem fin5' : (dat2 (U5 m) n c).arrAt 5 cfg2.N = (confOf (F := Ideal) (stg2_1 (U5 m) c) (stg2_2 (U5 m) c) : FVec Ideal S256x16x32 .f32) := by
  refine (dat2 (U5 m) n c).arrAt_eq_of_cover 5 _ (fun t _ => ?_) (fun i => ⟨t2_0, by decide, ?_⟩)
  · obtain rfl := fin_N2 t
    funext i
    refine congrArg (confOf (F := Ideal) (stg2_1 (U5 m) c) (stg2_2 (U5 m) c)) (funext fun a => Fin.ext (Eq.symm ?_))
    exact Pipeline.Window.rect_emb_val_of_index_zero win2_5 t2_0 a (by fin_cases a <;> rfl) i
  · show i ∈ ((View.whole main_v0_3).slice (win2_5.rect t2_0)).set
    rw [View.set_slice_whole, Rect.mem_set_unit]
    intro a
    fin_cases a
    · exact ⟨Nat.zero_le _, (show (i 0).val < 256 from (i 0).isLt).trans_le (by decide)⟩
    · exact ⟨Nat.zero_le _, (show (i 1).val < 16 from (i 1).isLt).trans_le (by decide)⟩
    · exact ⟨Nat.zero_le _, (show (i 2).val < 32 from (i 2).isLt).trans_le (by decide)⟩

theorem fin5 : (dat2 (U5 m) n c).arrAt 5 cfg2.N = (confOf (F := Ideal) (lg m c) (mk m c) : FVec Ideal S256x16x32 .f32) :=
  (fin5' m n c).trans (congrArg₂ (confOf (F := Ideal)) (stg1 m c) (stg2 m c))

theorem fin6' : (dat2 (U5 m) n c).arrAt 6 cfg2.N = (lossOf (F := Ideal) (stg2_1 (U5 m) c) (stg2_2 (U5 m) c) (rows2 (U5 m) n c) : FVec Ideal S1x1 .f32) := by
  refine (dat2 (U5 m) n c).arrAt_eq_of_cover 6 _ (fun t _ => ?_) (fun i => ⟨t2_0, by decide, ?_⟩)
  · obtain rfl := fin_N2 t
    funext i
    refine congrArg (lossOf (F := Ideal) (stg2_1 (U5 m) c) (stg2_2 (U5 m) c) (rows2 (U5 m) n c)) (funext fun a => Fin.ext (Eq.symm ?_))
    exact Pipeline.Window.rect_emb_val_of_index_zero win2_6 t2_0 a (by fin_cases a <;> rfl) i
  · show i ∈ ((View.whole main_call0_v18_2).slice (win2_6.rect t2_0)).set
    rw [View.set_slice_whole, Rect.mem_set_unit]
    intro a
    fin_cases a
    · exact ⟨Nat.zero_le _, (show (i 0).val < 1 from (i 0).isLt).trans_le (by decide)⟩
    · exact ⟨Nat.zero_le _, (show (i 1).val < 1 from (i 1).isLt).trans_le (by decide)⟩

theorem fin6 : (dat2 (U5 m) n c).arrAt 6 cfg2.N = (lossOf (F := Ideal) (lg m c) (mk m c) (rows m n c) : FVec Ideal S1x1 .f32) := by
  refine (fin6' m n c).trans ?_
  rw [stg1, stg2, rows_eq]

end Cert.Proof.KernelIdeal

end
-- ==== Proof.Value.Out.lean ====
/-
  The kernel's last contents at its five results.
-/
module

public import proofs.«01_k».proof.Proof.Value.Kern

@[expose] public section

noncomputable section

namespace Cert.Proof.KernelIdeal

open Cert.KernelIdeal Cert.KernelIdeal.Gen

open Idealize.ShloMosaic
open Idealize.ShloMosaic.TcCoe Idealize.ShloMosaic.StableHlo
open Idealize.SL.Sem

attribute [local irreducible] ptOf confOf lossOf newRows

variable (m : (ℓ : Loc nD τ sig) → Buf (Elt Ideal) ℓ) (n : Dev nD → Fin 256 → Fin 100000) (c : Dev nD)

theorem out1 : U7 m n c main_v0_1 = lg m c := by
  have h : U7 m n c main_v0_1 = U6 m n c main_v0_1 := rfl
  rw [h, U6_of m n c main_v0_1 (by decide) (by decide) (by decide) (by decide), U5_lg]
theorem out2 : U7 m n c main_v0_2 = (ptOf (F := Ideal) (mk m c) (rows m n c) : FVec Ideal S256x16x32 .f32) := by
  have h : U7 m n c main_v0_2 = U6 m n c main_v0_2 := rfl
  rw [h, U6_v0_2, fin4]
theorem out3 : U7 m n c main_v0_3 = (confOf (F := Ideal) (lg m c) (mk m c) : FVec Ideal S256x16x32 .f32) := by
  have h : U7 m n c main_v0_3 = U6 m n c main_v0_3 := rfl
  rw [h, U6_v0_3, fin5]
theorem out4 : U7 m n c main_v0_4 = (scat (F := Ideal) (n c) (X4 m c) (newRows (F := Ideal) (lg m c) (mk m c) (dt m c) (rows m n c)) : FVec Ideal S100000x16x32 .f32) := by
  have h : U7 m n c main_v0_4 = U6 m n c main_v0_4 := rfl
  have e : new2 (U5 m) n c = newRows (F := Ideal) (stg2_1 (U5 m) c) (stg2_2 (U5 m) c) (stg2_3 (U5 m) c) (rows2 (U5 m) n c) := rfl
  rw [h, U6_v0_4, U5_copy, e, stg1, stg2, stg3, rows_eq]
theorem out0 : U7 m n c main_v0_0 = (shapeCast S_ (lossOf (F := Ideal) (lg m c) (mk m c) (rows m n c) : FVec Ideal S1x1 .f32) shapeCasts_S1x1_S_ : FVec Ideal S_ .f32) := by
  have h : U7 m n c main_v0_0 = (shapeCast S_ (U6 m n c main_call0_v18_2 : FVec Ideal S1x1 .f32) shapeCasts_S1x1_S_ : FVec Ideal S_ .f32) := rfl
  rw [h]
  have e := (U6_v18_2 m n c).trans (fin6 m n c)
  rw [← e]

end Cert.Proof.KernelIdeal

end
-- ==== Proof.Value.Slab.lean ====
/-
  The first call's slab: what it stores for a slab of products, a row of it and the selection matrices, in stages.
-/
module

public import proofs.«01_k».proof.Proof.Ideal.Run
public import Idealize.ShloMosaic.PureOps.Ideal
public import Idealize.ShloMosaic.Lib.Pointwise

@[expose] public section

set_option Elab.async false

noncomputable section

namespace Cert.Proof.KernelIdeal

open Cert.KernelIdeal Cert.KernelIdeal.Gen
open Idealize.ShloMosaic

/-- The scale, `1/0.07` of the float's word. -/
abbrev tau : Ideal .f32 := Named.named κ "inv_temp" 0x41649249#32

/-- The shift of each group: the mean over its positions of the scaled columns' maxima. -/
def mq (G : FVec Ideal S512x16 .f32) (X : FVec Ideal S256x512 .f32) : FVec Ideal S1x16 .f32 :=
  matmul dot_S1x512_S512x16_S1x16_1_0_0_1_n_n (some .fp32)
    (mulf (shapeCast S1x512 (mulf (multiReduction .maximumf [0] S512 X 0xFF800000#32 reduces_S256x512_S512 (.inl rfl) rfl) (broadcast S512 tau)) shapeCasts_S512_S1x512)
      (broadcast S1x512 (Scalar.ofBits .f32 0x3D000000#32))) G (constant S1x16 .f32 0x00000000#32)

/-- A number for each group, at each of its positions. -/
def spread (T : FVec Ideal S16x512 .f32) (v : FVec Ideal S1x16 .f32) : FVec Ideal S1x512 .f32 :=
  matmul dot_S1x16_S16x512_S1x512_1_0_0_1_n_n (some .fp32) v T (constant S1x512 .f32 0x00000000#32)

/-- The sum of exponentials of each group. -/
def sq (G : FVec Ideal S512x16 .f32) (X : FVec Ideal S256x512 .f32) (mb : FVec Ideal S1x512 .f32) : FVec Ideal S1x16 .f32 :=
  matmul dot_S1x512_S512x16_S1x16_1_0_0_1_n_n (some .fp32)
    (shapeCast S1x512 (multiReduction .add [0] S512 (exp (subf (mulf X (broadcast S256x512 tau)) (broadcastTo S256x512 mb broadcasts_S1x512_S256x512)))
      0x00000000#32 reduces_S256x512_S512 (.inl rfl) rfl : FVec Ideal S512 .f32) shapeCasts_S512_S1x512) G (constant S1x16 .f32 0x00000000#32)

/-- The row less a number for each position. -/
def less (R : FVec Ideal S1x1x512 .f32) (l : FVec Ideal S1x512 .f32) : FVec Ideal S1x1x512 .f32 :=
  shapeCast S1x1x512 (shapeCast S512 (subf (shapeCast S1x512 (mulf (shapeCast S512 R shapeCasts_S1x1x512_S512) (broadcast S512 tau)) shapeCasts_S512_S1x512) l)
    shapeCasts_S1x512_S512) shapeCasts_S512_S1x1x512

/-- The slab's stored row. -/
def slab (G : FVec Ideal S512x16 .f32) (T : FVec Ideal S16x512 .f32) (X : FVec Ideal S256x512 .f32) (R : FVec Ideal S1x1x512 .f32) : FVec Ideal S1x1x512 .f32 :=
  less R (spread T (addf (mq G X) (log (sq G X (spread T (mq G X))))))

theorem pay1_eq (G : FVec Ideal S512x16 .f32) (T : FVec Ideal S16x512 .f32) (X : FVec Ideal S256x512 .f32) (R : FVec Ideal S1x1x512 .f32) :
    k0_pay1 (F := Ideal) G T X R = slab G T X R := rfl
theorem pay7_eq (G : FVec Ideal S512x16 .f32) (T : FVec Ideal S16x512 .f32) (X : FVec Ideal S1x256x512 .f32) (R : FVec Ideal S1x1x512 .f32) :
    k0_pay7 (F := Ideal) G T X R = slab G T (k0_pay8 X) R := rfl
theorem pay6_eq (G : FVec Ideal S512x16 .f32) (T : FVec Ideal S16x512 .f32) (X : FVec Ideal S1x256x512 .f32) (R : FVec Ideal S1x1x512 .f32) :
    k0_pay6 (F := Ideal) G T X R = slab G T (k0_pay8 X) R := rfl
theorem pay5_eq (G : FVec Ideal S512x16 .f32) (T : FVec Ideal S16x512 .f32) (X : FVec Ideal S1x256x512 .f32) (R : FVec Ideal S1x1x512 .f32) :
    k0_pay5 (k0_pay4 (F := Ideal) G T X R) = slab (k0_pay2 G) (k0_pay3 T) (k0_pay8 X) R := rfl

theorem ofBits_ninf : Ideal.ofBits .f32 0xFF800000#32 = ⊥ := by simp [Ideal.ofBits, Ideal.ieee]

theorem mq_at (G : FVec Ideal S512x16 .f32) (X : FVec Ideal S256x512 .f32) (q : Fin 16) :
    mq G X (ix2 0 q) = ∑ x : Fin 512, Finset.univ.fold max ⊥ (fun b : Fin 256 => X (ix2 b x)) * tau * Ideal.ofBits .f32 0x3D000000#32 * G (ix2 x q) := by
  rw [← ofBits_ninf]
  pointwise [mq]

theorem spread_at (T : FVec Ideal S16x512 .f32) (v : FVec Ideal S1x16 .f32) (x : Fin 512) :
    spread T v (ix2 0 x) = ∑ q : Fin 16, v (ix2 0 q) * T (ix2 q x) := by
  pointwise [spread]

theorem sq_at (G : FVec Ideal S512x16 .f32) (X : FVec Ideal S256x512 .f32) (mb : FVec Ideal S1x512 .f32) (q : Fin 16) :
    sq G X mb (ix2 0 q) = ∑ x : Fin 512, (∑ b : Fin 256, Ideal.exp (X (ix2 b x) * tau - mb (ix2 0 x))) * G (ix2 x q) := by
  pointwise [sq]

theorem less_at (R : FVec Ideal S1x1x512 .f32) (l : FVec Ideal S1x512 .f32) (x : Fin 512) :
    less R l (ix3 0 0 x) = R (ix3 0 0 x) * tau - l (ix2 0 x) := by
  pointwise [less]

theorem log_at (v : FVec Ideal S1x16 .f32) (u : FVec Ideal S1x16 .f32) (q : Fin 16) : addf u (log v) (ix2 0 q) = u (ix2 0 q) + Ideal.log (v (ix2 0 q)) := rfl

theorem tau_eq : tau = ((134217728 / 9395241 : ℝ) : EReal) := rfl

end Cert.Proof.KernelIdeal

end
-- ==== Proof.Value.Logit.lean ====
/-
  The first call's output: at batch entry `b` the stored row of slab `b`.
-/
module

public import proofs.«01_k».proof.Proof.Value.Kern
public import proofs.«01_k».proof.Proof.Value.Slab
public import Idealize.ShloMosaic.Lib.Pipeline.ValueKit

@[expose] public section

set_option Elab.async false

noncomputable section

namespace Cert.Proof.KernelIdeal

open Cert.KernelIdeal Cert.KernelIdeal.Gen

open Idealize.ShloMosaic
open Idealize.ShloMosaic.TcCoe Idealize.ShloMosaic.StableHlo
open Idealize.SL.Sem
open Idealize.ShloMosaic.Pipeline (Dat)

/-- One slab of four, and one row of it. -/
def slabOf (x : S4x256x512.Idx → EReal) (j : Fin 4) : FVec Ideal S256x512 .f32 := fun i => x (ix3 j (i 0) (i 1))
def rowOf (x : S4x256x512.Idx → EReal) (j : Fin 4) (r : Fin 256) : FVec Ideal S1x1x512 .f32 := fun i => x (ix3 j r (i 2))

theorem pay2_id (g : S512x16.Idx → EReal) : ldG (F := Ideal) g = g := by
  funext i
  rw [eq_ix2 i]
  pointwise [ldG, ld, k0_pay2]
theorem pay3_id (g : S16x512.Idx → EReal) : ldT (F := Ideal) g = g := by
  funext i
  rw [eq_ix2 i]
  pointwise [ldT, ld, k0_pay3]

theorem slab_ld (x : S4x256x512.Idx → EReal) (j : Fin 4) (inb : ∀ a, (![j.val, 0, 0] : Fin 3 → ℕ) a + S1x256x512.size a ≤ S4x256x512.size a) :
    k0_pay8 (F := Ideal) (ld x (Rect.unit (s := S4x256x512) ![j.val, 0, 0] S1x256x512.size inb).toLoadRect) = slabOf x j := by
  funext i
  rw [eq_ix2 i]
  pointwise [ld, k0_pay8]
  rfl

theorem row_ld (x : S4x256x512.Idx → EReal) (j : Fin 4) (r : Fin 256) (off : Fin 3 → ℕ) (h : off = ![j.val, r.val, 0])
    (inb : ∀ a, off a + S1x1x512.size a ≤ S4x256x512.size a) :
    (ld (F := Ideal) (e := .f32) x (Rect.unit (s := S4x256x512) off S1x1x512.size inb).toLoadRect : S1x1x512.Idx → EReal) = rowOf x j r := by
  subst h
  funext i
  refine congrArg x (funext fun a => Fin.ext ?_)
  rw [Rect.idx_unit_val]
  have h0 : (i 0).val < 1 := (i 0).isLt
  have h1 : (i 1).val < 1 := (i 1).isLt
  match a with
  | ⟨0, _⟩ => show j.val + (i 0).val = j.val; omega
  | ⟨1, _⟩ => show r.val + (i 1).val = r.val; omega
  | ⟨2, _⟩ => exact Nat.zero_add _

/-- The row within its slab: batch entry `4t + j`. -/
theorem off_eq (i : grid0.Coords) (t : Fin 64) (h : (i 0).val = t.val) :
    k0_off1 i = ![0, 4 * t.val + 0, 0] ∧ k0_off2 i = ![1, 4 * t.val + 1, 0] ∧ k0_off3 i = ![2, 4 * t.val + 2, 0] ∧ k0_off4 i = ![3, 4 * t.val + 3, 0] := by
  have e : ∀ (t : Fin 64) (j : Fin 4), (Scalar.indexCast (Scalar.addi (Scalar.muli (BitVec.ofNat 32 t.val) 4#32) (BitVec.ofNat 32 j.val))).toNat = 4 * t.val + j.val := by decide +kernel
  unfold k0_off1 k0_off2 k0_off3 k0_off4
  rw [h]
  exact ⟨congrArg (fun n => ![0, n, 0]) (e t 0), congrArg (fun n => ![1, n, 0]) (e t 1), congrArg (fun n => ![2, n, 0]) (e t 2), congrArg (fun n => ![3, n, 0]) (e t 3)⟩

theorem piece_emb (j : Fin 4) (inb : ∀ a, (![j.val, 0, 0] : Fin 3 → ℕ) a + S1x1x512.size a ≤ S4x1x512.size a) (p : Fin 512) :
    (Rect.unit (s := S4x1x512) ![j.val, 0, 0] S1x1x512.size inb).emb (ix3 0 0 p : S1x1x512.Idx) = (ix3 j 0 p : S4x1x512.Idx) := by
  funext a
  refine Fin.ext ?_
  match a with
  | ⟨0, _⟩ => rfl
  | ⟨1, _⟩ => rfl
  | ⟨2, _⟩ => show 0 + 1 * p.val = p.val; omega

theorem piece_off (r : ℕ) (inb : ∀ a, (![r, 0, 0] : Fin 3 → ℕ) a + S1x1x512.size a ≤ S4x1x512.size a) (j : Fin 4) (p : Fin 512) (h : j.val < r) :
    (ix3 j 0 p : S4x1x512.Idx) ∉ (Rect.unit (s := S4x1x512) ![r, 0, 0] S1x1x512.size inb).set := fun hm => by
  rw [Rect.mem_set_unit] at hm
  have := (hm 0).1
  have : r ≤ j.val := this
  omega

/-- Off the last store, the earlier ones. -/
theorem canon_skip (r : Rect S4x1x512) (w : r.shape.Idx → Elt Ideal .f32) (L : List (View.Piece (Elt Ideal) S4x1x512 .f32)) (y : S4x1x512.Idx) (h : y ∉ r.set) :
    View.canon (⟨r, w⟩ :: L) y = View.canon L y := View.canon_cons_of_not_mem ⟨r, w⟩ L h

attribute [local irreducible] slab k0_pay1 k0_pay4 k0_pay5 k0_pay6 k0_pay7

section Body
variable (i : grid0.Coords) (t : Fin 64) (x : S4x256x512.Idx → EReal) (g : S512x16.Idx → EReal) (gt : S16x512.Idx → EReal) (p : Fin 512)

theorem softL_at3 (h : (i 0).val = t.val) :
    View.canon (softL (F := Ideal) i x g gt) (ix3 3 0 p) = slab g gt (slabOf x 3) (rowOf x 3 ⟨4 * t.val + 3, by omega⟩) (ix3 0 0 p) := by
  obtain ⟨o1, o2, o3, o4⟩ := off_eq i t h
  unfold softL
  refine (congrArg (View.canon _) (piece_emb 3 inb_S4x1x512_S1x1x512_3_0_0 p).symm).trans ((View.canon_cons_emb _ _ _ _).trans ?_)
  rw [pay2_id, pay3_id, pay1_eq]
  exact congrArg₂ (fun X R => slab g gt X R (ix3 0 0 p)) (slab_ld x 3 _) (row_ld x 3 ⟨4 * t.val + 3, by omega⟩ _ o4 _)

theorem softL_at2 (h : (i 0).val = t.val) :
    View.canon (softL (F := Ideal) i x g gt) (ix3 2 0 p) = slab g gt (slabOf x 2) (rowOf x 2 ⟨4 * t.val + 2, by omega⟩) (ix3 0 0 p) := by
  obtain ⟨o1, o2, o3, o4⟩ := off_eq i t h
  unfold softL
  refine (canon_skip _ _ _ _ (piece_off 3 inb_S4x1x512_S1x1x512_3_0_0 2 p (by decide))).trans ?_
  refine (congrArg (View.canon _) (piece_emb 2 inb_S4x1x512_S1x1x512_2_0_0 p).symm).trans ((View.canon_cons_emb _ _ _ _).trans ?_)
  rw [pay2_id, pay3_id, pay7_eq]
  exact congrArg₂ (fun X R => slab g gt X R (ix3 0 0 p)) (slab_ld x 2 _) (row_ld x 2 ⟨4 * t.val + 2, by omega⟩ _ o3 _)

theorem softL_at1 (h : (i 0).val = t.val) :
    View.canon (softL (F := Ideal) i x g gt) (ix3 1 0 p) = slab g gt (slabOf x 1) (rowOf x 1 ⟨4 * t.val + 1, by omega⟩) (ix3 0 0 p) := by
  obtain ⟨o1, o2, o3, o4⟩ := off_eq i t h
  unfold softL
  refine (canon_skip _ _ _ _ (piece_off 3 inb_S4x1x512_S1x1x512_3_0_0 1 p (by decide))).trans ?_
  refine (canon_skip _ _ _ _ (piece_off 2 inb_S4x1x512_S1x1x512_2_0_0 1 p (by decide))).trans ?_
  refine (congrArg (View.canon _) (piece_emb 1 inb_S4x1x512_S1x1x512_1_0_0 p).symm).trans ((View.canon_cons_emb _ _ _ _).trans ?_)
  rw [pay2_id, pay3_id, pay6_eq]
  exact congrArg₂ (fun X R => slab g gt X R (ix3 0 0 p)) (slab_ld x 1 _) (row_ld x 1 ⟨4 * t.val + 1, by omega⟩ _ o2 _)

theorem softL_at0 (h : (i 0).val = t.val) :
    View.canon (softL (F := Ideal) i x g gt) (ix3 0 0 p) = slab g gt (slabOf x 0) (rowOf x 0 ⟨4 * t.val + 0, by omega⟩) (ix3 0 0 p) := by
  obtain ⟨o1, o2, o3, o4⟩ := off_eq i t h
  unfold softL
  refine (canon_skip _ _ _ _ (piece_off 3 inb_S4x1x512_S1x1x512_3_0_0 0 p (by decide))).trans ?_
  refine (canon_skip _ _ _ _ (piece_off 2 inb_S4x1x512_S1x1x512_2_0_0 0 p (by decide))).trans ?_
  refine (canon_skip _ _ _ _ (piece_off 1 inb_S4x1x512_S1x1x512_1_0_0 0 p (by decide))).trans ?_
  refine (congrArg (View.canon _) (piece_emb 0 inb_S4x1x512_S1x1x512_0_0_0 p).symm).trans ((View.canon_cons_emb _ _ _ _).trans ?_)
  refine (congrFun (pay5_eq _ _ _ _) _).trans ?_
  refine (congrArg₂ (fun G T => slab G T _ _ (ix3 0 0 p)) (pay2_id g) (pay3_id gt)).trans ?_
  exact congrArg₂ (fun X R => slab g gt X R (ix3 0 0 p)) (slab_ld x 0 _) (row_ld x 0 ⟨4 * t.val + 0, by omega⟩ _ o1 _)

/-- What the body leaves at slab `j`. -/
theorem softL_at (h : (i 0).val = t.val) (j : Fin 4) :
    View.canon (softL (F := Ideal) i x g gt) (ix3 j 0 p) = slab g gt (slabOf x j) (rowOf x j ⟨4 * t.val + j.val, by omega⟩) (ix3 0 0 p) := by
  match j with
  | ⟨0, _⟩ => exact softL_at0 i t x g gt p h
  | ⟨1, _⟩ => exact softL_at1 i t x g gt p h
  | ⟨2, _⟩ => exact softL_at2 i t x g gt p h
  | ⟨3, _⟩ => exact softL_at3 i t x g gt p h

end Body

end Cert.Proof.KernelIdeal

end
-- ==== Proof.Value.LgAt.lean ====
/-
  The first call's output array, and the logit rows read from it.
-/
module

public import proofs.«01_k».proof.Proof.Value.Logit

@[expose] public section

set_option Elab.async false

noncomputable section

namespace Cert.Proof.KernelIdeal

open Cert.KernelIdeal Cert.KernelIdeal.Gen

open Idealize.ShloMosaic
open Idealize.ShloMosaic.TcCoe Idealize.ShloMosaic.StableHlo
open Idealize.SL.Sem
open Idealize.ShloMosaic.Pipeline (Dat)

attribute [local irreducible] slab

variable (m : (ℓ : Loc nD τ sig) → Buf (Elt Ideal) ℓ) (c : Dev nD)

/-- The products in slabs; a batch entry's slab and its row there. -/
abbrev Xr : FVec Ideal S256x256x512 .f32 := shapeCast S256x256x512 (X0 m c) shapeCasts_S256x256x16x32_S256x256x512
def slabX (b : Fin 256) : FVec Ideal S256x512 .f32 := fun i => Xr m c (ix3 b (i 0) (i 1))
def rowX (b : Fin 256) : FVec Ideal S1x1x512 .f32 := fun i => Xr m c (ix3 b b (i 2))
abbrev selT : FVec Ideal S16x512 .f32 := transpose S16x512 [1, 0] sel transposes_S512x16_S16x512_1_0

def outArr : FVec Ideal S256x1x512 .f32 := fun i => slab sel selT (slabX m c (i 0)) (rowX m c (i 0)) (ix3 0 0 (i 2))

theorem pt_val (t : Fin cfg0.N) : (grid0.coords t 0).val = t.val := by
  have h : t.val < 64 := t.isLt
  have := Pipeline.Grid.coords_val (G := grid0) t 0 (S := 1) (B := 64) (by decide) rfl
  rw [this]; omega

theorem ix0_0 (t : Fin cfg0.N) (a : Fin 3) : win0_0.index t a = (![t.val, 0, 0] : Fin 3 → ℕ) a := by
  have h : t.val < 64 := t.isLt
  have e : (BitVec.ofNat 32 (grid0.coords t 0).val).toNat = t.val := by
    rw [pt_val, BitVec.toNat_ofNat]; omega
  match a with
  | ⟨0, _⟩ => exact e
  | ⟨1, _⟩ => rfl
  | ⟨2, _⟩ => rfl
theorem ix0_3 (t : Fin cfg0.N) (a : Fin 3) : win0_3.index t a = (![t.val, 0, 0] : Fin 3 → ℕ) a := by
  have h : t.val < 64 := t.isLt
  have e : (BitVec.ofNat 32 (grid0.coords t 0).val).toNat = t.val := by
    rw [pt_val, BitVec.toNat_ofNat]; omega
  match a with
  | ⟨0, _⟩ => exact e
  | ⟨1, _⟩ => rfl
  | ⟨2, _⟩ => rfl

theorem st0 (t : Fin cfg0.N) (j : Fin 4) (b : Fin 256) (p : Fin 512) :
    blk0_0 (V1 m) c t (ix3 j b p) = Xr m c (ix3 ⟨4 * t.val + j.val, by have : t.val < 64 := t.isLt; omega⟩ b p) := by
  rw [← show V1 m c main_call0_v0 = Xr m c from V1_slab m c]
  refine congrArg (V1 m c main_call0_v0 : S256x256x512.Idx → EReal) (funext fun a => Fin.ext ?_)
  refine (Pipeline.Window.rect_emb_val win0_0 t _ a).trans ?_
  rw [ix0_0]
  match a with
  | ⟨0, _⟩ => show t.val * 4 + j.val = 4 * t.val + j.val; omega
  | ⟨1, _⟩ => show 0 * 256 + b.val = b.val; omega
  | ⟨2, _⟩ => show 0 * 512 + p.val = p.val; omega
theorem st1 (t : Fin cfg0.N) : blk0_1 (V1 m) c t = sel := by
  rw [← show V1 m c main_call0_v13 = sel from V1_sel m c]
  funext i
  exact congrArg (V1 m c main_call0_v13 : S512x16.Idx → EReal) (funext fun a => Fin.ext (Pipeline.Window.rect_emb_val_of_index_zero win0_1 t a (by fin_cases a <;> rfl) i))
theorem st2 (t : Fin cfg0.N) : blk0_2 (V1 m) c t = selT := by
  rw [← show V1 m c main_call0_v14 = selT from V1_selT m c]
  funext i
  exact congrArg (V1 m c main_call0_v14 : S16x512.Idx → EReal) (funext fun a => Fin.ext (Pipeline.Window.rect_emb_val_of_index_zero win0_2 t a (by fin_cases a <;> rfl) i))

theorem soft_at (t : Fin cfg0.N) (j : Fin 4) (p : Fin 512) :
    soft (V1 m) c t (ix3 j 0 p) = outArr m c (ix3 ⟨4 * t.val + j.val, by have : t.val < 64 := t.isLt; omega⟩ 0 p) := by
  have e := softL_at (grid0.coords t) t (blk0_0 (V1 m) c t) (blk0_1 (V1 m) c t) (blk0_2 (V1 m) c t) p (pt_val t) j
  refine e.trans ?_
  rw [st1, st2]
  refine congrArg₂ (fun X R => slab sel selT X R (ix3 0 0 p)) ?_ ?_
  · funext i; exact st0 m c t j (i 0) (i 1)
  · funext i; exact st0 m c t j _ (i 2)

theorem outArr_at (b : Fin 256) (p : Fin 512) : outArr m c (ix3 b 0 p) = slab sel selT (slabX m c b) (rowX m c b) (ix3 0 0 p) := rfl

attribute [local irreducible] soft outArr

theorem arr_eq : (dat0 (V1 m) c).arrAt 3 cfg0.N = outArr m c := by
  refine (dat0 (V1 m) c).arrAt_eq_of_cover 3 _ (fun t _ => ?_) (fun i => ?_)
  · funext y
    have hy1 : (y 1).val < 1 := (y 1).isLt
    have hy : y = (ix3 (y 0) 0 (y 2) : S4x1x512.Idx) := by
      funext a
      match a with
      | ⟨0, _⟩ => rfl
      | ⟨1, _⟩ => exact Fin.ext (show (y 1).val = 0 by omega)
      | ⟨2, _⟩ => rfl
    have e : (dat0 (V1 m) c).flushed 3 t y = soft (V1 m) c t y := rfl
    rw [e]
    refine (congrArg (soft (V1 m) c t) hy).trans ((soft_at m c t (y 0) (y 2)).trans ?_)
    refine congrArg (outArr m c) (funext fun a => Fin.ext (Eq.symm ?_))
    refine (Pipeline.Window.rect_emb_val win0_3 t _ a).trans ?_
    rw [ix0_3]
    match a with
    | ⟨0, _⟩ => show t.val * 4 + (y 0).val = 4 * t.val + (y 0).val; omega
    | ⟨1, _⟩ => show 0 * 1 + (y 1).val = 0; omega
    | ⟨2, _⟩ => show 0 * 512 + (y 2).val = (y 2).val; omega
  · have h0 : (i 0).val < 256 := (i 0).isLt
    have h1 : (i 1).val < 1 := (i 1).isLt
    have h2 : (i 2).val < 512 := (i 2).isLt
    obtain ⟨t, ht⟩ : ∃ t : Fin cfg0.N, t.val = (i 0).val / 4 := ⟨⟨(i 0).val / 4, show (i 0).val / 4 < 64 by omega⟩, rfl⟩
    refine ⟨t, flush0_3 t, ?_⟩
    show i ∈ ((View.whole main_call0_v15).slice (win0_3.rect t)).set
    rw [View.set_slice_whole]
    refine (Pipeline.Window.mem_rect_iff win0_3 t i).2 fun a => ?_
    rw [ix0_3, ht]
    match a with
    | ⟨0, _⟩ => show (i 0).val / 4 * 4 ≤ (i 0).val ∧ (i 0).val < (i 0).val / 4 * 4 + 4; omega
    | ⟨1, _⟩ => show 0 * 1 ≤ (i 1).val ∧ (i 1).val < 0 * 1 + 1; omega
    | ⟨2, _⟩ => show 0 * 512 ≤ (i 2).val ∧ (i 2).val < 0 * 512 + 512; omega

theorem flat_at (A : FVec Ideal S256x1x512 .f32) (b : Fin 256) (q : Fin 16) (k : Fin 32) :
    (shapeCast S256x16x32 A shapeCasts_S256x1x512_S256x16x32 : FVec Ideal S256x16x32 .f32) (ix3 b q k) = A (ix3 b 0 ⟨q.val * 32 + k.val, by omega⟩) := by
  pointwise

theorem lg_at (b : Fin 256) (q : Fin 16) (k : Fin 32) :
    lg m c (ix3 b q k) = slab sel selT (slabX m c b) (rowX m c b) (ix3 0 0 ⟨q.val * 32 + k.val, by omega⟩) := by
  unfold lg
  rw [arr_eq, flat_at, outArr_at]

end Cert.Proof.KernelIdeal

end
-- ==== Proof.Value.Sel.lean ====
/-
  The selection matrix: 1 where a position lies in a group.
-/
module

public import proofs.«01_k».proof.Proof.Value.Kern
public import Idealize.ShloMosaic.Lib.Pointwise

@[expose] public section

set_option Elab.async false

noncomputable section

namespace Cert.Proof.KernelIdeal

open Cert.KernelIdeal Cert.KernelIdeal.Gen
open Idealize.ShloMosaic

theorem bit_cases (b : BitVec 1) : b = 1#1 ∨ b = 0#1 := by
  revert b; decide

/-- The position's group, as the words compute it. -/
theorem by32_word : ∀ x : Fin 512, Scalar.select (α := BitVec 32)
          (IntOp.andi
            (IntOp.cmpi CmpIPredicate.ne
              (if BitVec.ofNat 32 x.val = 0 then 0 else if (BitVec.ofNat 32 x.val).msb = true then -1 else 1 : BitVec 32)
              (if 32#32 = 0 then 0 else if (32#32).msb = true then -1 else 1 : BitVec 32))
            (IntOp.cmpi CmpIPredicate.ne (IntOp.remsi ArithUnit.host (BitVec.ofNat 32 x.val) 32#32) 0#32))
          (IntOp.subi (IntOp.divsi ArithUnit.host (BitVec.ofNat 32 x.val) 32#32) 1#32)
          (IntOp.divsi ArithUnit.host (BitVec.ofNat 32 x.val) 32#32) = BitVec.ofNat 32 (x.val / 32) := by
  decide +kernel

theorem sel_at (x : Fin 512) (q : Fin 16) : sel (ix2 x q) = if x.val / 32 = q.val then (1 : EReal) else 0 := by
  pointwise [sel, group, pos, by32]
  refine (congrArg (fun w => (FloatOps.uitofp .f32 (IntOp.cmpi .eq w (BitVec.ofNat 32 q.val)) : Ideal .f32)) (by32_word x)).trans ?_
  show (FloatOps.uitofp .f32 (IntOp.cmpi .eq (BitVec.ofNat 32 (x.val / 32)) (BitVec.ofNat 32 q.val)) : Ideal .f32) = _
  by_cases h : x.val / 32 = q.val
  · rw [if_pos h, h, IntOp.cmpi_eq.2 rfl]
    show (((1#1 : BitVec 1).toNat : ℝ) : EReal) = 1
    simp
  · have e : IntOp.cmpi CmpIPredicate.eq (BitVec.ofNat 32 (x.val / 32)) (BitVec.ofNat 32 q.val) = 0#1 := by
      refine (bit_cases _).resolve_left fun h' => h ?_
      have h2 := congrArg BitVec.toNat (IntOp.cmpi_eq.1 h')
      rw [BitVec.toNat_ofNat, BitVec.toNat_ofNat] at h2
      omega
    rw [if_neg h, e]
    show (((0#1 : BitVec 1).toNat : ℝ) : EReal) = 0
    simp

theorem selT_at (x : Fin 512) (q : Fin 16) : (transpose S16x512 [1, 0] sel transposes_S512x16_S16x512_1_0 : FVec Ideal S16x512 .f32) (ix2 q x) = sel (ix2 x q) := by
  pointwise

end Cert.Proof.KernelIdeal

end
-- ==== Proof.Value.Lse.lean ====
/-
  The logarithm of a sum of exponentials over the extended reals, and sums regrouped.
-/
module

public import Idealize.ShloMosaic.PureOps.Ideal
public import Idealize.ShloMosaic.PureOps.Ideal.Laws

@[expose] public section

noncomputable section

namespace Cert.Proof.Lse

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A shift by a real number leaves the logarithm of the sum of exponentials. -/
theorem lse {ι : Type} [Fintype ι] [Nonempty ι] (z : ι → ℝ) (t : ℝ) :
    (t : EReal) + Ideal.log (∑ j, Ideal.exp ((z j : EReal) - (t : EReal))) = ((Real.log (∑ j, Real.exp (z j)) : ℝ) : EReal) := by
  have h1 : ∀ j, Ideal.exp ((z j : EReal) - (t : EReal)) = ((Real.exp (z j - t) : ℝ) : EReal) := fun j => by
    rw [← EReal.coe_sub, Ideal.exp_coe]
  have hp : 0 < ∑ j, Real.exp (z j) := Finset.sum_pos (fun j _ => Real.exp_pos _) Finset.univ_nonempty
  have h2 : ∑ j, Real.exp (z j - t) = Real.exp (-t) * ∑ j, Real.exp (z j) := by
    rw [Finset.mul_sum]
    exact Finset.sum_congr rfl fun j _ => by rw [← Real.exp_add]; congr 1; ring
  have hq : 0 < Real.exp (-t) * ∑ j, Real.exp (z j) := mul_pos (Real.exp_pos _) hp
  simp only [h1]
  rw [← coe_sum, h2, Ideal.log_coe, if_neg (not_le.2 hq), ← EReal.coe_add, Real.log_mul (Real.exp_ne_zero _) hp.ne', Real.log_exp]
  congr 1; ring

/-- The largest of finitely many real numbers is one. -/
theorem fold_max_real {ι : Type} [Fintype ι] [Nonempty ι] (f : ι → ℝ) :
    ∃ r : ℝ, Finset.univ.fold max (⊥ : EReal) (fun i => (f i : EReal)) = r := by
  refine ⟨(Finset.univ.fold max (⊥ : EReal) (fun i => (f i : EReal))).toReal, (EReal.coe_toReal ?_ ?_).symm⟩
  · refine ne_of_lt ((Finset.fold_max_lt _).2 ⟨bot_lt_top, fun i _ => EReal.coe_lt_top _⟩)
  · refine ne_of_gt (lt_of_lt_of_le (EReal.bot_lt_coe (f (Classical.arbitrary ι))) ((Finset.le_fold_max _).2 (Or.inr ⟨_, Finset.mem_univ _, le_rfl⟩)))

/-- A sum of real numbers is one. -/
theorem sum_real {ι : Type} [Fintype ι] (f : ι → EReal) (h : ∀ i, ∃ r : ℝ, f i = r) : ∃ r : ℝ, ∑ i, f i = r := by
  choose g hg using h
  exact ⟨∑ i, g i, by rw [coe_sum]; exact Finset.sum_congr rfl fun i _ => hg i⟩

/-- The positions of one group of 32 among 512. -/
theorem sum_group {M : Type} [AddCommMonoid M] (F : Fin 512 → M) (q : Fin 16) :
    ∑ x : Fin 512, (if x.val / 32 = q.val then F x else 0) = ∑ k : Fin 32, F ⟨q.val * 32 + k.val, by omega⟩ := by
  rw [← Finset.sum_filter]
  refine Finset.sum_nbij' (fun x => ⟨x.val % 32, Nat.mod_lt _ (by decide)⟩) (fun k => ⟨q.val * 32 + k.val, by omega⟩) ?_ ?_ ?_ ?_ ?_
  · intro x _; exact Finset.mem_univ _
  · intro k _
    refine Finset.mem_filter.2 ⟨Finset.mem_univ _, ?_⟩
    show (q.val * 32 + k.val) / 32 = q.val
    have := k.isLt; omega
  · intro x hx
    have := (Finset.mem_filter.1 hx).2
    refine Fin.ext ?_
    show q.val * 32 + x.val % 32 = x.val
    omega
  · intro k _
    refine Fin.ext ?_
    show (q.val * 32 + k.val) % 32 = k.val
    have := k.isLt; omega
  · intro x hx
    have := (Finset.mem_filter.1 hx).2
    refine congrArg F (Fin.ext ?_)
    show x.val = q.val * 32 + x.val % 32
    omega

/-- 8192 positions as 256 groups of 32. -/
theorem sum_pairs {M : Type} [AddCommMonoid M] (F : Fin 256 → Fin 32 → M) :
    ∑ k : Fin 32, ∑ b : Fin 256, F b k
      = ∑ j : Fin 8192, F ⟨j.val / 32, by omega⟩ ⟨j.val % 32, Nat.mod_lt _ (by decide)⟩ := by
  rw [Finset.sum_comm, ← Fintype.sum_prod_type' F]
  refine Fintype.sum_equiv (finProdFinEquiv (m := 256) (n := 32)) _ _ fun p => ?_
  have h2 := p.2.isLt
  have hv : ((finProdFinEquiv (m := 256) (n := 32)) p).val = p.2.val + 32 * p.1.val := rfl
  congr 1 <;> (refine Fin.ext ?_; dsimp only; rw [hv]; omega)

end Cert.Proof.Lse

end
-- ==== Proof.Value.SoftMath.lean ====
/-
  The slab's stored row over real products: each entry, scaled, less the logarithm of its group's sum of exponentials.
-/
module

public import proofs.«01_k».proof.Proof.Value.Slab
public import proofs.«01_k».proof.Proof.Value.Lse

@[expose] public section

set_option Elab.async false

noncomputable section

namespace Cert.Proof.KernelIdeal

open Cert.KernelIdeal Cert.KernelIdeal.Gen
open Idealize.ShloMosaic

/-- The scale as a real number. -/
abbrev τr : ℝ := 134217728 / 9395241

theorem mean_real : ∃ r : ℝ, Ideal.ofBits .f32 0x3D000000#32 = r := by
  refine ⟨1 / 32, ?_⟩
  simp [Ideal.ofBits, Ideal.ieee]
  rw [← EReal.coe_mul]
  exact congrArg (fun r : ℝ => (r : EReal)) (by norm_num)

section Entries
variable (G : FVec Ideal S512x16 .f32) (T : FVec Ideal S16x512 .f32)
  (hG : ∀ (x : Fin 512) (q : Fin 16), G (ix2 x q) = if x.val / 32 = q.val then (1 : EReal) else 0)
  (hT : ∀ (x : Fin 512) (q : Fin 16), T (ix2 q x) = if x.val / 32 = q.val then (1 : EReal) else 0)
  (X : FVec Ideal S256x512 .f32) (a : Fin 256 → Fin 512 → ℝ) (hX : ∀ b x, X (ix2 b x) = (a b x : EReal))

include hG hX in
theorem mq_real (q : Fin 16) : ∃ r : ℝ, mq G X (ix2 0 q) = r := by
  rw [mq_at]
  refine Lse.sum_real _ fun x => ?_
  obtain ⟨w, hw⟩ := mean_real
  obtain ⟨r, hr⟩ := Lse.fold_max_real fun b => a b x
  simp only [hX]
  rw [hr, hw, tau_eq, hG]
  split
  · exact ⟨r * τr * w, by rw [mul_one, EReal.coe_mul, EReal.coe_mul]⟩
  · exact ⟨0, by rw [mul_zero]; rfl⟩

include hT in
theorem spread_sel (v : FVec Ideal S1x16 .f32) (x : Fin 512) (q : Fin 16) (h : x.val / 32 = q.val) : spread T v (ix2 0 x) = v (ix2 0 q) := by
  rw [spread_at, Finset.sum_eq_single q]
  · rw [hT, if_pos h, mul_one]
  · intro q' _ hne
    rw [hT, if_neg (fun h' => hne (Fin.ext (h'.symm.trans h))), mul_zero]
  · intro h'; exact absurd (Finset.mem_univ _) h'

include hG hT hX in
/-- The logarithm of the group's sum of exponentials, whatever the shift. -/
theorem lse_group (q : Fin 16) :
    mq G X (ix2 0 q) + Ideal.log (sq G X (spread T (mq G X)) (ix2 0 q))
      = ((Real.log (∑ j : Fin 8192, Real.exp (a ⟨j.val / 32, by omega⟩ ⟨q.val * 32 + j.val % 32, by omega⟩ * τr)) : ℝ) : EReal) := by
  obtain ⟨μ, hμ⟩ := mq_real G hG X a hX q
  rw [hμ, ← Lse.lse _ μ]
  refine congrArg (fun s => (μ : EReal) + Ideal.log s) ?_
  rw [sq_at]
  have e : ∀ x : Fin 512, (∑ b : Fin 256, Ideal.exp (X (ix2 b x) * tau - spread T (mq G X) (ix2 0 x))) * G (ix2 x q)
      = if x.val / 32 = q.val then ∑ b : Fin 256, Ideal.exp (((a b x * τr : ℝ) : EReal) - (μ : EReal)) else 0 := fun x => by
    rw [hG]
    split
    · next h =>
      rw [mul_one, spread_sel T hT _ x q h, hμ]
      exact Finset.sum_congr rfl fun b _ => by rw [hX, tau_eq, EReal.coe_mul]
    · rw [mul_zero]
  simp only [e]
  rw [Lse.sum_group]
  exact Lse.sum_pairs fun b k => Ideal.exp (((a b ⟨q.val * 32 + k.val, by omega⟩ * τr : ℝ) : EReal) - (μ : EReal))

include hG hT hX in
theorem slab_at (R : FVec Ideal S1x1x512 .f32) (r : ℝ) (q : Fin 16) (k : Fin 32) (hR : R (ix3 0 0 ⟨q.val * 32 + k.val, by omega⟩) = (r : EReal)) :
    slab G T X R (ix3 0 0 ⟨q.val * 32 + k.val, by omega⟩)
      = ((r * τr - Real.log (∑ j : Fin 8192, Real.exp (a ⟨j.val / 32, by omega⟩ ⟨q.val * 32 + j.val % 32, by omega⟩ * τr)) : ℝ) : EReal) := by
  have hq : (q.val * 32 + k.val) / 32 = q.val := by omega
  unfold slab
  rw [less_at, spread_sel T hT _ _ q hq, log_at, lse_group G T hG hT X a hX q, hR, tau_eq, ← EReal.coe_mul, ← EReal.coe_sub]

end Entries

end Cert.Proof.KernelIdeal

end
-- ==== Proof.Value.Row.lean ====
/-
  One row of 32 entries: the masked softmax, the position of the largest entry, the label found there; and counts.
-/
module

public import proofs.«01_k».proof.Proof.Value.Lse
public import Idealize.ShloMosaic.Lib.WordCmp
public import Idealize.ShloMosaic.Lib.Affine

@[expose] public section

set_option Elab.async false

noncomputable section

namespace Cert.Proof.Row

open Idealize.ShloMosaic

theorem bit_cases (b : BitVec 1) : b = 1#1 ∨ b = 0#1 := by
  revert b; decide

theorem uitofp_bit (b : BitVec 1) : (FloatOps.uitofp .f32 b : Ideal .f32) = ((b.toNat : ℝ) : EReal) := rfl
theorem sitofp_word (b : BitVec 32) : (FloatOps.sitofp .f32 b : Ideal .f32) = ((b.toInt : ℝ) : EReal) := rfl
theorem uitofp_one : (FloatOps.uitofp .f32 (1#1 : BitVec 1) : Ideal .f32) = 1 := by
  rw [uitofp_bit]; simp
theorem uitofp_zero : (FloatOps.uitofp .f32 (0#1 : BitVec 1) : Ideal .f32) = 0 := by
  rw [uitofp_bit]; simp

/-- A mask bit as a float is positive exactly where it is set. -/
theorem mask_pos (b : BitVec 1) : (0 : EReal) < (FloatOps.uitofp .f32 b : Ideal .f32) ↔ b = 1#1 := by
  rcases bit_cases b with rfl | rfl
  · rw [uitofp_one]; simp
  · rw [uitofp_zero]; simp

theorem mask_mul (b : BitVec 1) (r : EReal) : (FloatOps.uitofp .f32 b : Ideal .f32) * r = if b = 1#1 then r else 0 := by
  rcases bit_cases b with rfl | rfl
  · rw [uitofp_one, if_pos rfl]; exact one_mul r
  · rw [uitofp_zero, if_neg (by decide)]; exact zero_mul r

/-- An entry outside the mask read as the bottom contributes no exponential. -/
theorem masked_exp (p : Prop) [h1 : Decidable p] [h2 : Decidable p] [h3 : Decidable p] (l t : EReal) :
    (@ite _ p h1 (Ideal.exp ((@ite _ p h2 l ⊥) - t)) 0) = Ideal.exp ((@ite _ p h3 l ⊥) - t) := by
  by_cases h : p
  · simp [h]
  · simp only [h, if_false]
    rw [sub_eq_add_neg, EReal.bot_add]
    exact Ideal.exp_bot.symm

/-- A row's masked entries and its masked softmax. -/
def masked (μ : Fin 32 → BitVec 1) (l : Fin 32 → EReal) (x : Fin 32) : EReal := if μ x = 1#1 then l x else ⊥
def confRow (μ : Fin 32 → BitVec 1) (l : Fin 32 → EReal) (k : Fin 32) : EReal :=
  if μ k = 1#1 then Ideal.div (Ideal.exp (masked μ l k - Finset.univ.fold max ⊥ (masked μ l)))
    (∑ x, Ideal.exp (masked μ l x - Finset.univ.fold max ⊥ (masked μ l))) else 0

/-- The first position of a row's largest entry. -/
def IsArg (c : Fin 32 → EReal) (a : Fin 32) : Prop := ∀ x, c x < c a ∨ (c x = c a ∧ a ≤ x)

theorem toInt_fin : ∀ x : Fin 32, (BitVec.ofNat 32 x.val).toInt = (x.val : ℤ) := by decide
theorem ofNat_inj : ∀ x y : Fin 32, BitVec.ofNat 32 x.val = BitVec.ofNat 32 y.val → x = y := by decide

theorem fold_eq_of_arg {c : Fin 32 → EReal} {a : Fin 32} (h : IsArg c a) : Finset.univ.fold max ⊥ c = c a :=
  le_antisymm ((Finset.fold_max_le _).2 ⟨bot_le, fun x _ => (h x).elim le_of_lt (fun e => e.1.le)⟩)
    ((Finset.le_fold_max _).2 (Or.inr ⟨a, Finset.mem_univ _, le_rfl⟩))

theorem minsi_toInt (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.1 h)]
theorem maxsi_toInt (x y : BitVec 32) : (IntOp.maxsi x y).toInt = max x.toInt y.toInt := by
  unfold IntOp.maxsi
  by_cases h : y.toInt < x.toInt
  · rw [if_pos (by simpa [BitVec.slt] using h), max_eq_left h.le]
  · rw [if_neg (by simpa [BitVec.slt] using h), max_eq_right (not_lt.1 h)]

/-- The least position among those of the largest entry. -/
theorem least_arg {c : Fin 32 → EReal} {a : Fin 32} (h : IsArg c a) :
    Finset.univ.fold IntOp.minsi 2147483647#32 (fun x : Fin 32 => if c x = c a then BitVec.ofNat 32 x.val else 32#32)
      = BitVec.ofNat 32 a.val := by
  refine BitVec.eq_of_toInt_eq ?_
  rw [← Finset.fold_hom (op' := min) (m := BitVec.toInt) minsi_toInt, toInt_fin]
  refine le_antisymm ((Finset.fold_min_le _).2 (Or.inr ⟨a, Finset.mem_univ _, ?_⟩)) ((Finset.le_fold_min _).2 ⟨?_, fun x _ => ?_⟩)
  · rw [if_pos rfl, toInt_fin]
  · rw [show (2147483647#32 : BitVec 32).toInt = 2147483647 by decide]; have := a.isLt; omega
  · split
    · next e =>
      rw [toInt_fin]
      have := (h x).resolve_left (by rw [e]; exact lt_irrefl _)
      exact_mod_cast this.2
    · rw [show (32#32 : BitVec 32).toInt = 32 by decide]; have := a.isLt; omega

/-- The pair `r` is as good as `p`: a larger entry, or an equal one no later. -/
def Good (r p : EReal × BitVec 32) : Prop := p.1 < r.1 ∨ (p.1 = r.1 ∧ r.2.toInt ≤ p.2.toInt)

theorem Good.refl (p : EReal × BitVec 32) : Good p p := Or.inr ⟨rfl, le_rfl⟩
theorem Good.trans {r p q : EReal × BitVec 32} (h : Good r p) (h' : Good p q) : Good r q := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- A fold that keeps the better of two pairs ends at the best. -/
theorem foldl_best (red : EReal × BitVec 32 → EReal × BitVec 32 → EReal × BitVec 32)
    (h1 : ∀ p q, red p q = p ∨ red p q = q) (h2 : ∀ p q, Good (red p q) p ∧ Good (red p q) q) :
    ∀ (l : List (EReal × BitVec 32)) (p : EReal × BitVec 32),
      (l.foldl red p = p ∨ l.foldl red p ∈ l) ∧ Good (l.foldl red p) p ∧ ∀ q ∈ l, Good (l.foldl red p) q
  | [], p => ⟨Or.inl rfl, Good.refl p, fun _ h => absurd h List.not_mem_nil⟩
  | a :: l, p => by
    obtain ⟨i1, i2, i3⟩ := foldl_best red h1 h2 l (red p a)
    rw [List.foldl_cons]
    refine ⟨?_, i2.trans (h2 p a).1, fun q hq => ?_⟩
    · rcases i1 with i1 | i1
      · rcases h1 p a with e | e
        · exact Or.inl (i1.trans e)
        · exact Or.inr (by rw [i1, e]; exact List.mem_cons_self)
      · exact Or.inr (List.mem_cons_of_mem _ i1)
    · rcases List.mem_cons.1 hq with rfl | hq
      · exact i2.trans (h2 p q).2
      · exact i3 q hq

/-- The best of a row's pairs, from the bottom at position 0, is at the first position of the largest entry. -/
theorem arg_of_best (c : Fin 32 → EReal) (r : EReal × BitVec 32) (l : List (EReal × BitVec 32)) (hl : ∀ p, p ∈ l ↔ ∃ x : Fin 32, p = (c x, BitVec.ofNat 32 x.val))
    (h1 : r = (⊥, 0#32) ∨ r ∈ l) (h3 : ∀ q ∈ l, Good r q) : ∃ a, IsArg c a ∧ r.2 = BitVec.ofNat 32 a.val := by
  have key : ∀ x : Fin 32, Good r (c x, BitVec.ofNat 32 x.val) := fun x => h3 _ ((hl _).2 ⟨x, rfl⟩)
  obtain ⟨a, ha⟩ : ∃ a : Fin 32, r = (c a, BitVec.ofNat 32 a.val) := by
    rcases h1 with rfl | h1
    · refine ⟨0, ?_⟩
      have : c 0 = ⊥ := (key 0).elim (fun h => absurd h not_lt_bot) (fun h => h.1)
      rw [this]; rfl
    · exact (hl r).1 h1
  subst ha
  refine ⟨a, fun x => ?_, rfl⟩
  rcases key x with h | ⟨h, k⟩
  · exact Or.inl h
  · refine Or.inr ⟨h, ?_⟩
    have k : (BitVec.ofNat 32 a.val).toInt ≤ (BitVec.ofNat 32 x.val).toInt := k
    rw [toInt_fin, toInt_fin] at k
    exact_mod_cast k

/-- The largest of a row's words, as floats and as words. -/
theorem fold_label (g : Fin 32 → BitVec 32) :
    Finset.univ.fold max (⊥ : EReal) (fun x => (((g x).toInt : ℝ) : EReal))
      = (((Finset.univ.fold IntOp.maxsi 2147483648#32 g).toInt : ℝ) : EReal) := by
  have e : (Finset.univ.fold IntOp.maxsi 2147483648#32 g).toInt = Finset.univ.fold max (2147483648#32 : BitVec 32).toInt fun x => (g x).toInt :=
    (Finset.fold_hom (op' := max) (m := BitVec.toInt) maxsi_toInt).symm
  rw [e]
  have hi : (2147483648#32 : BitVec 32).toInt = -2147483648 := by decide
  refine le_antisymm ((Finset.fold_max_le _).2 ⟨bot_le, fun x _ => ?_⟩) ?_
  · rw [EReal.coe_le_coe_iff]
    have h' : (g x).toInt ≤ Finset.univ.fold max (2147483648#32 : BitVec 32).toInt (fun x => (g x).toInt) := (Finset.le_fold_max _).2 (Or.inr ⟨x, Finset.mem_univ _, le_rfl⟩)
    exact_mod_cast h'
  · rw [Finset.le_fold_max]
    refine Or.inr ?_
    rcases (Finset.le_fold_max (s := Finset.univ) (f := fun x => (g x).toInt) (b := (2147483648#32 : BitVec 32).toInt) _).1 le_rfl with h | ⟨x, hx, h⟩
    · refine ⟨0, Finset.mem_univ _, ?_⟩
      rw [EReal.coe_le_coe_iff]
      have := BitVec.le_toInt (g 0)
      have h' : Finset.univ.fold max (2147483648#32 : BitVec 32).toInt (fun x => (g x).toInt) ≤ (g 0).toInt := h.trans (by rw [hi]; simpa using this)
      exact_mod_cast h'
    · refine ⟨x, hx, ?_⟩
      rw [EReal.coe_le_coe_iff]
      exact_mod_cast h

/-- The word a row puts at position `x`: its label where the mask is set and the position is the largest entry's. -/
def tag (μ : Fin 32 → BitVec 1) (d : Fin 32 → BitVec 32) (a x : Fin 32) : BitVec 32 := if μ x = 1#1 ∧ a = x then d x else 0#32

theorem tag_word (μ : Fin 32 → BitVec 1) (d : Fin 32 → BitVec 32) (a x : Fin 32) :
    IntOp.muli (d x) (Scalar.select (μ x) (BitVec.setWidth 32 (IntOp.cmpi .eq (BitVec.ofNat 32 a.val) (BitVec.ofNat 32 x.val))) 0#32) = tag μ d a x := by
  unfold tag
  by_cases h : μ x = 1#1
  · by_cases e : a = x
    · rw [if_pos ⟨h, e⟩, e, IntOp.cmpi_eq.2 rfl, h]
      show d x * 1#32 = d x
      simp
    · have z : IntOp.cmpi .eq (BitVec.ofNat 32 a.val) (BitVec.ofNat 32 x.val) = 0#1 :=
        (bit_cases _).resolve_left fun h' => e (ofNat_inj _ _ (IntOp.cmpi_eq.1 h'))
      rw [if_neg (fun h' => e h'.2), z, h]
      show d x * 0#32 = 0#32
      simp
  · rw [if_neg (fun h' => h h'.1)]
    have : Scalar.select (μ x) (BitVec.setWidth 32 (IntOp.cmpi .eq (BitVec.ofNat 32 a.val) (BitVec.ofNat 32 x.val))) 0#32 = 0#32 := if_neg h
    rw [this]
    show d x * 0#32 = 0#32
    simp

theorem tag_float (μ : Fin 32 → BitVec 1) (d : Fin 32 → BitVec 32) (a x : Fin 32) :
    Scalar.select (IntOp.andi (IntOp.cmpi .eq (BitVec.ofNat 32 x.val) (BitVec.ofNat 32 a.val)) (BitVec.ofBool (decide (μ x = 1#1))))
      (((d x).toInt : ℝ) : EReal) 0 = (((tag μ d a x).toInt : ℝ) : EReal) := by
  unfold tag
  by_cases h : μ x = 1#1 ∧ a = x
  · rw [if_pos h]
    refine if_pos (IntOp.andi_eq_one.2 ⟨IntOp.cmpi_eq.2 (by rw [h.2]), ?_⟩)
    rw [decide_eq_true h.1]; rfl
  · rw [if_neg h]
    refine (if_neg fun h' => h ?_).trans (by simp)
    obtain ⟨h1, h2⟩ := IntOp.andi_eq_one.1 h'
    refine ⟨?_, (ofNat_inj _ _ (IntOp.cmpi_eq.1 h1)).symm⟩
    by_contra hn
    rw [decide_eq_false hn] at h2
    exact absurd h2 (by decide)

/-- Whether the label found is the position's, as the float 1 or 0. -/
theorem same_float (u v : BitVec 32) :
    (FloatOps.sitofp .f32 (BitVec.setWidth 32 (BitVec.ofBool (decide ((((u.toInt : ℝ) : EReal)) = ((v.toInt : ℝ) : EReal))))) : Ideal .f32)
      = FloatOps.uitofp .f32 (IntOp.cmpi .eq u v) := by
  by_cases h : u = v
  · subst h
    rw [IntOp.cmpi_eq.2 rfl, decide_eq_true rfl, sitofp_word, uitofp_bit]
    have : (BitVec.setWidth 32 (BitVec.ofBool true)).toInt = 1 := by decide
    rw [this]; simp
  · have z : IntOp.cmpi .eq u v = 0#1 := (bit_cases _).resolve_left fun h' => h (IntOp.cmpi_eq.1 h')
    have n : ¬ (((u.toInt : ℝ) : EReal)) = ((v.toInt : ℝ) : EReal) := fun e => h (BitVec.eq_of_toInt_eq (by exact_mod_cast EReal.coe_injective e))
    rw [z, decide_eq_false n, sitofp_word, uitofp_bit]
    have : (BitVec.setWidth 32 (BitVec.ofBool false)).toInt = 0 := by decide
    rw [this]; simp

/-- A sum of words, as a number below the word size. -/
theorem fold_addi {α : Type} (s : Finset α) (f : α → BitVec 32) :
    (s.fold IntOp.addi 0#32 f).toNat = (∑ x ∈ s, (f x).toNat) % 2 ^ 32 := by
  classical
  induction s using Finset.induction_on with
  | empty => rfl
  | insert a s ha ih =>
    rw [Finset.fold_insert ha, Finset.sum_insert ha]
    show (f a + s.fold IntOp.addi 0#32 f).toNat = _
    rw [BitVec.toNat_add, ih, Nat.add_mod_mod]

/-- A count of bits: the words' sum read as a float is the sum of the bits' floats. -/
theorem count_bits {α : Type} [Fintype α] (hc : Fintype.card α < 2 ^ 31) (f : α → BitVec 1) :
    (FloatOps.sitofp .f32 (Finset.univ.fold IntOp.addi 0#32 (fun x => BitVec.setWidth 32 (f x))) : Ideal .f32) = ∑ x, (FloatOps.uitofp .f32 (f x) : Ideal .f32) := by
  have hb : ∑ x : α, (BitVec.setWidth 32 (f x)).toNat = ∑ x : α, (f x).toNat := Finset.sum_congr rfl fun x _ => by
    rcases bit_cases (f x) with e | e <;> rw [e] <;> rfl
  have hs : ∑ x : α, (f x).toNat ≤ Fintype.card α := by
    refine (Finset.sum_le_card_nsmul _ _ 1 fun x _ => ?_).trans (by simp)
    have := (f x).isLt; omega
  have e := fold_addi Finset.univ fun x => BitVec.setWidth 32 (f x)
  rw [hb, Nat.mod_eq_of_lt (by omega)] at e
  have e2 : (Finset.univ.fold IntOp.addi 0#32 (fun x => BitVec.setWidth 32 (f x))).toInt = ((∑ x : α, (f x).toNat : ℕ) : ℤ) := by
    rw [BitVec.toInt_eq_toNat_of_lt (by rw [e]; omega), e]
  rw [sitofp_word, e2]
  simp only [uitofp_bit]
  rw [← Lse.coe_sum]
  push_cast
  rfl

/-- The negative of a sum of real numbers, taken outside or inside. -/
theorem neg_sums {α β γ : Type} [Fintype α] [Fintype β] [Fintype γ] (f : α → β → γ → EReal) (h : ∀ a b c, ∃ r : ℝ, f a b c = r) :
    0 - ∑ a, ∑ b, ∑ c, f a b c = ∑ a, ∑ b, -∑ c, f a b c := by
  choose g hg using h
  simp only [hg]
  simp only [← Lse.coe_sum, ← EReal.coe_neg]
  rw [zero_sub, ← EReal.coe_neg]
  simp only [Finset.sum_neg_distrib]

end Cert.Proof.Row

end
-- ==== Proof.Value.RefLogit.lean ====
/-
  The reference's logit, read at an index.
-/
module

public import proofs.«01_k».proof.Proof.Ref.Eqs
public import proofs.«01_k».proof.Proof.Value.Row
public import Idealize.ShloMosaic.PureOps.Ideal
public import Idealize.ShloMosaic.Lib.Pointwise

@[expose] public section

set_option Elab.async false

noncomputable section

namespace Cert.Proof.Ref

open Cert.ReferenceIdeal Cert.ReferenceIdeal.Gen
open Idealize.ShloMosaic
open Idealize.ShloMosaic.TcCoe Idealize.SL.Sem Idealize.ShloMosaic.StableHlo
open Cert.Proof.Row

variable (V : Valuation τ sig (Elt Ideal))

/-- The logit from the products. -/
def lsR (X : FVec Ideal S256x256x16x32 .f32) : FVec Ideal S256x16x8192 .f32 :=
  shapeCast S256x16x8192 (transpose S256x16x256x32 [0, 2, 1, 3] (Host.divf X (broadcastInDim S256x256x16x32 ![] bcast_S_S256x256x16x32 (constant S_ .f32 0x3D8F5C29#32 : FVec Ideal S_ .f32))) transposes_S256x256x16x32_S256x16x256x32_0_2_1_3)
    shapeCasts_S256x16x256x32_S256x16x8192

theorem lsR_at (X : FVec Ideal S256x256x16x32 .f32) (b : Fin 256) (q : Fin 16) (j : Fin 8192) :
    lsR X (ix3 b q j) = Ideal.div (X (ix4 b ⟨j.val / 32, by omega⟩ q ⟨j.val % 32, Nat.mod_lt _ (by decide)⟩)) (Ideal.ofBits .f32 0x3D8F5C29#32) := by
  pointwise [lsR]

/-- The row less its logarithm of the sum of exponentials, shifted by its largest entry. -/
def smR (Z : FVec Ideal S256x16x8192 .f32) : FVec Ideal S256x16x8192 .f32 :=
  let y : FVec Ideal S256x16x8192 .f32 := subf Z (broadcastInDim S256x16x8192 ![0, 1, 2] bcast_S256x16x1_S256x16x8192_0_1_2 (broadcastInDim S256x16x1 ![0, 1] bcast_S256x16_S256x16x1_0_1
    (Host.reduce FloatOps.maximumf Z (constant S_ .f32 0xFF800000#32 : FVec Ideal S_ .f32) reducesTo_S256x16x8192_S256x16_d2 h_S_)))
  subf y (broadcastInDim S256x16x8192 ![0, 1, 2] bcast_S256x16x1_S256x16x8192_0_1_2 (Host.log (broadcastInDim S256x16x1 ![0, 1] bcast_S256x16_S256x16x1_0_1
    (Host.reduceAdd (Host.exp y) (constant S_ .f32 0x00000000#32 : FVec Ideal S_ .f32) reducesTo_S256x16x8192_S256x16_d2 h_S_ : FVec Ideal S256x16 .f32) : FVec Ideal S256x16x1 .f32)))
theorem smR_at (Z : FVec Ideal S256x16x8192 .f32) (b : Fin 256) (q : Fin 16) (k : Fin 8192) :
    smR Z (ix3 b q k) = Z (ix3 b q k) - Finset.univ.fold max (Ideal.ofBits .f32 0xFF800000#32) (fun x => Z (ix3 b q x))
      - Ideal.log (∑ x, Ideal.exp (Z (ix3 b q x) - Finset.univ.fold max (Ideal.ofBits .f32 0xFF800000#32) (fun x => Z (ix3 b q x)))) := by
  pointwise [smR]

/-- The rows over the batch again. -/
def tpR (Z : FVec Ideal S256x16x8192 .f32) : FVec Ideal S256x256x16x32 .f32 :=
  transpose S256x256x16x32 [0, 2, 1, 3] (shapeCast S256x16x256x32 Z shapeCasts_S256x16x8192_S256x16x256x32) transposes_S256x16x256x32_S256x256x16x32_0_2_1_3
theorem tpR_at (Z : FVec Ideal S256x16x8192 .f32) (b b' : Fin 256) (q : Fin 16) (k : Fin 32) :
    tpR Z (ix4 b b' q k) = Z (ix3 b q ⟨b'.val * 32 + k.val, by omega⟩) := by
  pointwise [tpR]

/-- The diagonal's positions. -/
def diagR : IVec S256x2 32 :=
  let p : IVec S256 32 := select (cmpi .slt (iotaInDim S256 32 0) (broadcastInDim S256 ![] bcast_S_S256 (constantI S_ 32 0#32)))
    (addi (iotaInDim S256 32 0) (broadcastInDim S256 ![] bcast_S_S256 (constantI S_ 32 256#32))) (iotaInDim S256 32 0)
  concatenate S256x2 1 [⟨S256x1, broadcastInDim S256x1 ![0] bcast_S256_S256x1_0 p⟩, ⟨S256x1, broadcastInDim S256x1 ![0] bcast_S256_S256x1_0 p⟩] concatenates_S256x1_S256x1_S256x2_d1
theorem diagR_at (b : Fin 256) (j : Fin 2) : diagR (ix2 b j) = BitVec.ofNat 32 b.val := by
  have e : Scalar.select (IntOp.cmpi .slt (BitVec.ofNat 32 b.val) 0#32) (IntOp.addi (BitVec.ofNat 32 b.val) 256#32) (BitVec.ofNat 32 b.val) = BitVec.ofNat 32 b.val := by
    revert b; decide +kernel
  pointwise [diagR]
  rw [e]
  split <;> rfl

theorem logit_eq : w V main_v31 = Host.gather gather_S256x256x16x32_S256x2_S256x16x32_12_01_n_n_01_1_111632 (tpR (smR (lsR (w V main_arg0)))) diagR := by
  rw [e_v31, e_v30, e_v29, e_v28, e_v27, e_v26, e_v25, e_c_4, e_v24, e_v23, e_c_3, e_v22, e_v21, e_v20, e_c_2, e_v19, e_v18, e_c, e_v17, e_v16, e_v15, e_v14, e_v13, e_v12, e_v11, e_v10, e_v9,
    e_cst_1, e_v8, e_v7, e_v6, e_v5, e_v4, e_cst_0, e_v3, e_v2, e_v1, e_v0, e_cst]
  rfl

theorem diag_at (Z : FVec Ideal S256x256x16x32 .f32) (b : Fin 256) (q : Fin 16) (k : Fin 32) :
    Host.gather gather_S256x256x16x32_S256x2_S256x16x32_12_01_n_n_01_1_111632 Z diagR (ix3 b q k) = Z (ix4 b b q k) := by
  have t : ∀ b : Fin 256, (BitVec.ofNat 32 b.val).toInt = (b.val : ℤ) := by decide +kernel
  have e : ∀ j : Fin 2, (gather_S256x256x16x32_S256x2_S256x16x32_12_01_n_n_01_1_111632).siIdx (ix3 b q k : S256x16x32.Idx) j = (ix2 b j : S256x2.Idx) := by
    intro j; funext a; match a with | ⟨0, _⟩ => rfl | ⟨1, _⟩ => rfl
  have hb := b.isLt
  refine congrArg Z (funext fun a => Fin.ext ?_)
  match a with
  | ⟨0, _⟩ =>
    refine (congrArg (fun i => min (diagR i).toInt.toNat (256 - 1) + 0 + 0) (e ⟨0, by decide⟩)).trans ?_
    show min (diagR (ix2 b 0)).toInt.toNat (256 - 1) + 0 + 0 = b.val
    rw [diagR_at, t]
    omega
  | ⟨1, _⟩ =>
    refine (congrArg (fun i => min (diagR i).toInt.toNat (256 - 1) + 0 + 0) (e ⟨1, by decide⟩)).trans ?_
    show min (diagR (ix2 b 1)).toInt.toNat (256 - 1) + 0 + 0 = b.val
    rw [diagR_at, t]
    omega
  | ⟨2, _⟩ => exact (Nat.zero_add _ : 0 + q.val = q.val)
  | ⟨3, _⟩ => exact (Nat.zero_add _ : 0 + k.val = k.val)

end Cert.Proof.Ref

end
-- ==== Proof.Value.RefMath.lean ====
/-
  The reference's logit over real products: each entry, scaled, less the logarithm of the row's sum of exponentials.
-/
module

public import proofs.«01_k».proof.Proof.Value.RefLogit

@[expose] public section

set_option Elab.async false

noncomputable section

namespace Cert.Proof.Ref

open Cert.ReferenceIdeal Cert.ReferenceIdeal.Gen
open Idealize.ShloMosaic

theorem temp_eq : Ideal.ofBits .f32 0x3D8F5C29#32 = ((9395241 / 134217728 : ℝ) : EReal) := by
  simp [Ideal.ofBits, Ideal.ieee]
  rw [← EReal.coe_mul]
  exact congrArg (fun r : ℝ => (r : EReal)) (by norm_num)

theorem div_temp (r : ℝ) : Ideal.div (r : EReal) (Ideal.ofBits .f32 0x3D8F5C29#32) = ((r * (134217728 / 9395241) : ℝ) : EReal) := by
  rw [temp_eq, Ideal.div_coe (by norm_num), ← EReal.coe_mul]
  exact congrArg (fun r : ℝ => (r : EReal)) (by norm_num)

theorem row_max_real (Z : FVec Ideal S256x16x8192 .f32) (z : Fin 8192 → ℝ) (b : Fin 256) (q : Fin 16) (h : ∀ j, Z (ix3 b q j) = (z j : EReal)) (k : Fin 8192) :
    smR Z (ix3 b q k) = ((z k - Real.log (∑ j, Real.exp (z j)) : ℝ) : EReal) := by
  rw [smR_at]
  simp only [h]
  have hb : Ideal.ofBits .f32 0xFF800000#32 = ⊥ := by simp [Ideal.ofBits, Ideal.ieee]
  obtain ⟨μ, hμ⟩ := Lse.fold_max_real z
  rw [hb, hμ]
  have hp : 0 < ∑ j, Real.exp (z j - μ) := Finset.sum_pos (fun j _ => Real.exp_pos _) Finset.univ_nonempty
  have e := Lse.lse z μ
  have h1 : ∀ j, Ideal.exp ((z j : EReal) - (μ : EReal)) = ((Real.exp (z j - μ) : ℝ) : EReal) := fun j => by
    rw [← EReal.coe_sub, Ideal.exp_coe]
  simp only [h1] at e ⊢
  rw [← Lse.coe_sum, Ideal.log_coe, if_neg (not_le.2 hp)] at e ⊢
  rw [← EReal.coe_add] at e
  have e := EReal.coe_injective e
  rw [← EReal.coe_sub, ← EReal.coe_sub, ← e]
  refine congrArg (fun r : ℝ => (r : EReal)) ?_
  ring

/-- The reference's logit at an entry. -/
theorem logit_at (X : FVec Ideal S256x256x16x32 .f32) (x : Fin 256 → Fin 256 → Fin 16 → Fin 32 → ℝ) (h : ∀ a b q k, X (ix4 a b q k) = (x a b q k : EReal))
    (b : Fin 256) (q : Fin 16) (k : Fin 32) :
    Host.gather gather_S256x256x16x32_S256x2_S256x16x32_12_01_n_n_01_1_111632 (tpR (smR (lsR X))) diagR (ix3 b q k)
      = ((x b b q k * (134217728 / 9395241)
        - Real.log (∑ j : Fin 8192, Real.exp (x b ⟨j.val / 32, by omega⟩ q ⟨j.val % 32, Nat.mod_lt _ (by decide)⟩ * (134217728 / 9395241))) : ℝ) : EReal) := by
  rw [diag_at, tpR_at, row_max_real _ (fun j => x b ⟨j.val / 32, by omega⟩ q ⟨j.val % 32, Nat.mod_lt _ (by decide)⟩ * (134217728 / 9395241)) b q
    (fun j => by rw [lsR_at, h, div_temp])]
  have e1 : (⟨(b.val * 32 + k.val) / 32, by omega⟩ : Fin 256) = b := Fin.ext (show (b.val * 32 + k.val) / 32 = b.val by omega)
  have e2 : (⟨(b.val * 32 + k.val) % 32, Nat.mod_lt _ (by decide)⟩ : Fin 32) = k := Fin.ext (show (b.val * 32 + k.val) % 32 = k.val by omega)
  dsimp only
  rw [e1, e2]

end Cert.Proof.Ref

end
-- ==== Proof.Value.EqLogit.lean ====
/-
  The logit rows: the kernel's are the reference's where the products are real numbers.
-/
module

public import proofs.«01_k».proof.Proof.Value.LgAt
public import proofs.«01_k».proof.Proof.Value.Sel
public import proofs.«01_k».proof.Proof.Value.SoftMath
public import proofs.«01_k».proof.Proof.Value.RefMath

@[expose] public section

set_option Elab.async false

noncomputable section

namespace Cert.Proof.KernelIdeal

open Cert.KernelIdeal Cert.KernelIdeal.Gen
open Idealize.ShloMosaic
open Idealize.ShloMosaic.TcCoe Idealize.ShloMosaic.StableHlo
open Idealize.SL.Sem

attribute [local irreducible] slab

variable (m : (ℓ : Loc nD τ sig) → Buf (Elt Ideal) ℓ) (c : Dev nD)

theorem Xr_at (b b' : Fin 256) (p : Fin 512) : Xr m c (ix3 b b' p) = X0 m c (ix4 b b' ⟨p.val / 32, by omega⟩ ⟨p.val % 32, Nat.mod_lt _ (by decide)⟩) := by
  pointwise

/-- The value both programs' logit takes at an entry. -/
def logitVal (x : Fin 256 → Fin 256 → Fin 16 → Fin 32 → ℝ) (b : Fin 256) (q : Fin 16) (k : Fin 32) : ℝ :=
  x b b q k * (134217728 / 9395241)
    - Real.log (∑ j : Fin 8192, Real.exp (x b ⟨j.val / 32, by omega⟩ q ⟨j.val % 32, Nat.mod_lt _ (by decide)⟩ * (134217728 / 9395241)))

section Entries
variable (x : Fin 256 → Fin 256 → Fin 16 → Fin 32 → ℝ) (h : ∀ a b q k, X0 m c (ix4 a b q k) = (x a b q k : EReal))

include h in
theorem lg_real (b : Fin 256) (q : Fin 16) (k : Fin 32) : lg m c (ix3 b q k) = (logitVal x b q k : EReal) := by
  rw [lg_at]
  refine (slab_at sel selT sel_at (fun y p => (selT_at y p).trans (sel_at y p)) (slabX m c b)
    (fun b' p => x b b' ⟨p.val / 32, by omega⟩ ⟨p.val % 32, Nat.mod_lt _ (by decide)⟩)
    (fun b' p => (Xr_at m c b b' p).trans (h _ _ _ _)) (rowX m c b) (x b b q k) q k ?_).trans ?_
  · refine (Xr_at m c b b ⟨q.val * 32 + k.val, by omega⟩).trans ((h _ _ _ _).trans ?_)
    have e1 : (⟨(q.val * 32 + k.val) / 32, by omega⟩ : Fin 16) = q := Fin.ext (show (q.val * 32 + k.val) / 32 = q.val by omega)
    have e2 : (⟨(q.val * 32 + k.val) % 32, Nat.mod_lt _ (by decide)⟩ : Fin 32) = k := Fin.ext (show (q.val * 32 + k.val) % 32 = k.val by omega)
    exact congrArg₂ (fun u v => (x b b u v : EReal)) e1 e2
  · unfold logitVal
    refine congrArg (fun s : ℝ => ((x b b q k * (134217728 / 9395241) - Real.log s : ℝ) : EReal)) (Finset.sum_congr rfl fun j _ => ?_)
    have e1 : (⟨(q.val * 32 + j.val % 32) / 32, by omega⟩ : Fin 16) = q := Fin.ext (show (q.val * 32 + j.val % 32) / 32 = q.val by omega)
    have e2 : (⟨(q.val * 32 + j.val % 32) % 32, Nat.mod_lt _ (by decide)⟩ : Fin 32) = ⟨j.val % 32, Nat.mod_lt _ (by decide)⟩ :=
      Fin.ext (show (q.val * 32 + j.val % 32) % 32 = j.val % 32 by omega)
    exact congrArg₂ (fun u v => Real.exp (x b ⟨j.val / 32, by omega⟩ u v * (134217728 / 9395241))) e1 e2

include h in
theorem logit_same (V : Valuation Cert.ReferenceIdeal.τ Cert.ReferenceIdeal.sig (Elt Ideal)) (h0 : Ref.w V Cert.ReferenceIdeal.main_arg0 = X0 m c) :
    Ref.w V Cert.ReferenceIdeal.main_v31 = lg m c := by
  refine (Ref.logit_eq V).trans ?_
  rw [h0]
  funext i
  obtain ⟨b, q, k, rfl⟩ : ∃ b q k, i = (ix3 b q k : S256x16x32.Idx) := ⟨i 0, i 1, i 2, eq_ix3 i⟩
  exact (Ref.logit_at (X0 m c) x h b q k).trans (lg_real m c x h b q k).symm

end Entries

end Cert.Proof.KernelIdeal

end
-- ==== Proof.Value.KernVal.lean ====
/-
  The kernel's masked rows, confidence, rows put back and loss, read at an index.
-/
module

public import proofs.«01_k».proof.Proof.Ideal.Rows2
public import proofs.«01_k».proof.Proof.Value.Row
public import Idealize.ShloMosaic.PureOps.Ideal
public import Idealize.ShloMosaic.PureOps.Ideal.Laws
public import Idealize.ShloMosaic.Lib.Pointwise

@[expose] public section

set_option Elab.async false

noncomputable section

namespace Cert.Proof.KernelIdeal

open Cert.KernelIdeal Cert.KernelIdeal.Gen
open Idealize.ShloMosaic
open Cert.Proof.Row

theorem ninf_bits : Ideal.ofBits .f32 0xFF800000#32 = ⊥ := by simp [Ideal.ofBits, Ideal.ieee]
theorem ninf_named : (Named.named κ "neg_inf" 0xFF7F0000#32 : Ideal .f32) = ⊥ := rfl

theorem ptOf_at (M R : FVec Ideal S256x16x32 .f32) (b : Fin 256) (q : Fin 16) (k : Fin 32) :
    ptOf (F := Ideal) M R (ix3 b q k) = M (ix3 b q k) * R (ix3 b q k) := by
  pointwise [ptOf, k2_pay5, k2_pay3]

theorem conf9_at (L : FVec Ideal S256x16x32 .f32) (M : IVec S256x16x32 1) (b : Fin 256) (q : Fin 16) (k : Fin 32) :
    k2_pay9 (F := Ideal) (k2_pay6 (F := Ideal) (uitofp .f32 M : FVec Ideal S256x16x32 .f32)) (k2_pay7 (F := Ideal) L (uitofp .f32 M : FVec Ideal S256x16x32 .f32)) k2_pay8 (ix3 b q k)
      = confRow (fun x => M (ix3 b q x)) (fun x => L (ix3 b q x)) k := by
  pointwise [k2_pay9, k2_pay6, k2_pay7, k2_pay8, k2_pay3, k2_pay2]
  simp only [mask_pos, ninf_bits, ninf_named, masked_exp]
  rfl

theorem confOf_at (L : FVec Ideal S256x16x32 .f32) (M : IVec S256x16x32 1) (b : Fin 256) (q : Fin 16) (k : Fin 32) :
    confOf (F := Ideal) L (uitofp .f32 M : FVec Ideal S256x16x32 .f32) (ix3 b q k) = confRow (fun x => M (ix3 b q x)) (fun x => L (ix3 b q x)) k :=
  conf9_at L M b q k

/-- The rows put back, where the first position of the row's largest confidence is `a`. -/
theorem pay10_at (M D : FVec Ideal S256x16x32 .f32) (R : FVec Ideal S256x16x32 .f32) (B1 : IVec S256x16x32 1) (C28 Z : FVec Ideal S256x16x32 .f32) (C : Fin 32 → EReal)
    (μ : Fin 32 → BitVec 1) (d : Fin 32 → BitVec 32) (b : Fin 256) (q : Fin 16) (k a : Fin 32)
    (hC : ∀ x, k2_pay9 (F := Ideal) B1 C28 Z (ix3 b q x) = C x) (ha : IsArg C a) (hM : ∀ x, M (ix3 b q x) = (FloatOps.uitofp .f32 (μ x) : Ideal .f32))
    (hD : ∀ x, D (ix3 b q x) = (((d x).toInt : ℝ) : EReal)) :
    k2_pay10 (F := Ideal) M D R B1 C28 Z (ix3 b q k) = Ideal.ofBits .f32 0x3F7D70A4#32 * R (ix3 b q k) + Ideal.ofBits .f32 0x3C23D70A#32 *
      (FloatOps.uitofp .f32 (IntOp.cmpi .eq (Finset.univ.fold IntOp.maxsi 2147483648#32 (tag μ d a)) (d k)) : Ideal .f32) := by
  pointwise [k2_pay10]
  simp only [hC, hM, hD, mask_pos, ninf_bits]
  rw [fold_eq_of_arg ha, least_arg ha]
  simp only [fun x => tag_float μ d a x]
  rw [fold_label, same_float]

theorem sum_cells (F : S1x256x16x32.Idx → EReal) : ∑ i, F i = ∑ x : Fin 256, ∑ y : Fin 16, ∑ k : Fin 32, F (ix4 0 x y k) := by
  refine (sum_idx4 (n0 := 1) (n1 := 256) (n2 := 16) (n3 := 32) F).trans ?_
  simp only [Finset.univ_unique, Finset.sum_singleton]
  rfl
theorem sum_heads (F : S1x256x16x1.Idx → EReal) : ∑ i, F i = ∑ x : Fin 256, ∑ y : Fin 16, F (ix4 0 x y 0) := by
  refine (sum_idx4 (n0 := 1) (n1 := 256) (n2 := 16) (n3 := 1) F).trans ?_
  simp only [Finset.univ_unique, Finset.sum_singleton]
  rfl

theorem lossOf_at (L R : FVec Ideal S256x16x32 .f32) (M : IVec S256x16x32 1) (i : S1x1.Idx) :
    lossOf (F := Ideal) L (uitofp .f32 M : FVec Ideal S256x16x32 .f32) R i
      = Ideal.div (0 - ∑ x : Fin 256, ∑ y : Fin 16, ∑ k : Fin 32, (FloatOps.uitofp .f32 (M (ix3 x y k)) : Ideal .f32) * R (ix3 x y k) * L (ix3 x y k))
        ((∑ x : Fin 256 × Fin 16, (FloatOps.uitofp .f32 (M (ix3 x.1 x.2 0)) : Ideal .f32)) + Ideal.ofBits .f32 0x34000000#32) := by
  rw [Fintype.sum_prod_type]
  pointwise [lossOf, ptOf, k2_pay1, k2_pay11, k2_pay5, k2_pay3, k2_pay2]
  rw [Ideal.reduceAdd_total reduces_S1x256x16x32_S1 (by decide), Ideal.reduceAdd_total reduces_S1x256x16x1_S1 (by decide)]
  rw [sum_cells, sum_heads]
  pointwise

end Cert.Proof.KernelIdeal

end
-- ==== Proof.Value.RefVal.lean ====
/-
  The reference's confidence, rows put back and loss, read at an index.
-/
module

public import proofs.«01_k».proof.Proof.Ref.Eqs
public import proofs.«01_k».proof.Proof.Value.Row
public import Idealize.ShloMosaic.PureOps.Ideal
public import Idealize.ShloMosaic.Lib.Pointwise

@[expose] public section

set_option Elab.async false

noncomputable section

namespace Cert.Proof.Ref

open Cert.ReferenceIdeal Cert.ReferenceIdeal.Gen
open Idealize.ShloMosaic
open Idealize.ShloMosaic.TcCoe Idealize.SL.Sem Idealize.ShloMosaic.StableHlo
open Cert.Proof.Row

variable (V : Valuation τ sig (Elt Ideal))

theorem ofBits_bot : Ideal.ofBits .f32 0xFF800000#32 = ⊥ := by simp [Ideal.ofBits, Ideal.ieee]

/-- What the operations after the logit compute as confidence. -/
def confR (L : FVec Ideal S256x16x32 .f32) (M : IVec S256x16x32 1) : FVec Ideal S256x16x32 .f32 :=
  let z : FVec Ideal S256x16x32 .f32 := broadcastInDim S256x16x32 ![] bcast_S_S256x16x32 (constant S_ .f32 0xFF800000#32 : FVec Ideal S_ .f32)
  let cl : FVec Ideal S256x16x32 .f32 := select M L z
  let mx : FVec Ideal S256x16 .f32 := maximumf (broadcastInDim S256x16 ![] bcast_S_S256x16 (constant S_ .f32 0xFF800000#32 : FVec Ideal S_ .f32))
    (Host.reduce FloatOps.maximumf cl (constant S_ .f32 0xFF800000#32 : FVec Ideal S_ .f32) reducesTo_S256x16x32_S256x16_d2 h_S_)
  let e : FVec Ideal S256x16x32 .f32 := Host.exp (subf cl (broadcastInDim S256x16x32 ![0, 1, 2] bcast_S256x16x1_S256x16x32_0_1_2
    (broadcastInDim S256x16x1 ![0, 1] bcast_S256x16_S256x16x1_0_1 mx)))
  let s : FVec Ideal S256x16 .f32 := Host.reduceAdd e (constant S_ .f32 0x00000000#32 : FVec Ideal S_ .f32) reducesTo_S256x16x32_S256x16_d2 h_S_
  select M (Host.divf e (broadcastInDim S256x16x32 ![0, 1, 2] bcast_S256x16x1_S256x16x32_0_1_2
    (broadcastInDim S256x16x1 ![0, 1] bcast_S256x16_S256x16x1_0_1 s))) (broadcastInDim S256x16x32 ![] bcast_S_S256x16x32 (constant S_ .f32 0x00000000#32 : FVec Ideal S_ .f32))

theorem conf_eq : w V main_v58 = confR (w V main_v31) (w V main_arg3) := by
  rw [e_v58, e_call3_v1, e_call3_v0, e_cst_15, e_v57, e_v56, e_v55, e_v54, e_cst_14, e_v53, e_v52, e_v51, e_v50, e_v49, e_v48, e_cst_13, e_v47, e_cst_12, e_v46, e_call2_v1, e_call2_v0, e_cst_11]
  rfl
theorem conf_at (L : FVec Ideal S256x16x32 .f32) (M : IVec S256x16x32 1) (b : Fin 256) (q : Fin 16) (k : Fin 32) :
    confR L M (ix3 b q k) = confRow (fun x => M (ix3 b q x)) (fun x => L (ix3 b q x)) k := by
  pointwise [confR]
  simp only [ofBits_bot, max_eq_right bot_le]
  rfl

/-- The labels over the queries. -/
def detR (D : IVec S256x32 32) : IVec S256x16x32 32 :=
  broadcastInDim S256x16x32 ![0, 1, 2] bcast_S256x1x32_S256x16x32_0_1_2 (broadcastInDim S256x1x32 ![0, 2] bcast_S256x32_S256x1x32_0_2 D)

/-- The position of a confidence row's largest entry. -/
def argR (C : FVec Ideal S256x16x32 .f32) : IVec S256x16 32 := fun j =>
  (Host.argReduce reducer_argmax_f32_i32 C (iotaInDim S256x16x32 32 2) (constant S_ .f32 0xFF800000#32 : FVec Ideal S_ .f32) (constantI S_ 32 0#32) reducesTo_S256x16x32_S256x16_d2 h_S_ j).2

/-- The rows the reference puts back, from the confidences, the mask, the labels and the rows before. -/
def newR (C : FVec Ideal S256x16x32 .f32) (M : IVec S256x16x32 1) (D : IVec S256x32 32) (R : FVec Ideal S256x16x32 .f32) : FVec Ideal S256x16x32 .f32 :=
  let hot : IVec S256x16x32 32 := extui 32 (cmpi .eq (broadcastInDim S256x16x32 ![0, 1, 2] bcast_S256x16x1_S256x16x32_0_1_2
      (broadcastInDim S256x16x1 ![0, 1] bcast_S256x16_S256x16x1_0_1 (argR C)))
    (broadcastInDim S256x16x32 ![0, 1, 2] bcast_S1x1x32_S256x16x32_0_1_2 (iotaInDim S1x1x32 32 2))) natLt_1_32
  let t : IVec S256x16x32 32 := select M hot (broadcastInDim S256x16x32 ![] bcast_S_S256x16x32 (constantI S_ 32 0#32))
  let co : IVec S256x16 32 := Host.reduce IntOp.maxsi (muli (detR D) t) (constantI S_ 32 2147483648#32) reducesTo_S256x16x32_S256x16_d2 h_S_
  let same : FVec Ideal S256x16x32 .f32 := uitofp .f32 (cmpi .eq (broadcastInDim S256x16x32 ![0, 1, 2] bcast_S256x16x1_S256x16x32_0_1_2
      (broadcastInDim S256x16x1 ![0, 1] bcast_S256x16_S256x16x1_0_1 co)) (detR D))
  addf (mulf (broadcastInDim S256x16x32 ![] bcast_S_S256x16x32 (constant S_ .f32 0x3F7D70A4#32 : FVec Ideal S_ .f32)) R)
    (mulf (broadcastInDim S256x16x32 ![] bcast_S_S256x16x32 (constant S_ .f32 0x3C23D70A#32 : FVec Ideal S_ .f32)) same)

theorem new_eq : w V main_v75 = newR (w V main_v58) (w V main_arg3) (w V main_arg2) (w V main_v70) := by
  rw [e_v75, e_v74, e_v73, e_cst_19, e_v72, e_v71, e_cst_18, e_v69, e_v68, e_v67, e_v66, e_v65, e_c_17, e_v64, e_v63, e_call6_v1, e_call6_v0, e_c_16, e_v62, e_call5_v4, e_call5_v3,
    e_call5_v2, e_call5_v1, e_call5_v0, e_v61, e_call4_c, e_call4_cst, e_call4_v0, e_v60, e_v59]
  rfl

theorem new_at (C : FVec Ideal S256x16x32 .f32) (M : IVec S256x16x32 1) (D : IVec S256x32 32) (R : FVec Ideal S256x16x32 .f32) (b : Fin 256) (q : Fin 16) (k a : Fin 32)
    (ha : argR C (ix2 b q) = BitVec.ofNat 32 a.val) :
    newR C M D R (ix3 b q k) = Ideal.ofBits .f32 0x3F7D70A4#32 * R (ix3 b q k) + Ideal.ofBits .f32 0x3C23D70A#32 *
      (FloatOps.uitofp .f32 (IntOp.cmpi .eq (Finset.univ.fold IntOp.maxsi 2147483648#32 (tag (fun x => M (ix3 b q x)) (fun x => D (ix2 b x)) a)) (D (ix2 b k))) : Ideal .f32) := by
  pointwise [newR, detR]
  rw [ha]
  simp only [fun x => tag_word (fun x => M (ix3 b q x)) (fun x => D (ix2 b x)) a x]

theorem red_eq (p q : EReal × BitVec 32) : reducer_argmax_f32_i32 (F := Ideal) p q = if q.1 < p.1 ∨ (p.1 = q.1 ∧ p.2.toInt < q.2.toInt) then p else q := by
  have e : reducer_argmax_f32_i32 (F := Ideal) p q
      = (if IntOp.ori (Ideal.cmp .ogt p.1 q.1) (Ideal.cmp .une p.1 p.1) = 1#1 then p.1 else q.1,
         if IntOp.ori (IntOp.ori (Ideal.cmp .ogt p.1 q.1) (Ideal.cmp .une p.1 p.1)) (IntOp.andi (Ideal.cmp .oeq p.1 q.1) (IntOp.cmpi .slt p.2 q.2)) = 1#1 then p.2 else q.2) := rfl
  have c1 : Ideal.cmp .ogt p.1 q.1 = BitVec.ofBool (decide (q.1 < p.1)) := rfl
  have c2 : Ideal.cmp .une p.1 p.1 = 0#1 := by simp [Ideal.cmp]
  have c3 : Ideal.cmp .oeq p.1 q.1 = BitVec.ofBool (decide (p.1 = q.1)) := rfl
  have c4 : IntOp.cmpi .slt p.2 q.2 = BitVec.ofBool (decide (p.2.toInt < q.2.toInt)) := rfl
  rw [e, c1, c2, c3, c4]
  have t1 : IntOp.ori (BitVec.ofBool true) 0#1 = 1#1 := by decide
  have t2 : IntOp.ori (BitVec.ofBool false) 0#1 ≠ 1#1 := by decide
  have t3 : ∀ x y : BitVec 1, IntOp.ori (IntOp.ori (BitVec.ofBool true) 0#1) (IntOp.andi x y) = 1#1 := by decide
  have t4 : IntOp.ori (IntOp.ori (BitVec.ofBool false) 0#1) (IntOp.andi (BitVec.ofBool true) (BitVec.ofBool true)) = 1#1 := by decide
  have t5 : ∀ y : BitVec 1, IntOp.ori (IntOp.ori (BitVec.ofBool false) 0#1) (IntOp.andi y (BitVec.ofBool false)) ≠ 1#1 := by decide
  have t6 : ∀ y : BitVec 1, IntOp.ori (IntOp.ori (BitVec.ofBool false) 0#1) (IntOp.andi (BitVec.ofBool false) y) ≠ 1#1 := by decide
  by_cases h : q.1 < p.1
  · rw [decide_eq_true h, if_pos t1, if_pos (t3 _ _), if_pos (Or.inl h)]
  · rw [decide_eq_false h, if_neg t2]
    by_cases h' : p.1 = q.1
    · by_cases h'' : p.2.toInt < q.2.toInt
      · rw [decide_eq_true h', decide_eq_true h'', if_pos t4, if_pos (Or.inr ⟨h', h''⟩), ← h']
      · rw [decide_eq_false h'', if_neg (t5 _), if_neg (fun o => o.elim h fun o => h'' o.2)]
    · rw [decide_eq_false h', if_neg (t6 _), if_neg (fun o => o.elim h fun o => h' o.1)]

theorem red_good (p q : EReal × BitVec 32) : Good (reducer_argmax_f32_i32 (F := Ideal) p q) p ∧ Good (reducer_argmax_f32_i32 (F := Ideal) p q) q := by
  rw [red_eq]
  split
  · next h =>
    refine ⟨Good.refl p, ?_⟩
    rcases h with h | ⟨h, k⟩
    · exact Or.inl h
    · exact Or.inr ⟨h.symm, k.le⟩
  · next h =>
    refine ⟨?_, Good.refl q⟩
    rcases lt_trichotomy p.1 q.1 with h1 | h1 | h1
    · exact Or.inl h1
    · exact Or.inr ⟨h1, not_lt.1 fun h2 => h (Or.inr ⟨h1, h2⟩)⟩
    · exact absurd (Or.inl h1) h

theorem red_one (p q : EReal × BitVec 32) : reducer_argmax_f32_i32 (F := Ideal) p q = p ∨ reducer_argmax_f32_i32 (F := Ideal) p q = q := by
  rw [red_eq]; split
  · exact Or.inl rfl
  · exact Or.inr rfl

/-- The position the reference finds in a row is the first of its largest entry. -/
theorem arg_at (C : FVec Ideal S256x16x32 .f32) (b : Fin 256) (q : Fin 16) : ∃ a, IsArg (fun x => C (ix3 b q x)) a ∧ argR C (ix2 b q) = BitVec.ofNat 32 a.val := by
  have e : argR C (ix2 b q) = ((Host.argReduceFiber C (iotaInDim S256x16x32 32 2) reducesTo_S256x16x32_S256x16_d2 (ix2 b q)).foldl
      (reducer_argmax_f32_i32 (F := Ideal)) ((⊥ : EReal), 0#32)).2 := by
    unfold argR
    rw [Ideal.argReduce_eq_reduce2, Host.reduce2_eq_foldl_fiber]
    have z : (constant S_ .f32 0xFF800000#32 : FVec Ideal S_ .f32) (Shape.Idx.first h_S_) = ⊥ := ofBits_bot
    rw [z]; rfl
  rw [e]
  obtain ⟨h1, -, h3⟩ := foldl_best (reducer_argmax_f32_i32 (F := Ideal)) red_one red_good
    (Host.argReduceFiber C (iotaInDim S256x16x32 32 2) reducesTo_S256x16x32_S256x16_d2 (ix2 b q)) ((⊥ : EReal), 0#32)
  refine arg_of_best (fun x => C (ix3 b q x)) _ _ (fun p => ?_) h1 h3
  unfold Host.argReduceFiber
  rw [List.mem_map]
  constructor
  · rintro ⟨n, hn, rfl⟩
    obtain ⟨x, hx⟩ := (reducesTo_S256x16x32_S256x16_d2.fiber_r3_a2 (ix2 b q) _).1 (of_decide_eq_true (List.mem_filter.1 hn).2)
    have hx : ix3 b q x = S256x16x32.rowMajor.symm n := hx
    exact ⟨x, by rw [← hx]; rfl⟩
  · rintro ⟨x, rfl⟩
    refine ⟨S256x16x32.rowMajor (ix3 b q x), List.mem_filter.2 ⟨List.mem_finRange _, decide_eq_true ?_⟩, ?_⟩
    · rw [Equiv.symm_apply_apply]
      exact (reducesTo_S256x16x32_S256x16_d2.fiber_r3_a2 (ix2 b q) _).2 ⟨x, rfl⟩
    · rw [Equiv.symm_apply_apply]; rfl

/-- The loss from the masked rows and the logit. -/
def lossR (P L : FVec Ideal S256x16x32 .f32) (M : IVec S256x16x32 1) : FVec Ideal S_ .f32 :=
  let z : FVec Ideal S_ .f32 := constant S_ .f32 0x00000000#32
  let num : FVec Ideal S_ .f32 := Host.reduceAdd (Host.negf (Host.reduceAdd (mulf P L) z reducesTo_S256x16x32_S256x16_d2 h_S_ : FVec Ideal S256x16 .f32)) z reducesTo_S256x16_S_d0_1 h_S_
  let cnt : IVec S_ 32 := Host.reduce IntOp.addi (extui 32 (shapeCast S256x16 (extractStridedSlice S256x16x1 ![0, 0, 0] M slices_S256x16x32_S256x16x1_0_0_0) shapeCasts_S256x16x1_S256x16) natLt_1_32)
    (constantI S_ 32 0#32) reducesTo_S256x16_S_d0_1 h_S_
  mulf (Host.divf num (addf (sitofp .f32 cnt : FVec Ideal S_ .f32) (constant S_ .f32 0x34000000#32))) (constant S_ .f32 0x3F800000#32)

theorem loss_eq : w V main_v45 = lossR (w V main_v33) (w V main_v31) (w V main_arg3) := by
  rw [e_v45, e_cst_10, e_v44, e_v43, e_cst_9, e_v42, e_v41, e_c_8, e_v40, e_v39, e_cst_7, e_v38, e_v37, e_cst_6, e_v36, e_v35, e_v34]
  rfl
theorem loss_at (P L : FVec Ideal S256x16x32 .f32) (M : IVec S256x16x32 1) (i : S_.Idx) :
    lossR P L M i = Ideal.div (∑ x : Fin 256, ∑ y : Fin 16, -∑ k : Fin 32, P (ix3 x y k) * L (ix3 x y k))
      ((∑ x : Fin 256 × Fin 16, (FloatOps.uitofp .f32 (M (ix3 x.1 x.2 0)) : Ideal .f32)) + Ideal.ofBits .f32 0x34000000#32) := by
  rw [← count_bits (by rw [Fintype.card_prod, Fintype.card_fin, Fintype.card_fin]; norm_num)]
  pointwise [lossR]

end Cert.Proof.Ref

end
-- ==== Proof.Value.Look.lean ====
/-
  The reference's look-ups and its scatter, read at an index.
-/
module

public import proofs.«01_k».proof.Proof.Ref.Eqs
public import Idealize.ShloMosaic.PureOps.Ideal
public import Idealize.ShloMosaic.Lib.Pointwise
public import Idealize.ShloMosaic.Lib.Routing.OpsSet

@[expose] public section

noncomputable section

namespace Cert.Proof.Ref

open Cert.ReferenceIdeal Cert.ReferenceIdeal.Gen
open Idealize.ShloMosaic Idealize.ShloMosaic.Routing
open Idealize.ShloMosaic.TcCoe Idealize.SL.Sem Idealize.ShloMosaic.StableHlo

variable (V : Valuation τ sig (Elt Ideal))

/-- The rows' positions in the memory as the look-up reads them. -/
def look (x : IVec S256 32) : IVec S256x1 32 :=
  broadcastInDim S256x1 ![0] bcast_S256_S256x1_0 (select (cmpi .slt x (broadcastInDim S256 ![] bcast_S_S256 (constantI S_ 32 0#32)))
    (addi x (broadcastInDim S256 ![] bcast_S_S256 (constantI S_ 32 100000#32))) x)

/-- The rows looked up. -/
def takeR (f : FVec Ideal S100000x16x32 .f32) (x : IVec S256 32) : FVec Ideal S256x16x32 .f32 :=
  select (broadcastInDim S256x16x32 ![0] bcast_S256_S256x16x32_0
      (Host.reduce IntOp.andi
        (andi (cmpi .sge (look x) (broadcastInDim S256x1 ![] bcast_S_S256x1 (constantI S_ 32 0#32)))
          (cmpi .sle (look x) (broadcastInDim S256x1 ![0, 1] bcast_S1x1_S256x1_0_1 (broadcastInDim S1x1 ![1] bcast_S1_S1x1_1 (constantI S1 32 99999#32)))))
        (constantI S_ 1 1#1) reducesTo_S256x1_S256_d1 h_S_))
    (Host.gather gather_S100000x16x32_S256x1_S256x16x32_12_0_n_n_0_1_11632 f (look x))
    (broadcastInDim S256x16x32 ![] bcast_S_S256x16x32 (constant S_ .f32 0x7FC00000#32 : FVec Ideal S_ .f32))

theorem take_eq : w V main_v32 = takeR (w V main_arg4) (w V main_arg1) := by
  rw [e_v32, e_call0_v15, e_call0_cst, e_call0_v14, e_call0_v13, e_call0_v12, e_call0_c_3, e_call0_v11, e_call0_v10, e_call0_v9, e_call0_v8, e_call0_v7, e_call0_v6, e_call0_c_2, e_call0_c_1,
    e_call0_v5, e_call0_v4, e_call0_v3, e_call0_v2, e_call0_c_0, e_call0_v1, e_call0_v0, e_call0_c]
  rfl
theorem take_eq' : w V main_v70 = takeR (w V main_arg4) (w V main_arg1) := by
  rw [e_v70, e_call7_v15, e_call7_cst, e_call7_v14, e_call7_v13, e_call7_v12, e_call7_c_3, e_call7_v11, e_call7_v10, e_call7_v9, e_call7_v8, e_call7_v7, e_call7_v6, e_call7_c_2, e_call7_c_1,
    e_call7_v5, e_call7_v4, e_call7_v3, e_call7_v2, e_call7_c_0, e_call7_v1, e_call7_v0, e_call7_c]
  rfl
theorem look_eq : w V main_v81 = look (w V main_arg1) := by
  rw [e_v81, e_v80, e_v79, e_v78, e_c_21, e_v77, e_v76, e_c_20]
  rfl

/-- A small word read signed. -/
theorem toInt_small {a : BitVec 32} (h : a.toNat < 100000) : a.toInt = a.toNat := by
  rw [BitVec.toInt_eq_toNat_cond, if_pos (by omega)]

theorem look_at (x : IVec S256 32) (b : Fin 256) (j : Fin 1) (h : (x (ix1 b)).toNat < 100000) : look x (ix2 b j) = x (ix1 b) := by
  pointwise [look]
  have e : ¬ IntOp.cmpi CmpIPredicate.slt (x (ix1 b)) 0#32 = 1#1 := fun h' => by
    have := IntOp.cmpi_slt.1 h'
    rw [toInt_small h] at this
    have e0 : (0#32 : BitVec 32).toInt = 0 := by decide
    omega
  exact if_neg e

theorem gather_at (f : FVec Ideal S100000x16x32 .f32) (x : IVec S256x1 32) (b : Fin 256) (q : Fin 16) (k : Fin 32) (r : Fin 100000)
    (h : (x (ix2 b 0)).toInt = r.val) :
    Host.gather gather_S100000x16x32_S256x1_S256x16x32_12_0_n_n_0_1_11632 f x (ix3 b q k) = f (ix3 r q k) := by
  refine congrArg f (funext fun a => Fin.ext ?_)
  match a with
  | ⟨0, _⟩ =>
    have e : (gather_S100000x16x32_S256x1_S256x16x32_12_0_n_n_0_1_11632).siIdx (ix3 b q k : S256x16x32.Idx) ⟨0, by decide⟩ = (ix2 b 0 : S256x1.Idx) := by
      funext a; match a with | ⟨0, _⟩ => rfl | ⟨1, _⟩ => rfl
    show min (x ((gather_S100000x16x32_S256x1_S256x16x32_12_0_n_n_0_1_11632).siIdx (ix3 b q k : S256x16x32.Idx) ⟨0, by decide⟩)).toInt.toNat (100000 - 1) + 0 + 0 = r.val
    rw [e, h]
    have := r.isLt
    omega
  | ⟨1, _⟩ => exact (Nat.zero_add _ : 0 + q.val = q.val)
  | ⟨2, _⟩ => exact (Nat.zero_add _ : 0 + k.val = k.val)

theorem take_at (f : FVec Ideal S100000x16x32 .f32) (x : IVec S256 32) (b : Fin 256) (q : Fin 16) (k : Fin 32) (r : Fin 100000) (h : (x (ix1 b)).toNat = r.val) :
    takeR f x (ix3 b q k) = f (ix3 r q k) := by
  have hr : (x (ix1 b)).toNat < 100000 := h ▸ r.isLt
  pointwise [takeR]
  rw [gather_at f (look x) b q k r (by rw [look_at x b 0 hr, toInt_small hr, h])]
  have e : ∀ y : Fin 1, IntOp.andi (IntOp.cmpi CmpIPredicate.sge (look x (ix2 b y)) 0#32) (IntOp.cmpi CmpIPredicate.sle (look x (ix2 b y)) 99999#32) = 1#1 := fun y => by
    rw [look_at x b y hr]
    have e0 : (0#32 : BitVec 32).toInt = 0 := by decide
    have e1 : (99999#32 : BitVec 32).toInt = 99999 := by decide
    refine IntOp.andi_eq_one.2 ⟨IntOp.cmpi_sge.2 ?_, IntOp.cmpi_sle.2 ?_⟩
    · rw [toInt_small hr, e0]; omega
    · rw [toInt_small hr, e1]; omega
  simp only [e]
  rfl

theorem lands (x : IVec S256x1 32) (b : Fin 256) (q : Fin 16) (k : Fin 32) (r : Fin 100000) (q' : Fin 16) (k' : Fin 32) :
    (scatter_S100000x16x32_S256x1_S256x16x32_12_0_0_1).resultIdx? (ix3 b q k) x = some (ix3 r q' k') ↔ (x (ix2 b 0)).toInt = r.val ∧ q = q' ∧ k = k' := by
  have hs : (scatter_S100000x16x32_S256x1_S256x16x32_12_0_0_1).siIdx (ix3 b q k : S256x16x32.Idx) ⟨0, by decide⟩ = (ix2 b 0 : S256x1.Idx) := by
    funext a; match a with | ⟨0, _⟩ => rfl | ⟨1, _⟩ => rfl
  have h0 : (scatter_S100000x16x32_S256x1_S256x16x32_12_0_0_1).start (ix3 b q k : S256x16x32.Idx) x 0 = (x (ix2 b 0)).toInt := by
    rw [← hs]; rfl
  have h1 : (scatter_S100000x16x32_S256x1_S256x16x32_12_0_0_1).start (ix3 b q k : S256x16x32.Idx) x 1 = 0 := rfl
  have h2 : (scatter_S100000x16x32_S256x1_S256x16x32_12_0_0_1).start (ix3 b q k : S256x16x32.Idx) x 2 = 0 := rfl
  have w0 : (scatter_S100000x16x32_S256x1_S256x16x32_12_0_0_1).window (ix3 b q k : S256x16x32.Idx) 0 = 0 := rfl
  have w1 : (scatter_S100000x16x32_S256x1_S256x16x32_12_0_0_1).window (ix3 b q k : S256x16x32.Idx) 1 = q.val := rfl
  have w2 : (scatter_S100000x16x32_S256x1_S256x16x32_12_0_0_1).window (ix3 b q k : S256x16x32.Idx) 2 = k.val := rfl
  unfold ScatterDims.resultIdx?
  have hq := q.isLt
  have hk := k.isLt
  have hr := r.isLt
  split
  · next h =>
    have g0 := h 0
    rw [h0, w0] at g0
    constructor
    · intro e
      have e0 := congrArg Fin.val (congrFun (Option.some.inj e) 0)
      have e1 := congrArg Fin.val (congrFun (Option.some.inj e) 1)
      have e2 := congrArg Fin.val (congrFun (Option.some.inj e) 2)
      simp only [h0, h1, h2, w0, w1, w2] at e0 e1 e2
      refine ⟨?_, Fin.ext ?_, Fin.ext ?_⟩
      · have e0 : ((x (ix2 b 0)).toInt + ((0 : ℕ) : ℤ)).toNat = r.val := e0
        omega
      · have e1 : ((0 : ℤ) + (q.val : ℤ)).toNat = q'.val := e1
        omega
      · have e2 : ((0 : ℤ) + (k.val : ℤ)).toNat = k'.val := e2
        omega
    · rintro ⟨e0, rfl, rfl⟩
      refine congrArg some (funext fun a => Fin.ext ?_)
      match a with
      | ⟨0, _⟩ =>
        show ((scatter_S100000x16x32_S256x1_S256x16x32_12_0_0_1).start (ix3 b q k : S256x16x32.Idx) x 0 + ((scatter_S100000x16x32_S256x1_S256x16x32_12_0_0_1).window (ix3 b q k : S256x16x32.Idx) 0 : ℤ)).toNat = r.val
        rw [h0, w0, e0]; omega
      | ⟨1, _⟩ => show ((0 : ℤ) + (q.val : ℤ)).toNat = q.val; omega
      | ⟨2, _⟩ => show ((0 : ℤ) + (k.val : ℤ)).toNat = k.val; omega
  · next h =>
    refine ⟨fun e => (by cases e), ?_⟩
    rintro ⟨e0, rfl, rfl⟩
    refine (h fun a => ?_).elim
    match a with
    | ⟨0, _⟩ =>
      show 0 ≤ (scatter_S100000x16x32_S256x1_S256x16x32_12_0_0_1).start (ix3 b q k : S256x16x32.Idx) x 0 + ((scatter_S100000x16x32_S256x1_S256x16x32_12_0_0_1).window (ix3 b q k : S256x16x32.Idx) 0 : ℤ)
        ∧ (scatter_S100000x16x32_S256x1_S256x16x32_12_0_0_1).start (ix3 b q k : S256x16x32.Idx) x 0 + ((scatter_S100000x16x32_S256x1_S256x16x32_12_0_0_1).window (ix3 b q k : S256x16x32.Idx) 0 : ℤ) < (100000 : ℤ)
      rw [h0, w0, e0]; omega
    | ⟨1, _⟩ => show 0 ≤ (0 : ℤ) + (q.val : ℤ) ∧ (0 : ℤ) + (q.val : ℤ) < 16; omega
    | ⟨2, _⟩ => show 0 ≤ (0 : ℤ) + (k.val : ℤ) ∧ (0 : ℤ) + (k.val : ℤ) < 32; omega

/-- The scatter at a row a batch entry names: that entry's new row; at any other row the memory. -/
theorem scatter_hit (f : FVec Ideal S100000x16x32 .f32) (x : IVec S256x1 32) (u : FVec Ideal S256x16x32 .f32) (n : Fin 256 → Fin 100000) (hn : Function.Injective n)
    (hx : ∀ b, (x (ix2 b 0)).toInt = (n b).val) (b : Fin 256) (q : Fin 16) (k : Fin 32) :
    Host.scatter scatter_S100000x16x32_S256x1_S256x16x32_12_0_0_1 (fun _ b => b) f x u (ix3 (n b) q k) = u (ix3 b q k) := by
  refine scatter_set_hit _ f x u _ _ (fun j hj => ?_) (ix3 b q k) ((lands x b q k (n b) q k).2 ⟨hx b, rfl, rfl⟩)
  rw [eq_ix3 j] at hj ⊢
  obtain ⟨h0, h1, h2⟩ := (lands x _ _ _ _ _ _).1 hj
  have h0 := (hx (j 0)).symm.trans h0
  have := hn (Fin.ext (by exact_mod_cast h0))
  rw [this, h1, h2]

theorem scatter_miss (f : FVec Ideal S100000x16x32 .f32) (x : IVec S256x1 32) (u : FVec Ideal S256x16x32 .f32) (n : Fin 256 → Fin 100000)
    (hx : ∀ b, (x (ix2 b 0)).toInt = (n b).val) (r : Fin 100000) (hr : ∀ b, n b ≠ r) (q : Fin 16) (k : Fin 32) :
    Host.scatter scatter_S100000x16x32_S256x1_S256x16x32_12_0_0_1 (fun _ b => b) f x u (ix3 r q k) = f (ix3 r q k) := by
  refine scatter_set_miss _ f x u _ fun j hj => ?_
  rw [eq_ix3 j] at hj
  obtain ⟨h0, -, -⟩ := (lands x _ _ _ _ _ _).1 hj
  have h0 := (hx (j 0)).symm.trans h0
  exact hr _ (Fin.ext (by exact_mod_cast h0))

end Cert.Proof.Ref

end
-- ==== Proof.Value.EqRows.lean ====
/-
  The masked rows, the confidence, the rows put back, the loss and the memory: the kernel's are the reference's.
-/
module

public import proofs.«01_k».proof.Proof.Value.Kern
public import proofs.«01_k».proof.Proof.Value.KernVal
public import proofs.«01_k».proof.Proof.Value.RefVal
public import proofs.«01_k».proof.Proof.Value.Look

@[expose] public section

set_option Elab.async false

noncomputable section

namespace Cert.Proof.Ref

open Cert.ReferenceIdeal Cert.ReferenceIdeal.Gen
open Idealize.ShloMosaic
open Idealize.ShloMosaic.TcCoe Idealize.SL.Sem Idealize.ShloMosaic.StableHlo

/-- The rows kept under the mask. -/
def ptR (M : IVec S256x16x32 1) (R : FVec Ideal S256x16x32 .f32) : FVec Ideal S256x16x32 .f32 :=
  select M R (broadcastInDim S256x16x32 ![] bcast_S_S256x16x32 (constant S_ .f32 0x00000000#32 : FVec Ideal S_ .f32))

theorem pt_eq (V : Valuation τ sig (Elt Ideal)) : w V main_v33 = ptR (w V main_arg3) (w V main_v32) := by
  rw [e_v33, e_call1_v1, e_call1_v0, e_cst_5]
  rfl

theorem ptR_at (M : IVec S256x16x32 1) (R : FVec Ideal S256x16x32 .f32) (b : Fin 256) (q : Fin 16) (k : Fin 32) :
    ptR M R (ix3 b q k) = if M (ix3 b q k) = 1#1 then R (ix3 b q k) else 0 := by
  have z : Ideal.ofBits .f32 0x00000000#32 = 0 := by simp [Ideal.ofBits, Ideal.ieee]
  rw [← z]
  rfl

end Cert.Proof.Ref

namespace Cert.Proof.KernelIdeal

open Cert.KernelIdeal Cert.KernelIdeal.Gen
open Idealize.ShloMosaic
open Cert.Proof.Row

theorem at3_ix {A B C : ℕ} (a : Fin A) (b : Fin B) (c : Fin C) : at3 a b c = ix3 a b c := at3_ext rfl rfl rfl

attribute [local irreducible] ptOf confOf lossOf Ref.takeR Ref.ptR Ref.confR Ref.newR Ref.lossR

variable (M : IVec S256x16x32 1) (L R : FVec Ideal S256x16x32 .f32) (D : IVec S256x32 32)

theorem pt_same : ptOf (F := Ideal) (uitofp .f32 M : FVec Ideal S256x16x32 .f32) R = Ref.ptR M R := by
  funext i
  obtain ⟨b, q, k, rfl⟩ : ∃ b q k, i = (ix3 b q k : S256x16x32.Idx) := ⟨i 0, i 1, i 2, eq_ix3 i⟩
  refine (ptOf_at _ _ b q k).trans (Eq.trans ?_ (Ref.ptR_at M R b q k).symm)
  exact mask_mul _ _

theorem conf_same : confOf (F := Ideal) L (uitofp .f32 M : FVec Ideal S256x16x32 .f32) = Ref.confR L M := by
  funext i
  obtain ⟨b, q, k, rfl⟩ : ∃ b q k, i = (ix3 b q k : S256x16x32.Idx) := ⟨i 0, i 1, i 2, eq_ix3 i⟩
  exact (confOf_at L M b q k).trans (Ref.conf_at L M b q k).symm

/-- The looked-up rows are the gathered ones. -/
theorem take_same (f : FVec Ideal S100000x16x32 .f32) (x : IVec S256 32) (n : Fin 256 → Fin 100000) (h : ∀ b, (x (ix1 b)).toNat = (n b).val) :
    Ref.takeR f x = gath (F := Ideal) n f := by
  funext i
  obtain ⟨b, q, k, rfl⟩ : ∃ b q k, i = (ix3 b q k : S256x16x32.Idx) := ⟨i 0, i 1, i 2, eq_ix3 i⟩
  refine (Ref.take_at f x b q k (n b) (h b)).trans ?_
  exact congrArg f (at3_ix (n b) q k).symm

/-- The labels as floats over the queries. -/
abbrev detK : FVec Ideal S256x16x32 .f32 := broadcastInDim S256x16x32 ![0, 1, 2] bcast_S256x1x32_S256x16x32_0_1_2
    (broadcastInDim S256x1x32 ![0, 2] bcast_S256x32_S256x1x32_0_2 (sitofp .f32 D : FVec Ideal S256x32 .f32))

theorem det_at (b : Fin 256) (q : Fin 16) (k : Fin 32) : k2_pay4 (F := Ideal) (detK D) (ix3 b q k) = (((D (ix2 b k)).toInt : ℝ) : EReal) := by
  pointwise [k2_pay4]
  rfl
theorem mask_at (b : Fin 256) (q : Fin 16) (k : Fin 32) :
    k2_pay3 (F := Ideal) (uitofp .f32 M : FVec Ideal S256x16x32 .f32) (ix3 b q k) = (FloatOps.uitofp .f32 (M (ix3 b q k)) : Ideal .f32) := by
  pointwise [k2_pay3]

theorem new_same : newRows (F := Ideal) L (uitofp .f32 M : FVec Ideal S256x16x32 .f32) (detK D) R = Ref.newR (Ref.confR L M) M D R := by
  funext i
  obtain ⟨b, q, k, rfl⟩ : ∃ b q k, i = (ix3 b q k : S256x16x32.Idx) := ⟨i 0, i 1, i 2, eq_ix3 i⟩
  obtain ⟨a, ha, hr⟩ := Ref.arg_at (Ref.confR L M) b q
  refine Eq.trans ?_ (Ref.new_at (Ref.confR L M) M D R b q k a hr).symm
  exact pay10_at _ _ R _ _ _ (fun x => Ref.confR L M (ix3 b q x)) (fun x => M (ix3 b q x)) (fun x => D (ix2 b x)) b q k a
    (fun x => (conf9_at L M b q x).trans (Ref.conf_at L M b q x).symm) ha (fun x => mask_at M b q x) (fun x => det_at D b q x)

/-- The loss, where the logit and the rows are real numbers. -/
theorem loss_same (hL : ∀ b q k, ∃ r : ℝ, L (ix3 b q k) = (r : EReal)) (hR : ∀ b q k, ∃ r : ℝ, R (ix3 b q k) = (r : EReal)) :
    (shapeCast S_ (lossOf (F := Ideal) L (uitofp .f32 M : FVec Ideal S256x16x32 .f32) R : FVec Ideal S1x1 .f32) shapeCasts_S1x1_S_ : FVec Ideal S_ .f32)
      = Ref.lossR (Ref.ptR M R) L M := by
  funext i
  refine Eq.trans ?_ (Ref.loss_at (Ref.ptR M R) L M i).symm
  refine (lossOf_at L R M _).trans ?_
  refine congrArg (fun s => Ideal.div s _) ?_
  refine (neg_sums _ fun x y k => ?_).trans ?_
  · obtain ⟨l, hl⟩ := hL x y k
    obtain ⟨r, hr⟩ := hR x y k
    rw [mask_mul, hl, hr]
    split
    · exact ⟨r * l, (EReal.coe_mul r l).symm⟩
    · exact ⟨0, zero_mul _⟩
  · refine Finset.sum_congr rfl fun x _ => Finset.sum_congr rfl fun y _ => congrArg Neg.neg (Finset.sum_congr rfl fun k _ => ?_)
    exact congrArg (· * L (ix3 x y k)) ((mask_mul _ _).trans (Ref.ptR_at M R x y k).symm)

/-- The memory with its rows put back. -/
theorem mem_same (f : FVec Ideal S100000x16x32 .f32) (x : IVec S256 32) (n : Fin 256 → Fin 100000) (hn : Function.Injective n)
    (h : ∀ b, (x (ix1 b)).toNat = (n b).val) (u : FVec Ideal S256x16x32 .f32) :
    Host.scatter Cert.ReferenceIdeal.scatter_S100000x16x32_S256x1_S256x16x32_12_0_0_1 (fun _ b => b) f (Ref.look x) u = scat (F := Ideal) n f u := by
  have hx : ∀ b, (Ref.look x (ix2 b 0)).toInt = (n b).val := fun b => by
    have hlt : (x (ix1 b)).toNat < 100000 := by rw [h]; exact (n b).isLt
    rw [Ref.look_at x b 0 hlt, Ref.toInt_small hlt, h]
  funext i
  obtain ⟨r, q, k, rfl⟩ : ∃ r q k, i = (ix3 r q k : S100000x16x32.Idx) := ⟨i 0, i 1, i 2, eq_ix3 i⟩
  by_cases hr : ∃ b, n b = r
  · obtain ⟨b, rfl⟩ := hr
    refine (Ref.scatter_hit f (Ref.look x) u n hn hx b q k).trans (Eq.trans ?_ (scat_of_eq (F := Ideal) hn f u (ix3 (n b) q k) b rfl).symm)
    exact congrArg u (at3_ix b q k).symm
  · have hr : ∀ b, n b ≠ r := fun b e => hr ⟨b, e⟩
    exact (Ref.scatter_miss f (Ref.look x) u n hx r hr q k).trans (scat_of_ne (F := Ideal) f u (ix3 r q k) hr).symm

end Cert.Proof.KernelIdeal

end
-- ==== Proof.Algebraic.lean ====
/-
  The ideal kernel computes the reference: its five results are the reference's, and both keep their arguments.
-/
module

public import proofs.«01_k».proof.Proof.Frames
public import proofs.«01_k».proof.Proof.PreInputs
public import proofs.«01_k».proof.Proof.Value.Out
public import proofs.«01_k».proof.Proof.Value.EqLogit
public import proofs.«01_k».proof.Proof.Value.EqRows

@[expose] public section

set_option Elab.async false

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_rows_ok.Gen.facts

/-- The ideal kernel's frame under the inputs' condition. -/
theorem ideal_frame_inputs : quiescent_KernelIdeal_pre_inputs_ok := fun m g h =>
  KernelIdeal.run_frame m (fun c => (Pre.inputs_of (h c)).1.row) g (fun c => (Pre.inputs_of (h c)).1.row_inj)
    (fun c => KernelIdeal.words_of_mem m c _ (Pre.inputs_of (h c)).1.words)

/-- The reference's frame under the inputs' condition. -/
theorem reference_frame_inputs : quiescent_ReferenceIdeal_pre_inputs_ok := fun m g _ => reference_frame m g trivial

section Results

open Cert.KernelIdeal Cert.Proof.KernelIdeal

attribute [local irreducible] ptOf confOf lossOf newRows lg scat gath Ref.takeR Ref.ptR Ref.confR Ref.newR Ref.lossR Ref.look

variable (m : (ℓ : Loc nD τ sig) → Buf (Elt Ideal) ℓ) (n : Dev nD → Fin 256 → Fin 100000) (c : Dev nD)
  (V : Valuation Cert.ReferenceIdeal.τ Cert.ReferenceIdeal.sig (Elt Ideal))

/-- The kernel's row list as launched. -/
abbrev X1 : IVec S256 32 := m ((c.tc : Thread nD τ).loc main_arg1)

/-- What the two programs' inputs share, and what they satisfy. -/
structure Same : Prop where
  a0 : Ref.w V Cert.ReferenceIdeal.main_arg0 = X0 m c
  a1 : Ref.w V Cert.ReferenceIdeal.main_arg1 = X1 m c
  a2 : Ref.w V Cert.ReferenceIdeal.main_arg2 = X2 m c
  a3 : Ref.w V Cert.ReferenceIdeal.main_arg3 = X3 m c
  a4 : Ref.w V Cert.ReferenceIdeal.main_arg4 = X4 m c
  row : ∀ b, (X1 m c (ix1 b)).toNat = (n c b).val
  inj : Function.Injective (n c)
  fin0 : ∀ i, Pre.Fin' (X0 m c i)
  fin4 : ∀ i, Pre.Fin' (X4 m c i)

variable {m n c V} (s : Same m n c V)
include s

theorem Same.logit : Ref.w V Cert.ReferenceIdeal.main_v31 = lg m c :=
  logit_same m c (fun a b q k => (X0 m c (ix4 a b q k)).toReal) (fun _ _ _ _ => (EReal.coe_toReal (s.fin0 _).1 (s.fin0 _).2).symm) V s.a0

theorem Same.logit_real (b : Fin 256) (q : Fin 16) (k : Fin 32) : ∃ r : ℝ, lg m c (ix3 b q k) = (r : EReal) :=
  ⟨_, lg_real m c (fun a b q k => (X0 m c (ix4 a b q k)).toReal) (fun _ _ _ _ => (EReal.coe_toReal (s.fin0 _).1 (s.fin0 _).2).symm) b q k⟩

theorem Same.rows_real (b : Fin 256) (q : Fin 16) (k : Fin 32) : ∃ r : ℝ, rows m n c (ix3 b q k) = (r : EReal) := by
  refine ⟨(X4 m c (at3 (n c b) q k)).toReal, ?_⟩
  unfold rows gath
  exact (EReal.coe_toReal (s.fin4 _).1 (s.fin4 _).2).symm

theorem Same.take : Ref.takeR (X4 m c) (X1 m c) = rows m n c := take_same (X4 m c) (X1 m c) (n c) s.row

theorem Same.pt : Ref.w V Cert.ReferenceIdeal.main_v33 = Ref.ptR (X3 m c) (rows m n c) := by
  refine (Ref.pt_eq V).trans ?_
  rw [Ref.take_eq, s.a1, s.a3, s.a4, s.take]

theorem Same.conf : Ref.w V Cert.ReferenceIdeal.main_v58 = Ref.confR (lg m c) (X3 m c) := by
  refine (Ref.conf_eq V).trans ?_
  rw [s.logit, s.a3]

theorem Same.res0 : Ref.w V Cert.ReferenceIdeal.main_v45 = U7 m n c main_v0_0 := by
  rw [out0]
  refine (Ref.loss_eq V).trans (Eq.trans ?_ (loss_same (X3 m c) (lg m c) (rows m n c) s.logit_real s.rows_real).symm)
  rw [s.pt, s.logit, s.a3]
theorem Same.res1 : Ref.w V Cert.ReferenceIdeal.main_v31 = U7 m n c main_v0_1 := s.logit.trans (out1 m n c).symm
theorem Same.res2 : Ref.w V Cert.ReferenceIdeal.main_v33 = U7 m n c main_v0_2 :=
  s.pt.trans ((pt_same (X3 m c) (rows m n c)).symm.trans (out2 m n c).symm)
theorem Same.res3 : Ref.w V Cert.ReferenceIdeal.main_v58 = U7 m n c main_v0_3 :=
  s.conf.trans ((conf_same (X3 m c) (lg m c)).symm.trans (out3 m n c).symm)
theorem Same.new : Ref.w V Cert.ReferenceIdeal.main_v75 = newRows (F := Ideal) (lg m c) (KernelIdeal.mk m c) (dt m c) (rows m n c) := by
  refine (Ref.new_eq V).trans (Eq.trans ?_ (new_same (X3 m c) (lg m c) (rows m n c) (X2 m c)).symm)
  rw [Ref.take_eq', s.conf, s.a1, s.a2, s.a3, s.a4, s.take]
theorem Same.res4 : Ref.w V Cert.ReferenceIdeal.main_v82 = U7 m n c main_v0_4 := by
  rw [out4]
  refine (Ref.e_v82 V).trans ?_
  rw [s.new, Ref.look_eq, s.a1, s.a4]
  exact mem_same (X4 m c) (X1 m c) (n c) s.inj s.row _

end Results

/-- The ideal kernel and the reference end with the same results. -/
theorem equal : algebraic_KernelIdeal_ReferenceIdeal_pre_inputs_ok := fun m g m' g' h e => by
  let n : Dev Cert.KernelIdeal.nD → Fin 256 → Fin 100000 := fun c => (Pre.inputs_of (h c)).1.row
  have s : ∀ c : Dev Cert.KernelIdeal.nD, Same m n c (StableHlo.launchContents m' c) := fun c =>
    { a0 := (Ref.w_arg (StableHlo.launchContents m' c) (x := Cert.ReferenceIdeal.main_arg0) (by decide)).trans (e c).1
      a1 := (Ref.w_arg (StableHlo.launchContents m' c) (x := Cert.ReferenceIdeal.main_arg1) (by decide)).trans (e c).2.1
      a2 := (Ref.w_arg (StableHlo.launchContents m' c) (x := Cert.ReferenceIdeal.main_arg2) (by decide)).trans (e c).2.2.1
      a3 := (Ref.w_arg (StableHlo.launchContents m' c) (x := Cert.ReferenceIdeal.main_arg3) (by decide)).trans (e c).2.2.2.1
      a4 := (Ref.w_arg (StableHlo.launchContents m' c) (x := Cert.ReferenceIdeal.main_arg4) (by decide)).trans (e c).2.2.2.2
      row := fun b => (Pre.inputs_of (h c)).1.words (ix1 b)
      inj := (Pre.inputs_of (h c)).1.row_inj
      fin0 := (Pre.inputs_of (h c)).2.1
      fin4 := (Pre.inputs_of (h c)).2.2 }
  refine ⟨fun c => KernelIdeal.U7 m n c Cert.KernelIdeal.main_v0_0, fun c => KernelIdeal.U7 m n c Cert.KernelIdeal.main_v0_1,
    fun c => KernelIdeal.U7 m n c Cert.KernelIdeal.main_v0_2, fun c => KernelIdeal.U7 m n c Cert.KernelIdeal.main_v0_3,
    fun c => KernelIdeal.U7 m n c Cert.KernelIdeal.main_v0_4, ?_, ?_⟩
  · refine (θ_run _ _ _).mono (fun r hh c => ?_) (KernelIdeal.run m n g (fun c => (Pre.inputs_of (h c)).1.row_inj)
      (fun c => KernelIdeal.words_of_mem m c _ (Pre.inputs_of (h c)).1.words))
    exact ⟨hh.1 c (Proc.devRef .tc Cert.KernelIdeal.main_v0_0) (KernelIdeal.mem_uc _ rfl),
      hh.1 c (Proc.devRef .tc Cert.KernelIdeal.main_v0_1) (KernelIdeal.mem_uc _ rfl),
      hh.1 c (Proc.devRef .tc Cert.KernelIdeal.main_v0_2) (KernelIdeal.mem_uc _ rfl),
      hh.1 c (Proc.devRef .tc Cert.KernelIdeal.main_v0_3) (KernelIdeal.mem_uc _ rfl),
      hh.1 c (Proc.devRef .tc Cert.KernelIdeal.main_v0_4) (KernelIdeal.mem_uc _ rfl),
      (hh.1 c (Proc.devRef .tc Cert.KernelIdeal.main_arg0) (KernelIdeal.mem_uc _ rfl)).trans (KernelIdeal.arg_kept m n c _ (Cert.KernelIdeal.Gen.V7_main_arg0 m (KernelIdeal.outs m n) c)),
      (hh.1 c (Proc.devRef .tc Cert.KernelIdeal.main_arg1) (KernelIdeal.mem_uc _ rfl)).trans (KernelIdeal.arg_kept m n c _ (Cert.KernelIdeal.Gen.V7_main_arg1 m (KernelIdeal.outs m n) c)),
      (hh.1 c (Proc.devRef .tc Cert.KernelIdeal.main_arg2) (KernelIdeal.mem_uc _ rfl)).trans (KernelIdeal.arg_kept m n c _ (Cert.KernelIdeal.Gen.V7_main_arg2 m (KernelIdeal.outs m n) c)),
      (hh.1 c (Proc.devRef .tc Cert.KernelIdeal.main_arg3) (KernelIdeal.mem_uc _ rfl)).trans (KernelIdeal.arg_kept m n c _ (Cert.KernelIdeal.Gen.V7_main_arg3 m (KernelIdeal.outs m n) c)),
      (hh.1 c (Proc.devRef .tc Cert.KernelIdeal.main_arg4) (KernelIdeal.mem_uc _ rfl)).trans (KernelIdeal.arg_kept m n c _ (Cert.KernelIdeal.Gen.V7_main_arg4 m (KernelIdeal.outs m n) c))⟩
  · refine (θ_run _ _ _).mono (fun r hh c => ?_) (Ref.run m' g')
    exact ⟨(hh c Cert.ReferenceIdeal.main_v45).trans (s c).res0, (hh c Cert.ReferenceIdeal.main_v31).trans (s c).res1,
      (hh c Cert.ReferenceIdeal.main_v33).trans (s c).res2, (hh c Cert.ReferenceIdeal.main_v58).trans (s c).res3,
      (hh c Cert.ReferenceIdeal.main_v82).trans (s c).res4,
      (hh c Cert.ReferenceIdeal.main_arg0).trans (Ref.w_arg (StableHlo.launchContents m' c) (x := Cert.ReferenceIdeal.main_arg0) (by decide)),
      (hh c Cert.ReferenceIdeal.main_arg1).trans (Ref.w_arg (StableHlo.launchContents m' c) (x := Cert.ReferenceIdeal.main_arg1) (by decide)),
      (hh c Cert.ReferenceIdeal.main_arg2).trans (Ref.w_arg (StableHlo.launchContents m' c) (x := Cert.ReferenceIdeal.main_arg2) (by decide)),
      (hh c Cert.ReferenceIdeal.main_arg3).trans (Ref.w_arg (StableHlo.launchContents m' c) (x := Cert.ReferenceIdeal.main_arg3) (by decide)),
      (hh c Cert.ReferenceIdeal.main_arg4).trans (Ref.w_arg (StableHlo.launchContents m' c) (x := Cert.ReferenceIdeal.main_arg4) (by decide))⟩

end Cert.Proof

end
-- ==== Proof.lean ====
module

public import proofs.«01_k».proof.Defs
public import proofs.«01_k».proof.Proof.Frames
public import proofs.«01_k».proof.Proof.Algebraic

@[expose] public section

noncomputable section

namespace Cert.Proof

/-- The claims, from the modules that prove them. -/
theorem claim : Cert.Claim :=
  ⟨Cert.Kernel.Gen.facts, Cert.KernelIdeal.Gen.facts, Cert.ReferenceIdeal.Gen.facts, Cert.Pre_rows_ok.Gen.facts, Pre.inputsFacts,
    kernel_frame, ideal_frame, ideal_frame_inputs, reference_frame, reference_frame_inputs, preserved, equal⟩

end Cert.Proof

end
